-- ==== Defs.lean ====
def Pre_Kernel [hPre_pages : Cert.Pre_pages.Facts] (m : (ℓ : Loc Cert.Kernel.nD Cert.Kernel.τ Cert.Kernel.sig) → Buf (Elt Bits) ℓ) : Prop :=
  ∀ c : Dev Cert.Kernel.nD,
    (Cert.Pre_pages.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_pages : Cert.Pre_pages.Facts] (m : (ℓ : Loc Cert.KernelIdeal.nD Cert.KernelIdeal.τ Cert.KernelIdeal.sig) → Buf (Elt Ideal) ℓ) : Prop :=
  ∀ c : Dev Cert.KernelIdeal.nD,
    (Cert.Pre_pages.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_gated [hPre_gated : Cert.Pre_gated.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_gated.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_gated [hPre_gated : Cert.Pre_gated.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_gated.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))) = (fun _ => 1#1)

def quiescent_Kernel [hKernel : Cert.Kernel.Facts] [hPre_pages : Cert.Pre_pages.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_pages : Cert.Pre_pages.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Kernel3Ideal_pre_gated [hKernel3Ideal : Cert.Kernel3Ideal.Facts] [hPre_gated : Cert.Pre_gated.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_gated m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3Ideal_pre_gated [hReference3Ideal : Cert.Reference3Ideal.Facts] [hPre_gated : Cert.Pre_gated.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_gated m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_gated [hKernel3Ideal : Cert.Kernel3Ideal.Facts] [hReference3Ideal : Cert.Reference3Ideal.Facts] [hPre_gated : Cert.Pre_gated.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_gated m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v81)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v81) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_pages : Cert.Pre_pages.Facts) (hPre_tame : Cert.Pre_tame.Facts) (hPre_gated : Cert.Pre_gated.Facts),
    quiescent_Kernel (hKernel := hKernel) (hPre_pages := hPre_pages)
    ∧ quiescent_KernelIdeal (hKernelIdeal := hKernelIdeal) (hPre_pages := hPre_pages)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_gated (hKernel3Ideal := hKernel3Ideal) (hPre_gated := hPre_gated)
    ∧ quiescent_Reference3Ideal (hReference3Ideal := hReference3Ideal)
    ∧ quiescent_Reference3Ideal_pre_gated (hReference3Ideal := hReference3Ideal) (hPre_gated := hPre_gated)
    ∧ preserves_Kernel_KernelIdeal
    ∧ algebraic_KernelIdeal_ReferenceIdeal_pre_tame (hKernelIdeal := hKernelIdeal) (hReferenceIdeal := hReferenceIdeal) (hPre_tame := hPre_tame)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_gated (hKernel3Ideal := hKernel3Ideal) (hReference3Ideal := hReference3Ideal) (hPre_gated := hPre_gated)
-- ==== Pre_gated.lean ====
abbrev S4x4096x1024 : Shape := ⟨3, ![4, 4096, 1024]⟩
abbrev S4x4096x512 : Shape := ⟨3, ![4, 4096, 512]⟩
abbrev S4x4096x128 : Shape := ⟨3, ![4, 4096, 128]⟩
abbrev S4x1x1024 : Shape := ⟨3, ![4, 1, 1024]⟩
abbrev S1024x1024 : Shape := ⟨2, ![1024, 1024]⟩
abbrev S1024x5632 : Shape := ⟨2, ![1024, 5632]⟩
abbrev S2816x1024 : Shape := ⟨2, ![2816, 1024]⟩
abbrev S4x4096x24 : Shape := ⟨3, ![4, 4096, 24]⟩
abbrev S_ : Shape := ⟨0, ![]⟩

class Facts : Prop where
  slices_S4x4096x128_S4x4096x24_0_0_32 : S4x4096x128.Slices ![0, 0, 32] S4x4096x24
  bcast_S_S4x4096x24 : S_.BroadcastsInDim S4x4096x24 (![] : Fin 0 → Fin S4x4096x24.rank)
  reducesTo_S4x4096x24_S_d0_1_2 : S4x4096x24.ReducesTo [0, 1, 2] S_
  h_S_ : 0 < S_.numel

variable [Facts]

def fn {F : FTy → Type} [FloatOps F] (main_arg0 : FVec F S4x4096x1024 .f32) (main_arg1 : FVec F S4x4096x512 .bf16) (main_arg2 : FVec F S4x4096x512 .bf16) (main_arg3 : FVec F S4x4096x512 .bf16) (main_arg4 : FVec F S4x4096x512 .bf16) (main_arg5 : FVec F S4x4096x128 .f32) (main_arg6 : FVec F S4x1x1024 .f32) (main_arg7 : FVec F S4x1x1024 .f32) (main_arg8 : FVec F S4x1x1024 .f32) (main_arg9 : FVec F S4x1x1024 .f32) (main_arg10 : FVec F S1024x1024 .f32) (main_arg11 : FVec F S1024x5632 .f32) (main_arg12 : FVec F S2816x1024 .f32) : IVec S_ 1 :=
  let main_v0 : FVec F S4x4096x24 .f32 := (extractStridedSlice S4x4096x24 ![0, 0, 32] · slices_S4x4096x128_S4x4096x24_0_0_32) main_arg5
  let main_v1 : FVec F S4x4096x24 .f32 := Host.absf main_v0
  let main_cst : FVec F S_ .f32 := constant S_ .f32 0x7F800000#32
  let main_v2 : FVec F S4x4096x24 .f32 := broadcastInDim S4x4096x24 ![] bcast_S_S4x4096x24 main_cst
  let main_v3 : IVec S4x4096x24 1 := cmpf .olt main_v1 main_v2
  let main_c : IVec S_ 1 := constantI S_ 1 1#1
  let main_v4 : IVec S_ 1 := (fun x v => Host.reduce IntOp.andi x v reducesTo_S4x4096x24_S_d0_1_2 h_S_) main_v3 main_c
  main_v4
-- ==== Pre_pages.lean ====
abbrev S128x64 : Shape := ⟨2, ![128, 64]⟩
abbrev S128x4x8x288 : Shape := ⟨4, ![128, 4, 8, 288]⟩
abbrev S10240x128x288 : Shape := ⟨3, ![10240, 128, 288]⟩
abbrev S128x4x288 : Shape := ⟨3, ![128, 4, 288]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel

variable [Facts]

def fn {F : FTy → Type} [FloatOps F] (main_arg0 : IVec S128x64 32) (main_arg1 : FVec F S128x4x8x288 .bf16) (main_arg2 : FVec F S10240x128x288 .f32) (main_arg3 : FVec F S128x4x288 .f32) : IVec S_ 1 :=
  let main_c : IVec S_ 32 := constantI S_ 32 0#32
  let main_v0 : IVec S128x64 32 := broadcastInDim S128x64 ![] bcast_S_S128x64 main_c
  let main_v1 : IVec S128x64 1 := cmpi .sge main_arg0 main_v0
  let main_c_0 : IVec S_ 32 := constantI S_ 32 10240#32
  let main_v2 : IVec S128x64 32 := broadcastInDim S128x64 ![] bcast_S_S128x64 main_c_0
  let main_v3 : IVec S128x64 1 := cmpi .slt main_arg0 main_v2
  let main_v4 : IVec S128x64 1 := andi main_v1 main_v3
  let main_c_1 : IVec S_ 1 := constantI S_ 1 1#1
  let main_v5 : IVec S_ 1 := (fun x v => Host.reduce IntOp.andi x v reducesTo_S128x64_S_d0_1 h_S_) main_v4 main_c_1
  main_v5
-- ==== Pre_tame.lean ====
abbrev S128x64 : Shape := ⟨2, ![128, 64]⟩
abbrev S128x4x8x288 : Shape := ⟨4, ![128, 4, 8, 288]⟩
abbrev S10240x128x288 : Shape := ⟨3, ![10240, 128, 288]⟩
abbrev S128x4x288 : Shape := ⟨3, ![128, 4, 288]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel
  bcast_S_S128x4x8x288 : S_.BroadcastsInDim S128x4x8x288 (![] : Fin 0 → Fin S128x4x8x288.rank)
  reducesTo_S128x4x8x288_S_d0_1_2_3 : S128x4x8x288.ReducesTo [0, 1, 2, 3] S_
  bcast_S_S10240x128x288 : S_.BroadcastsInDim S10240x128x288 (![] : Fin 0 → Fin S10240x128x288.rank)
  reducesTo_S10240x128x288_S_d0_1_2 : S10240x128x288.ReducesTo [0, 1, 2] S_
  bcast_S_S128x4x288 : S_.BroadcastsInDim S128x4x288 (![] : Fin 0 → Fin S128x4x288.rank)
  reducesTo_S128x4x288_S_d0_1_2 : S128x4x288.ReducesTo [0, 1, 2] S_

variable [Facts]

def fn_part1 {F : FTy → Type} [FloatOps F] (main_v15 : IVec S_ 1) (main_v16 : FVec F S128x4x288 .f32) : IVec S_ 1 :=
  let main_cst_5 : FVec F S_ .f32 := constant S_ .f32 0x7F800000#32
  let main_v17 : FVec F S128x4x288 .f32 := broadcastInDim S128x4x288 ![] bcast_S_S128x4x288 main_cst_5
  let main_v18 : IVec S128x4x288 1 := cmpf .olt main_v16 main_v17
  let main_c_6 : IVec S_ 1 := constantI S_ 1 1#1
  let main_v19 : IVec S_ 1 := (fun x v => Host.reduce IntOp.andi x v reducesTo_S128x4x288_S_d0_1_2 h_S_) main_v18 main_c_6
  let main_v20 : IVec S_ 1 := andi main_v15 main_v19
  main_v20

def fn {F : FTy → Type} [FloatOps F] (main_arg0 : IVec S128x64 32) (main_arg1 : FVec F S128x4x8x288 .bf16) (main_arg2 : FVec F S10240x128x288 .f32) (main_arg3 : FVec F S128x4x288 .f32) : IVec S_ 1 :=
  let main_c : IVec S_ 32 := constantI S_ 32 0#32
  let main_v0 : IVec S128x64 32 := broadcastInDim S128x64 ![] bcast_S_S128x64 main_c
  let main_v1 : IVec S128x64 1 := cmpi .sge main_arg0 main_v0
  let main_c_0 : IVec S_ 32 := constantI S_ 32 10240#32
  let main_v2 : IVec S128x64 32 := broadcastInDim S128x64 ![] bcast_S_S128x64 main_c_0
  let main_v3 : IVec S128x64 1 := cmpi .slt main_arg0 main_v2
  let main_v4 : IVec S128x64 1 := andi main_v1 main_v3
  let main_c_1 : IVec S_ 1 := constantI S_ 1 1#1
  let main_v5 : IVec S_ 1 := (fun x v => Host.reduce IntOp.andi x v reducesTo_S128x64_S_d0_1 h_S_) main_v4 main_c_1
  let main_v6 : FVec F S128x4x8x288 .bf16 := Host.absf main_arg1
  let main_cst : FVec F S_ .bf16 := constant S_ .bf16 0x7F80#16
  let main_v7 : FVec F S128x4x8x288 .bf16 := broadcastInDim S128x4x8x288 ![] bcast_S_S128x4x8x288 main_cst
  let main_v8 : IVec S128x4x8x288 1 := cmpf .olt main_v6 main_v7
  let main_c_2 : IVec S_ 1 := constantI S_ 1 1#1
  let main_v9 : IVec S_ 1 := (fun x v => Host.reduce IntOp.andi x v reducesTo_S128x4x8x288_S_d0_1_2_3 h_S_) main_v8 main_c_2
  let main_v10 : IVec S_ 1 := andi main_v5 main_v9
  let main_v11 : FVec F S10240x128x288 .f32 := Host.absf main_arg2
  let main_cst_3 : FVec F S_ .f32 := constant S_ .f32 0x7F800000#32
  let main_v12 : FVec F S10240x128x288 .f32 := broadcastInDim S10240x128x288 ![] bcast_S_S10240x128x288 main_cst_3
  let main_v13 : IVec S10240x128x288 1 := cmpf .olt main_v11 main_v12
  let main_c_4 : IVec S_ 1 := constantI S_ 1 1#1
  let main_v14 : IVec S_ 1 := (fun x v => Host.reduce IntOp.andi x v reducesTo_S10240x128x288_S_d0_1_2 h_S_) main_v13 main_c_4
  let main_v15 : IVec S_ 1 := andi main_v10 main_v14
  let main_v16 : FVec F S128x4x288 .f32 := Host.absf main_arg3
  fn_part1 (F := F) main_v15 main_v16
-- ==== Kernel.lean ====
abbrev S128x64 : Shape := ⟨2, ![128, 64]⟩
abbrev S128x4x8x288 : Shape := ⟨4, ![128, 4, 8, 288]⟩
abbrev S10240x128x288 : Shape := ⟨3, ![10240, 128, 288]⟩
abbrev S128x4x288 : Shape := ⟨3, ![128, 4, 288]⟩
abbrev S8 : Shape := ⟨1, ![8]⟩
abbrev S128x32x288 : Shape := ⟨3, ![128, 32, 288]⟩
abbrev S_ : Shape := ⟨0, ![]⟩
abbrev S128x8x288 : Shape := ⟨3, ![128, 8, 288]⟩
abbrev S4 : Shape := ⟨1, ![4]⟩
abbrev S4x8 : Shape := ⟨2, ![4, 8]⟩
abbrev S32 : Shape := ⟨1, ![32]⟩
abbrev S32x1 : Shape := ⟨2, ![32, 1]⟩
abbrev S1x8 : Shape := ⟨2, ![1, 8]⟩
abbrev S32x8 : Shape := ⟨2, ![32, 8]⟩
abbrev S10240x288x128 : Shape := ⟨3, ![10240, 288, 128]⟩
abbrev S128x32x256 : Shape := ⟨3, ![128, 32, 256]⟩
abbrev S1x32x288 : Shape := ⟨3, ![1, 32, 288]⟩
abbrev S1x288x128 : Shape := ⟨3, ![1, 288, 128]⟩
abbrev S1x1 : Shape := ⟨2, ![1, 1]⟩
abbrev S1x8x288 : Shape := ⟨3, ![1, 8, 288]⟩
abbrev S1x32x256 : Shape := ⟨3, ![1, 32, 256]⟩
abbrev S1x32x1 : Shape := ⟨3, ![1, 32, 1]⟩
abbrev S32x288 : Shape := ⟨2, ![32, 288]⟩
abbrev S288x128 : Shape := ⟨2, ![288, 128]⟩
abbrev S32x128 : Shape := ⟨2, ![32, 128]⟩
abbrev S256x128 : Shape := ⟨2, ![256, 128]⟩
abbrev S32x256 : Shape := ⟨2, ![32, 256]⟩
abbrev S8x288 : Shape := ⟨2, ![8, 288]⟩
abbrev S8x256 : Shape := ⟨2, ![8, 256]⟩

abbrev nBuf : Space → Nat
  | .hbm => 25
  | .vmem => 42
  | .smem => 1
  | _ => 0

abbrev bufTy : (tb : Table) → Fin (tcTables nBuf tb) → BufTy
  | .hbm, ⟨0, _⟩ => ⟨S128x4x8x288, .bf16⟩
  | .hbm, ⟨1, _⟩ => ⟨S10240x128x288, .f32⟩
  | .hbm, ⟨2, _⟩ => ⟨S128x4x288, .f32⟩
  | .hbm, ⟨3, _⟩ => ⟨S8, .i32⟩
  | .hbm, ⟨4, _⟩ => ⟨S128x32x288, .bf16⟩
  | .hbm, ⟨5, _⟩ => ⟨S_, .i32⟩
  | .hbm, ⟨6, _⟩ => ⟨S_, .f32⟩
  | .hbm, ⟨7, _⟩ => ⟨S128x8x288, .f32⟩
  | .hbm, ⟨8, _⟩ => ⟨S4, .i32⟩
  | .hbm, ⟨9, _⟩ => ⟨S4x8, .i32⟩
  | .hbm, ⟨10, _⟩ => ⟨S32, .i32⟩
  | .hbm, ⟨11, _⟩ => ⟨S32x1, .i32⟩
  | .hbm, ⟨12, _⟩ => ⟨S1x8, .i32⟩
  | .hbm, ⟨13, _⟩ => ⟨S32x8, .i32⟩
  | .hbm, ⟨14, _⟩ => ⟨S32x8, .i32⟩
  | .hbm, ⟨15, _⟩ => ⟨S32x8, .i1⟩
  | .hbm, ⟨16, _⟩ => ⟨S1x8, .i32⟩
  | .hbm, ⟨17, _⟩ => ⟨S_, .i32⟩
  | .hbm, ⟨18, _⟩ => ⟨S1x8, .i32⟩
  | .hbm, ⟨19, _⟩ => ⟨S1x8, .i1⟩
  | .hbm, ⟨20, _⟩ => ⟨S32x8, .i1⟩
  | .hbm, ⟨21, _⟩ => ⟨S32x8, .i1⟩
  | .hbm, ⟨22, _⟩ => ⟨S32x8, .f32⟩
  | .hbm, ⟨23, _⟩ => ⟨S10240x288x128, .f32⟩
  | .hbm, ⟨24, _⟩ => ⟨S128x32x256, .bf16⟩
  | .local _ .vmem, ⟨0, _⟩ => ⟨S1x32x288, .bf16⟩
  | .local _ .vmem, ⟨1, _⟩ => ⟨S1x32x288, .bf16⟩
  | .local _ .vmem, ⟨2, _⟩ => ⟨S1x288x128, .f32⟩
  | .local _ .vmem, ⟨3, _⟩ => ⟨S1x288x128, .f32⟩
  | .local _ .vmem, ⟨4, _⟩ => ⟨S1x288x128, .f32⟩
  | .local _ .vmem, ⟨5, _⟩ => ⟨S1x288x128, .f32⟩
  | .local _ .vmem, ⟨6, _⟩ => ⟨S1x288x128, .f32⟩
  | .local _ .vmem, ⟨7, _⟩ => ⟨S1x288x128, .f32⟩
  | .local _ .vmem, ⟨8, _⟩ => ⟨S1x288x128, .f32⟩
  | .local _ .vmem, ⟨9, _⟩ => ⟨S1x288x128, .f32⟩
  | .local _ .vmem, ⟨10, _⟩ => ⟨S1x288x128, .f32⟩
  | .local _ .vmem, ⟨11, _⟩ => ⟨S1x288x128, .f32⟩
  | .local _ .vmem, ⟨12, _⟩ => ⟨S1x288x128, .f32⟩
  | .local _ .vmem, ⟨13, _⟩ => ⟨S1x288x128, .f32⟩
  | .local _ .vmem, ⟨14, _⟩ => ⟨S1x288x128, .f32⟩
  | .local _ .vmem, ⟨15, _⟩ => ⟨S1x288x128, .f32⟩
  | .local _ .vmem, ⟨16, _⟩ => ⟨S1x288x128, .f32⟩
  | .local _ .vmem, ⟨17, _⟩ => ⟨S1x288x128, .f32⟩
  | .local _ .vmem, ⟨18, _⟩ => ⟨S1x288x128, .f32⟩
  | .local _ .vmem, ⟨19, _⟩ => ⟨S1x288x128, .f32⟩
  | .local _ .vmem, ⟨20, _⟩ => ⟨S1x288x128, .f32⟩
  | .local _ .vmem, ⟨21, _⟩ => ⟨S1x288x128, .f32⟩
  | .local _ .vmem, ⟨22, _⟩ => ⟨S1x288x128, .f32⟩
  | .local _ .vmem, ⟨23, _⟩ => ⟨S1x288x128, .f32⟩
  | .local _ .vmem, ⟨24, _⟩ => ⟨S1x288x128, .f32⟩
  | .local _ .vmem, ⟨25, _⟩ => ⟨S1x288x128, .f32⟩
  | .local _ .vmem, ⟨26, _⟩ => ⟨S1x288x128, .f32⟩
  | .local _ .vmem, ⟨27, _⟩ => ⟨S1x288x128, .f32⟩
  | .local _ .vmem, ⟨28, _⟩ => ⟨S1x288x128, .f32⟩
  | .local _ .vmem, ⟨29, _⟩ => ⟨S1x288x128, .f32⟩
  | .local _ .vmem, ⟨30, _⟩ => ⟨S1x288x128, .f32⟩
  | .local _ .vmem, ⟨31, _⟩ => ⟨S1x288x128, .f32⟩
  | .local _ .vmem, ⟨32, _⟩ => ⟨S1x288x128, .f32⟩
  | .local _ .vmem, ⟨33, _⟩ => ⟨S1x288x128, .f32⟩
  | .local _ .vmem, ⟨34, _⟩ => ⟨S1x8x288, .f32⟩
  | .local _ .vmem, ⟨35, _⟩ => ⟨S1x8x288, .f32⟩
  | .local _ .vmem, ⟨36, _⟩ => ⟨S32x8, .f32⟩
  | .local _ .vmem, ⟨37, _⟩ => ⟨S1x32x256, .bf16⟩
  | .local _ .vmem, ⟨38, _⟩ => ⟨S1x32x256, .bf16⟩
  | .local _ .vmem, ⟨39, _⟩ => ⟨S1x32x1, .f32⟩
  | .local _ .vmem, ⟨40, _⟩ => ⟨S1x32x1, .f32⟩
  | .local _ .vmem, ⟨41, _⟩ => ⟨S1x32x256, .f32⟩
  | .local _ .smem, ⟨0, _⟩ => ⟨S128x64, .i32⟩
  | _, _ => ⟨S128x4x8x288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg19_0 : Ref sig .tc := ⟨.vmem, 37, rfl⟩
abbrev cc0_stg19_1 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem19_0 : DmaSem sig := 37
abbrev cc0_sem19_1 : DmaSem sig := 38

abbrev nD : Nat := 1
abbrev τ : Topo := Topo.v7x

variable {F : FTy → Type} [FloatOps F]

abbrev grid0 : Pipeline.Grid := ⟨2, ![128, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c16_i32 : BitVec 32 := 16#32
  let v0 : BitVec 32 := Scalar.muli arg1 c16_i32
  let v1 : BitVec 32 := Scalar.addi v0 c0_i32
  let v3 : Index := Scalar.indexCast v1
  ![v2.toNat, v3.toNat]
def k0_cond2 (i : grid0.Coords) : BitVec 1 :=
  let arg1 : BitVec 32 := BitVec.ofNat 32 (i 1).val
  let c3_i32 : BitVec 32 := 3#32
  let v297 : BitVec 1 := Scalar.cmpi .eq arg1 c3_i32
  let v298 : BitVec 32 := Scalar.extui v297
  let c0_i32_132 : BitVec 32 := 0#32
  let v299 : BitVec 1 := Scalar.cmpi .ne v298 c0_i32_132
  v299

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S128x64) ![v2.toNat, v3.toNat] S1x1.size (k0_off1_inb i 0)) numel1_S1x1
  let c0_i32_0 : BitVec 32 := 0#32
  let c0_i32_1 : BitVec 32 := 0#32
  let c0_i32_2 : BitVec 32 := 0#32
  ![v4.toNat, c0_i32_0.toNat, c0_i32_1.toNat]

def cc0_transform_2 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S128x64) ![v2.toNat, v3.toNat] S1x1.size (k0_off1_inb i 1)) numel1_S1x1
  let c0_i32 : BitVec 32 := 0#32
  let c0_i32_0 : BitVec 32 := 0#32
  let c0_i32_1 : BitVec 32 := 0#32
  ![v4.toNat, c0_i32.toNat, c0_i32_0.toNat]

def cc0_transform_3 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S128x64) ![v2.toNat, v3.toNat] S1x1.size (k0_off1_inb i 2)) numel1_S1x1
  let c0_i32 : BitVec 32 := 0#32
  let c0_i32_0 : BitVec 32 := 0#32
  let c0_i32_1 : BitVec 32 := 0#32
  ![v4.toNat, c0_i32.toNat, c0_i32_0.toNat]

def cc0_transform_4 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S128x64) ![v2.toNat, v3.toNat] S1x1.size (k0_off1_inb i 3)) numel1_S1x1
  let c0_i32 : BitVec 32 := 0#32
  let c0_i32_0 : BitVec 32 := 0#32
  let c0_i32_1 : BitVec 32 := 0#32
  ![v4.toNat, c0_i32.toNat, c0_i32_0.toNat]

def cc0_transform_5 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S128x64) ![v2.toNat, v3.toNat] S1x1.size (k0_off1_inb i 4)) numel1_S1x1
  let c0_i32 : BitVec 32 := 0#32
  let c0_i32_0 : BitVec 32 := 0#32
  let c0_i32_1 : BitVec 32 := 0#32
  ![v4.toNat, c0_i32.toNat, c0_i32_0.toNat]

def cc0_transform_6 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S128x64) ![v2.toNat, v3.toNat] S1x1.size (k0_off1_inb i 5)) numel1_S1x1
  let c0_i32 : BitVec 32 := 0#32
  let c0_i32_0 : BitVec 32 := 0#32
  let c0_i32_1 : BitVec 32 := 0#32
  ![v4.toNat, c0_i32.toNat, c0_i32_0.toNat]

def cc0_transform_7 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S128x64) ![v2.toNat, v3.toNat] S1x1.size (k0_off1_inb i 6)) numel1_S1x1
  let c0_i32 : BitVec 32 := 0#32
  let c0_i32_0 : BitVec 32 := 0#32
  let c0_i32_1 : BitVec 32 := 0#32
  ![v4.toNat, c0_i32.toNat, c0_i32_0.toNat]

def cc0_transform_8 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S128x64) ![v2.toNat, v3.toNat] S1x1.size (k0_off1_inb i 7)) numel1_S1x1
  let c0_i32 : BitVec 32 := 0#32
  let c0_i32_0 : BitVec 32 := 0#32
  let c0_i32_1 : BitVec 32 := 0#32
  ![v4.toNat, c0_i32.toNat, c0_i32_0.toNat]

def cc0_transform_9 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c8_i32 : BitVec 32 := 8#32
  let v1 : BitVec 32 := Scalar.addi v0 c8_i32
  let v2 : Index := Scalar.indexCast arg0
  let v3 : Index := Scalar.indexCast v1
  let v4 : BitVec 32 := pf.at 0 (Rect.unit (s := S128x64) ![v2.toNat, v3.toNat] S1x1.size (k0_off1_inb i 8)) numel1_S1x1
  let c0_i32 : BitVec 32 := 0#32
  let c0_i32_0 : BitVec 32 := 0#32
  let c0_i32_1 : BitVec 32 := 0#32
  ![v4.toNat, c0_i32.toNat, c0_i32_0.toNat]

def cc0_transform_10 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c9_i32 : BitVec 32 := 9#32
  let v1 : BitVec 32 := Scalar.addi v0 c9_i32
  let v2 : Index := Scalar.indexCast arg0
  let v3 : Index := Scalar.indexCast v1
  let v4 : BitVec 32 := pf.at 0 (Rect.unit (s := S128x64) ![v2.toNat, v3.toNat] S1x1.size (k0_off1_inb i 9)) numel1_S1x1
  let c0_i32 : BitVec 32 := 0#32
  let c0_i32_0 : BitVec 32 := 0#32
  let c0_i32_1 : BitVec 32 := 0#32
  ![v4.toNat, c0_i32.toNat, c0_i32_0.toNat]

def cc0_transform_11 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c10_i32 : BitVec 32 := 10#32
  let v1 : BitVec 32 := Scalar.addi v0 c10_i32
  let v2 : Index := Scalar.indexCast arg0
  let v3 : Index := Scalar.indexCast v1
  let v4 : BitVec 32 := pf.at 0 (Rect.unit (s := S128x64) ![v2.toNat, v3.toNat] S1x1.size (k0_off1_inb i 10)) numel1_S1x1
  let c0_i32 : BitVec 32 := 0#32
  let c0_i32_0 : BitVec 32 := 0#32
  let c0_i32_1 : BitVec 32 := 0#32
  ![v4.toNat, c0_i32.toNat, c0_i32_0.toNat]

def cc0_transform_12 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c11_i32 : BitVec 32 := 11#32
  let v1 : BitVec 32 := Scalar.addi v0 c11_i32
  let v2 : Index := Scalar.indexCast arg0
  let v3 : Index := Scalar.indexCast v1
  let v4 : BitVec 32 := pf.at 0 (Rect.unit (s := S128x64) ![v2.toNat, v3.toNat] S1x1.size (k0_off1_inb i 11)) numel1_S1x1
  let c0_i32 : BitVec 32 := 0#32
  let c0_i32_0 : BitVec 32 := 0#32
  let c0_i32_1 : BitVec 32 := 0#32
  ![v4.toNat, c0_i32.toNat, c0_i32_0.toNat]

def cc0_transform_13 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c12_i32 : BitVec 32 := 12#32
  let v1 : BitVec 32 := Scalar.addi v0 c12_i32
  let v2 : Index := Scalar.indexCast arg0
  let v3 : Index := Scalar.indexCast v1
  let v4 : BitVec 32 := pf.at 0 (Rect.unit (s := S128x64) ![v2.toNat, v3.toNat] S1x1.size (k0_off1_inb i 12)) numel1_S1x1
  let c0_i32 : BitVec 32 := 0#32
  let c0_i32_0 : BitVec 32 := 0#32
  let c0_i32_1 : BitVec 32 := 0#32
  ![v4.toNat, c0_i32.toNat, c0_i32_0.toNat]

def cc0_transform_14 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c13_i32 : BitVec 32 := 13#32
  let v1 : BitVec 32 := Scalar.addi v0 c13_i32
  let v2 : Index := Scalar.indexCast arg0
  let v3 : Index := Scalar.indexCast v1
  let v4 : BitVec 32 := pf.at 0 (Rect.unit (s := S128x64) ![v2.toNat, v3.toNat] S1x1.size (k0_off1_inb i 13)) numel1_S1x1
  let c0_i32 : BitVec 32 := 0#32
  let c0_i32_0 : BitVec 32 := 0#32
  let c0_i32_1 : BitVec 32 := 0#32
  ![v4.toNat, c0_i32.toNat, c0_i32_0.toNat]

def cc0_transform_15 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c14_i32 : BitVec 32 := 14#32
  let v1 : BitVec 32 := Scalar.addi v0 c14_i32
  let v2 : Index := Scalar.indexCast arg0
  let v3 : Index := Scalar.indexCast v1
  let v4 : BitVec 32 := pf.at 0 (Rect.unit (s := S128x64) ![v2.toNat, v3.toNat] S1x1.size (k0_off1_inb i 14)) numel1_S1x1
  let c0_i32 : BitVec 32 := 0#32
  let c0_i32_0 : BitVec 32 := 0#32
  let c0_i32_1 : BitVec 32 := 0#32
  ![v4.toNat, c0_i32.toNat, c0_i32_0.toNat]

def cc0_transform_16 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c15_i32 : BitVec 32 := 15#32
  let v1 : BitVec 32 := Scalar.addi v0 c15_i32
  let v2 : Index := Scalar.indexCast arg0
  let v3 : Index := Scalar.indexCast v1
  let v4 : BitVec 32 := pf.at 0 (Rect.unit (s := S128x64) ![v2.toNat, v3.toNat] S1x1.size (k0_off1_inb i 15)) numel1_S1x1
  let c0_i32 : BitVec 32 := 0#32
  let c0_i32_0 : BitVec 32 := 0#32
  let c0_i32_1 : BitVec 32 := 0#32
  ![v4.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x288x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x288x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x288x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x288x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x288x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x288x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x288x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x288x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x288x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x288x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x288x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x288x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x288x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x288x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x288x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x288x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x288 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 1 → Memref sig .tc .vmem S32x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x32x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S128x64 : Shape := ⟨2, ![128, 64]⟩
abbrev S128x4x8x288 : Shape := ⟨4, ![128, 4, 8, 288]⟩
abbrev S10240x128x288 : Shape := ⟨3, ![10240, 128, 288]⟩
abbrev S128x4x288 : Shape := ⟨3, ![128, 4, 288]⟩
abbrev S_ : Shape := ⟨0, ![]⟩
abbrev S128x64x1 : Shape := ⟨3, ![128, 64, 1]⟩
abbrev S128x64x128x288 : Shape := ⟨4, ![128, 64, 128, 288]⟩
abbrev S128x8192x288 : Shape := ⟨3, ![128, 8192, 288]⟩
abbrev S128x8192x4x8 : Shape := ⟨4, ![128, 8192, 4, 8]⟩
abbrev S128x8x4x8192 : Shape := ⟨4, ![128, 8, 4, 8192]⟩
abbrev S128x4x4x8 : Shape := ⟨4, ![128, 4, 4, 8]⟩
abbrev S128x8x4x4 : Shape := ⟨4, ![128, 8, 4, 4]⟩
abbrev S4 : Shape := ⟨1, ![4]⟩
abbrev S1x4 : Shape := ⟨2, ![1, 4]⟩
abbrev S4x1 : Shape := ⟨2, ![4, 1]⟩
abbrev S4x4 : Shape := ⟨2, ![4, 4]⟩
abbrev S128x8x4x8196 : Shape := ⟨4, ![128, 8, 4, 8196]⟩
abbrev S128x8x4 : Shape := ⟨3, ![128, 8, 4]⟩
abbrev S128x8x4x1 : Shape := ⟨4, ![128, 8, 4, 1]⟩
abbrev S128x288x8x4 : Shape := ⟨4, ![128, 288, 8, 4]⟩
abbrev S128x4x8x256 : Shape := ⟨4, ![128, 4, 8, 256]⟩
abbrev S128x32x256 : Shape := ⟨3, ![128, 32, 256]⟩

abbrev nBuf : Space → Nat
  | .hbm => 56
  | .vmem => 0
  | .smem => 0
  | _ => 0

abbrev bufTy : (tb : Table) → Fin (tcTables nBuf tb) → BufTy
  | .hbm, ⟨0, _⟩ => ⟨S128x64, .i32⟩
  | .hbm, ⟨1, _⟩ => ⟨S128x4x8x288, .bf16⟩
  | .hbm, ⟨2, _⟩ => ⟨S10240x128x288, .f32⟩
  | .hbm, ⟨3, _⟩ => ⟨S128x4x288, .f32⟩
  | .hbm, ⟨4, _⟩ => ⟨S128x4x8x288, .f32⟩
  | .hbm, ⟨5, _⟩ => ⟨S_, .i32⟩
  | .hbm, ⟨6, _⟩ => ⟨S128x64, .i32⟩
  | .hbm, ⟨7, _⟩ => ⟨S128x64, .i1⟩
  | .hbm, ⟨8, _⟩ => ⟨S_, .i32⟩
  | .hbm, ⟨9, _⟩ => ⟨S128x64, .i32⟩
  | .hbm, ⟨10, _⟩ => ⟨S128x64, .i32⟩
  | .hbm, ⟨11, _⟩ => ⟨S128x64, .i32⟩
  | .hbm, ⟨12, _⟩ => ⟨S128x64x1, .i32⟩
  | .hbm, ⟨13, _⟩ => ⟨S128x64x128x288, .f32⟩
  | .hbm, ⟨14, _⟩ => ⟨S128x8192x288, .f32⟩
  | .hbm, ⟨15, _⟩ => ⟨S128x8192x4x8, .f32⟩
  | .hbm, ⟨16, _⟩ => ⟨S128x8x4x8192, .f32⟩
  | .hbm, ⟨17, _⟩ => ⟨S128x4x4x8, .f32⟩
  | .hbm, ⟨18, _⟩ => ⟨S128x8x4x4, .f32⟩
  | .hbm, ⟨19, _⟩ => ⟨S4, .i32⟩
  | .hbm, ⟨20, _⟩ => ⟨S1x4, .i32⟩
  | .hbm, ⟨21, _⟩ => ⟨S4, .i32⟩
  | .hbm, ⟨22, _⟩ => ⟨S4x1, .i32⟩
  | .hbm, ⟨23, _⟩ => ⟨S4x4, .i32⟩
  | .hbm, ⟨24, _⟩ => ⟨S4x4, .i32⟩
  | .hbm, ⟨25, _⟩ => ⟨S4x4, .i1⟩
  | .hbm, ⟨26, _⟩ => ⟨S_, .f32⟩
  | .hbm, ⟨27, _⟩ => ⟨S_, .f32⟩
  | .hbm, ⟨28, _⟩ => ⟨S128x8x4x4, .i1⟩
  | .hbm, ⟨29, _⟩ => ⟨S128x8x4x4, .f32⟩
  | .hbm, ⟨30, _⟩ => ⟨S128x8x4x4, .f32⟩
  | .hbm, ⟨31, _⟩ => ⟨S128x8x4x8196, .f32⟩
  | .hbm, ⟨32, _⟩ => ⟨S_, .f32⟩
  | .hbm, ⟨33, _⟩ => ⟨S128x8x4, .f32⟩
  | .hbm, ⟨34, _⟩ => ⟨S_, .f32⟩
  | .hbm, ⟨35, _⟩ => ⟨S128x8x4, .f32⟩
  | .hbm, ⟨36, _⟩ => ⟨S128x8x4, .f32⟩
  | .hbm, ⟨37, _⟩ => ⟨S128x8x4x1, .f32⟩
  | .hbm, ⟨38, _⟩ => ⟨S128x8x4x8196, .f32⟩
  | .hbm, ⟨39, _⟩ => ⟨S128x8x4x8196, .f32⟩
  | .hbm, ⟨40, _⟩ => ⟨S128x8x4x8196, .f32⟩
  | .hbm, ⟨41, _⟩ => ⟨S_, .f32⟩
  | .hbm, ⟨42, _⟩ => ⟨S128x8x4, .f32⟩
  | .hbm, ⟨43, _⟩ => ⟨S128x8x4x1, .f32⟩
  | .hbm, ⟨44, _⟩ => ⟨S128x8x4x8196, .f32⟩
  | .hbm, ⟨45, _⟩ => ⟨S128x8x4x8196, .f32⟩
  | .hbm, ⟨46, _⟩ => ⟨S128x8x4x8192, .f32⟩
  | .hbm, ⟨47, _⟩ => ⟨S128x288x8x4, .f32⟩
  | .hbm, ⟨48, _⟩ => ⟨S128x4x8x288, .f32⟩
  | .hbm, ⟨49, _⟩ => ⟨S128x8x4x4, .f32⟩
  | .hbm, ⟨50, _⟩ => ⟨S128x288x8x4, .f32⟩
  | .hbm, ⟨51, _⟩ => ⟨S128x4x8x288, .f32⟩
  | .hbm, ⟨52, _⟩ => ⟨S128x4x8x288, .f32⟩
  | .hbm, ⟨53, _⟩ => ⟨S128x4x8x256, .f32⟩
  | .hbm, ⟨54, _⟩ => ⟨S128x32x256, .f32⟩
  | .hbm, ⟨55, _⟩ => ⟨S128x32x256, .bf16⟩
  | _, _ => ⟨S128x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x1x1024 : Shape := ⟨3, ![4, 1, 1024]⟩
abbrev S1024x1024 : Shape := ⟨2, ![1024, 1024]⟩
abbrev S1024x5632 : Shape := ⟨2, ![1024, 5632]⟩
abbrev S2816x1024 : Shape := ⟨2, ![2816, 1024]⟩
abbrev S1024 : Shape := ⟨1, ![1024]⟩
abbrev S1024x2816 : Shape := ⟨2, ![1024, 2816]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 18
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S4x1x1024, .f32⟩
  | .hbm, ⟨6, _⟩ => ⟨S1024x1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S1024x1024, .bf16⟩
  | .hbm, ⟨11, _⟩ => ⟨S1024x2816, .f32⟩
  | .hbm, ⟨12, _⟩ => ⟨S1024x2816, .bf16⟩
  | .hbm, ⟨13, _⟩ => ⟨S1024x2816, .f32⟩
  | .hbm, ⟨14, _⟩ => ⟨S1024x2816, .bf16⟩
  | .hbm, ⟨15, _⟩ => ⟨S2816x1024, .bf16⟩
  | .hbm, ⟨16, _⟩ => ⟨S1x1024, .f32⟩
  | .hbm, ⟨17, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S4x4096x1024 : Shape := ⟨3, ![4, 4096, 1024]⟩
abbrev S4x1x1024 : Shape := ⟨3, ![4, 1, 1024]⟩
abbrev S1024x1024 : Shape := ⟨2, ![1024, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S4x4096x5632 : Shape := ⟨3, ![4, 4096, 5632]⟩
abbrev S4x4096x2816 : Shape := ⟨3, ![4, 4096, 2816]⟩
abbrev S1x1x1024 : Shape := ⟨3, ![1, 1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S4x1x1024, .f32⟩
  | .hbm, ⟨6, _⟩ => ⟨S1024x1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x5632, .f32⟩
  | .hbm, ⟨36, _⟩ => ⟨S4x4096x2816, .f32⟩
  | .hbm, ⟨37, _⟩ => ⟨S4x4096x2816, .f32⟩
  | .hbm, ⟨38, _⟩ => ⟨S4x4096x2816, .f32⟩
  | .hbm, ⟨39, _⟩ => ⟨S4x4096x2816, .f32⟩
  | .hbm, ⟨40, _⟩ => ⟨S_, .f32⟩
  | .hbm, ⟨41, _⟩ => ⟨S4x4096x2816, .f32⟩
  | .hbm, ⟨42, _⟩ => ⟨S4x4096x2816, .f32⟩
  | .hbm, ⟨43, _⟩ => ⟨S_, .f32⟩
  | .hbm, ⟨44, _⟩ => ⟨S4x4096x2816, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S4x4096x1, .f32⟩
  | .hbm, ⟨63, _⟩ => ⟨S4x4096x1024, .f32⟩
  | .hbm, ⟨64, _⟩ => ⟨S4x4096x1024, .f32⟩
  | .hbm, ⟨65, _⟩ => ⟨S1x1x1024, .f32⟩
  | .hbm, ⟨66, _⟩ => ⟨S4x4096x1024, .f32⟩
  | .hbm, ⟨67, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x512 : Shape := ⟨3, ![4, 4096, 512]⟩
abbrev S4x4096x128 : Shape := ⟨3, ![4, 4096, 128]⟩
abbrev S4x1x1024 : Shape := ⟨3, ![4, 1, 1024]⟩
abbrev S1024x1024 : Shape := ⟨2, ![1024, 1024]⟩
abbrev S1024x5632 : Shape := ⟨2, ![1024, 5632]⟩
abbrev S2816x1024 : Shape := ⟨2, ![2816, 1024]⟩
abbrev S8 : Shape := ⟨1, ![8]⟩
abbrev S_ : Shape := ⟨0, ![]⟩
abbrev S128x8x64 : Shape := ⟨3, ![128, 8, 64]⟩
abbrev S8x1 : Shape := ⟨2, ![8, 1]⟩
abbrev S8x2 : Shape := ⟨2, ![8, 2]⟩
abbrev S8x64 : Shape := ⟨2, ![8, 64]⟩
abbrev S128x512 : Shape := ⟨2, ![128, 512]⟩
abbrev S1x128x512 : Shape := ⟨3, ![1, 128, 512]⟩
abbrev S3x128x512 : Shape := ⟨3, ![3, 128, 512]⟩
abbrev S1024x2816 : Shape := ⟨2, ![1024, 2816]⟩
abbrev S1x512x1024 : Shape := ⟨3, ![1, 512, 1024]⟩
abbrev S1x512x512 : Shape := ⟨3, ![1, 512, 512]⟩
abbrev S1x512x128 : Shape := ⟨3, ![1, 512, 128]⟩
abbrev S1x1x1024 : Shape := ⟨3, ![1, 1, 1024]⟩
abbrev S512x128 : Shape := ⟨2, ![512, 128]⟩
abbrev S512x512 : Shape := ⟨2, ![512, 512]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 122
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x4096x512, .bf16⟩
  | .hbm, ⟨4, _⟩ => ⟨S4x4096x512, .bf16⟩
  | .hbm, ⟨5, _⟩ => ⟨S4x4096x128, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S1024x1024, .f32⟩
  | .hbm, ⟨11, _⟩ => ⟨S1024x5632, .f32⟩
  | .hbm, ⟨12, _⟩ => ⟨S2816x1024, .f32⟩
  | .hbm, ⟨13, _⟩ => ⟨S8, .i32⟩
  | .hbm, ⟨14, _⟩ => ⟨S_, .f32⟩
  | .hbm, ⟨15, _⟩ => ⟨S128x8x64, .f32⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i1⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S8, .i32⟩
  | .hbm, ⟨34, _⟩ => ⟨S8, .i1⟩
  | .hbm, ⟨35, _⟩ => ⟨S_, .i32⟩
  | .hbm, ⟨36, _⟩ => ⟨S8, .i32⟩
  | .hbm, ⟨37, _⟩ => ⟨S8, .i32⟩
  | .hbm, ⟨38, _⟩ => ⟨S8, .i32⟩
  | .hbm, ⟨39, _⟩ => ⟨S8x1, .i32⟩
  | .hbm, ⟨40, _⟩ => ⟨S8x1, .i32⟩
  | .hbm, ⟨41, _⟩ => ⟨S8x2, .i32⟩
  | .hbm, ⟨42, _⟩ => ⟨S_, .f32⟩
  | .hbm, ⟨43, _⟩ => ⟨S8x64, .f32⟩
  | .hbm, ⟨44, _⟩ => ⟨S128x8x64, .f32⟩
  | .hbm, ⟨45, _⟩ => ⟨S128x512, .f32⟩
  | .hbm, ⟨46, _⟩ => ⟨S_, .f32⟩
  | .hbm, ⟨47, _⟩ => ⟨S128x8x64, .f32⟩
  | .hbm, ⟨48, _⟩ => ⟨S_, .i32⟩
  | .hbm, ⟨49, _⟩ => ⟨S8, .i32⟩
  | .hbm, ⟨50, _⟩ => ⟨S8, .i32⟩
  | .hbm, ⟨51, _⟩ => ⟨S_, .i32⟩
  | .hbm, ⟨52, _⟩ => ⟨S8, .i32⟩
  | .hbm, ⟨53, _⟩ => ⟨S8, .i32⟩
  | .hbm, ⟨54, _⟩ => ⟨S_, .i32⟩
  | .hbm, ⟨55, _⟩ => ⟨S8, .i32⟩
  | .hbm, ⟨56, _⟩ => ⟨S8, .i32⟩
  | .hbm, ⟨57, _⟩ => ⟨S_, .i32⟩
  | .hbm, ⟨58, _⟩ => ⟨S8, .i32⟩
  | .hbm, ⟨59, _⟩ => ⟨S8, .i1⟩
  | .hbm, ⟨60, _⟩ => ⟨S_, .i32⟩
  | .hbm, ⟨61, _⟩ => ⟨S8, .i32⟩
  | .hbm, ⟨62, _⟩ => ⟨S8, .i32⟩
  | .hbm, ⟨63, _⟩ => ⟨S8, .i32⟩
  | .hbm, ⟨64, _⟩ => ⟨S_, .i32⟩
  | .hbm, ⟨65, _⟩ => ⟨S8, .i32⟩
  | .hbm, ⟨66, _⟩ => ⟨S8, .i1⟩
  | .hbm, ⟨67, _⟩ => ⟨S_, .i32⟩
  | .hbm, ⟨68, _⟩ => ⟨S8, .i32⟩
  | .hbm, ⟨69, _⟩ => ⟨S8, .i32⟩
  | .hbm, ⟨70, _⟩ => ⟨S8, .i32⟩
  | .hbm, ⟨71, _⟩ => ⟨S8x1, .i32⟩
  | .hbm, ⟨72, _⟩ => ⟨S8x1, .i32⟩
  | .hbm, ⟨73, _⟩ => ⟨S8x2, .i32⟩
  | .hbm, ⟨74, _⟩ => ⟨S_, .f32⟩
  | .hbm, ⟨75, _⟩ => ⟨S8x64, .f32⟩
  | .hbm, ⟨76, _⟩ => ⟨S128x8x64, .f32⟩
  | .hbm, ⟨77, _⟩ => ⟨S128x512, .f32⟩
  | .hbm, ⟨78, _⟩ => ⟨S_, .f32⟩
  | .hbm, ⟨79, _⟩ => ⟨S128x8x64, .f32⟩
  | .hbm, ⟨80, _⟩ => ⟨S_, .i32⟩
  | .hbm, ⟨81, _⟩ => ⟨S8, .i32⟩
  | .hbm, ⟨82, _⟩ => ⟨S8, .i32⟩
  | .hbm, ⟨83, _⟩ => ⟨S_, .i32⟩
  | .hbm, ⟨84, _⟩ => ⟨S8, .i32⟩
  | .hbm, ⟨85, _⟩ => ⟨S8, .i32⟩
  | .hbm, ⟨86, _⟩ => ⟨S_, .i32⟩
  | .hbm, ⟨87, _⟩ => ⟨S8, .i32⟩
  | .hbm, ⟨88, _⟩ => ⟨S8, .i32⟩
  | .hbm, ⟨89, _⟩ => ⟨S_, .i32⟩
  | .hbm, ⟨90, _⟩ => ⟨S8, .i32⟩
  | .hbm, ⟨91, _⟩ => ⟨S8, .i1⟩
  | .hbm, ⟨92, _⟩ => ⟨S_, .i32⟩
  | .hbm, ⟨93, _⟩ => ⟨S8, .i32⟩
  | .hbm, ⟨94, _⟩ => ⟨S8, .i32⟩
  | .hbm, ⟨95, _⟩ => ⟨S8, .i32⟩
  | .hbm, ⟨96, _⟩ => ⟨S_, .i32⟩
  | .hbm, ⟨97, _⟩ => ⟨S8, .i32⟩
  | .hbm, ⟨98, _⟩ => ⟨S8, .i1⟩
  | .hbm, ⟨99, _⟩ => ⟨S_, .i32⟩
  | .hbm, ⟨100, _⟩ => ⟨S8, .i32⟩
  | .hbm, ⟨101, _⟩ => ⟨S8, .i32⟩
  | .hbm, ⟨102, _⟩ => ⟨S8, .i32⟩
  | .hbm, ⟨103, _⟩ => ⟨S8x1, .i32⟩
  | .hbm, ⟨104, _⟩ => ⟨S8x1, .i32⟩
  | .hbm, ⟨105, _⟩ => ⟨S8x2, .i32⟩
  | .hbm, ⟨106, _⟩ => ⟨S_, .f32⟩
  | .hbm, ⟨107, _⟩ => ⟨S8x64, .f32⟩
  | .hbm, ⟨108, _⟩ => ⟨S128x8x64, .f32⟩
  | .hbm, ⟨109, _⟩ => ⟨S128x512, .f32⟩
  | .hbm, ⟨110, _⟩ => ⟨S1x128x512, .f32⟩
  | .hbm, ⟨111, _⟩ => ⟨S1x128x512, .f32⟩
  | .hbm, ⟨112, _⟩ => ⟨S1x128x512, .f32⟩
  | .hbm, ⟨113, _⟩ => ⟨S3x128x512, .f32⟩
  | .hbm, ⟨114, _⟩ => ⟨S3x128x512, .bf16⟩
  | .hbm, ⟨115, _⟩ => ⟨S1024x1024, .bf16⟩
  | .hbm, ⟨116, _⟩ => ⟨S1024x2816, .f32⟩
  | .hbm, ⟨117, _⟩ => ⟨S1024x2816, .bf16⟩
  | .hbm, ⟨118, _⟩ => ⟨S1024x2816, .f32⟩
  | .hbm, ⟨119, _⟩ => ⟨S1024x2816, .bf16⟩
  | .hbm, ⟨120, _⟩ => ⟨S2816x1024, .bf16⟩
  | .hbm, ⟨121, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x128, .f32⟩
  | .local _ .vmem, ⟨11, _⟩ => ⟨S1x512x128, .f32⟩
  | .local _ .vmem, ⟨12, _⟩ => ⟨S3x128x512, .bf16⟩
  | .local _ .vmem, ⟨13, _⟩ => ⟨S1024x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1024x2816, .bf16⟩
  | .local _ .vmem, ⟨23, _⟩ => ⟨S1024x2816, .bf16⟩
  | .local _ .vmem, ⟨24, _⟩ => ⟨S2816x1024, .bf16⟩
  | .local _ .vmem, ⟨25, _⟩ => ⟨S1x512x1024, .f32⟩
  | .local _ .vmem, ⟨26, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_c_2 : Ref sig .tc := ⟨.hbm, 25, rfl⟩
abbrev main_v8 : Ref sig .tc := ⟨.hbm, 26, rfl⟩
abbrev main_v9 : Ref sig .tc := ⟨.hbm, 27, rfl⟩
abbrev main_c_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_4 : Ref sig .tc := ⟨.hbm, 32, rfl⟩
abbrev main_v13 : Ref sig .tc := ⟨.hbm, 33, rfl⟩
abbrev main_v14 : Ref sig .tc := ⟨.hbm, 34, rfl⟩
abbrev main_c_5 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_6 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_c_8 : Ref sig .tc := ⟨.hbm, 48, rfl⟩
abbrev main_v25 : Ref sig .tc := ⟨.hbm, 49, rfl⟩
abbrev main_v26 : Ref sig .tc := ⟨.hbm, 50, rfl⟩
abbrev main_c_9 : Ref sig .tc := ⟨.hbm, 51, rfl⟩
abbrev main_v27 : Ref sig .tc := ⟨.hbm, 52, rfl⟩
abbrev main_v28 : Ref sig .tc := ⟨.hbm, 53, rfl⟩
abbrev main_c_10 : Ref sig .tc := ⟨.hbm, 54, rfl⟩
abbrev main_v29 : Ref sig .tc := ⟨.hbm, 55, rfl⟩
abbrev main_v30 : Ref sig .tc := ⟨.hbm, 56, rfl⟩
abbrev main_c_11 : Ref sig .tc := ⟨.hbm, 57, rfl⟩
abbrev main_v31 : Ref sig .tc := ⟨.hbm, 58, rfl⟩
abbrev main_v32 : Ref sig .tc := ⟨.hbm, 59, rfl⟩
abbrev main_c_12 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_13 : Ref sig .tc := ⟨.hbm, 64, rfl⟩
abbrev main_v36 : Ref sig .tc := ⟨.hbm, 65, rfl⟩
abbrev main_v37 : Ref sig .tc := ⟨.hbm, 66, rfl⟩
abbrev main_c_14 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_15 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_16 : Ref sig .tc := ⟨.hbm, 78, rfl⟩
abbrev main_v47 : Ref sig .tc := ⟨.hbm, 79, rfl⟩
abbrev main_c_17 : Ref sig .tc := ⟨.hbm, 80, rfl⟩
abbrev main_v48 : Ref sig .tc := ⟨.hbm, 81, rfl⟩
abbrev main_v49 : Ref sig .tc := ⟨.hbm, 82, rfl⟩
abbrev main_c_18 : Ref sig .tc := ⟨.hbm, 83, rfl⟩
abbrev main_v50 : Ref sig .tc := ⟨.hbm, 84, rfl⟩
abbrev main_v51 : Ref sig .tc := ⟨.hbm, 85, rfl⟩
abbrev main_c_19 : Ref sig .tc := ⟨.hbm, 86, rfl⟩
abbrev main_v52 : Ref sig .tc := ⟨.hbm, 87, rfl⟩
abbrev main_v53 : Ref sig .tc := ⟨.hbm, 88, rfl⟩
abbrev main_c_20 : Ref sig .tc := ⟨.hbm, 89, rfl⟩
abbrev main_v54 : Ref sig .tc := ⟨.hbm, 90, rfl⟩
abbrev main_v55 : Ref sig .tc := ⟨.hbm, 91, rfl⟩
abbrev main_c_21 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_c_22 : Ref sig .tc := ⟨.hbm, 96, rfl⟩
abbrev main_v59 : Ref sig .tc := ⟨.hbm, 97, rfl⟩
abbrev main_v60 : Ref sig .tc := ⟨.hbm, 98, rfl⟩
abbrev main_c_23 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_24 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S3x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S4x4096x1024 : Shape := ⟨3, ![4, 4096, 1024]⟩
abbrev S4x4096x512 : Shape := ⟨3, ![4, 4096, 512]⟩
abbrev S4x4096x128 : Shape := ⟨3, ![4, 4096, 128]⟩
abbrev S4x1x1024 : Shape := ⟨3, ![4, 1, 1024]⟩
abbrev S1024x1024 : Shape := ⟨2, ![1024, 1024]⟩
abbrev S1024x5632 : Shape := ⟨2, ![1024, 5632]⟩
abbrev S2816x1024 : Shape := ⟨2, ![2816, 1024]⟩
abbrev S4x4096x24 : Shape := ⟨3, ![4, 4096, 24]⟩
abbrev S4x4096x8x3 : Shape := ⟨4, ![4, 4096, 8, 3]⟩
abbrev S4x4096x8x1 : Shape := ⟨4, ![4, 4096, 8, 1]⟩
abbrev S4x4096x8x64 : Shape := ⟨4, ![4, 4096, 8, 64]⟩
abbrev S_ : Shape := ⟨0, ![]⟩
abbrev S4x4096 : Shape := ⟨2, ![4, 4096]⟩
abbrev S4x4096x1 : Shape := ⟨3, ![4, 4096, 1]⟩
abbrev S4x4096x5632 : Shape := ⟨3, ![4, 4096, 5632]⟩
abbrev S4x4096x2816 : Shape := ⟨3, ![4, 4096, 2816]⟩

abbrev nBuf : Space → Nat
  | .hbm => 76
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x4096x512, .bf16⟩
  | .hbm, ⟨4, _⟩ => ⟨S4x4096x512, .bf16⟩
  | .hbm, ⟨5, _⟩ => ⟨S4x4096x128, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S1024x1024, .f32⟩
  | .hbm, ⟨11, _⟩ => ⟨S1024x5632, .f32⟩
  | .hbm, ⟨12, _⟩ => ⟨S2816x1024, .f32⟩
  | .hbm, ⟨13, _⟩ => ⟨S4x4096x24, .f32⟩
  | .hbm, ⟨14, _⟩ => ⟨S4x4096x8x3, .f32⟩
  | .hbm, ⟨15, _⟩ => ⟨S4x4096x8x1, .f32⟩
  | .hbm, ⟨16, _⟩ => ⟨S4x4096x512, .f32⟩
  | .hbm, ⟨17, _⟩ => ⟨S4x4096x8x64, .f32⟩
  | .hbm, ⟨18, _⟩ => ⟨S4x4096x8x64, .f32⟩
  | .hbm, ⟨19, _⟩ => ⟨S4x4096x8x64, .f32⟩
  | .hbm, ⟨20, _⟩ => ⟨S4x4096x8x1, .f32⟩
  | .hbm, ⟨21, _⟩ => ⟨S4x4096x512, .f32⟩
  | .hbm, ⟨22, _⟩ => ⟨S4x4096x8x64, .f32⟩
  | .hbm, ⟨23, _⟩ => ⟨S4x4096x8x64, .f32⟩
  | .hbm, ⟨24, _⟩ => ⟨S4x4096x8x64, .f32⟩
  | .hbm, ⟨25, _⟩ => ⟨S4x4096x8x64, .f32⟩
  | .hbm, ⟨26, _⟩ => ⟨S4x4096x8x1, .f32⟩
  | .hbm, ⟨27, _⟩ => ⟨S4x4096x512, .f32⟩
  | .hbm, ⟨28, _⟩ => ⟨S4x4096x8x64, .f32⟩
  | .hbm, ⟨29, _⟩ => ⟨S4x4096x8x64, .f32⟩
  | .hbm, ⟨30, _⟩ => ⟨S4x4096x8x64, .f32⟩
  | .hbm, ⟨31, _⟩ => ⟨S4x4096x8x64, .f32⟩
  | .hbm, ⟨32, _⟩ => ⟨S4x4096x512, .f32⟩
  | .hbm, ⟨33, _⟩ => ⟨S4x4096x512, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S4x4096x1, .f32⟩
  | .hbm, ⟨50, _⟩ => ⟨S4x4096x1024, .f32⟩
  | .hbm, ⟨51, _⟩ => ⟨S4x4096x1024, .f32⟩
  | .hbm, ⟨52, _⟩ => ⟨S_, .f32⟩
  | .hbm, ⟨53, _⟩ => ⟨S4x1x1024, .f32⟩
  | .hbm, ⟨54, _⟩ => ⟨S4x1x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x5632, .f32⟩
  | .hbm, ⟨60, _⟩ => ⟨S4x4096x2816, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S_, .f32⟩
  | .hbm, ⟨65, _⟩ => ⟨S4x4096x2816, .f32⟩
  | .hbm, ⟨66, _⟩ => ⟨S4x4096x2816, .f32⟩
  | .hbm, ⟨67, _⟩ => ⟨S_, .f32⟩
  | .hbm, ⟨68, _⟩ => ⟨S4x4096x2816, .f32⟩
  | .hbm, ⟨69, _⟩ => ⟨S4x4096x2816, .f32⟩
  | .hbm, ⟨70, _⟩ => ⟨S4x4096x2816, .f32⟩
  | .hbm, ⟨71, _⟩ => ⟨S4x4096x2816, .f32⟩
  | .hbm, ⟨72, _⟩ => ⟨S4x4096x1024, .f32⟩
  | .hbm, ⟨73, _⟩ => ⟨S4x4096x1024, .f32⟩
  | .hbm, ⟨74, _⟩ => ⟨S4x4096x1024, .f32⟩
  | .hbm, ⟨75, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_cst_0 : Ref sig .tc := ⟨.hbm, 43, rfl⟩
abbrev main_v29 : Ref sig .tc := ⟨.hbm, 44, rfl⟩
abbrev main_v30 : Ref sig .tc := ⟨.hbm, 45, rfl⟩
abbrev main_cst_1 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]
-- ==== Proof.Pages.lean ====
/- A table of page names meets the side condition of the pipeline's prefetched table. -/
module

public import proofs.«01_k».proof.Defs
public import proofs.«01_k».proof.Proof.Gen.Kernel.Frame.Runs
public import proofs.«01_k».proof.Proof.Gen.KernelIdeal.Frame.Runs

@[expose] public section

set_option maxRecDepth 16384

noncomputable section

namespace Cert.Kernel.Gen
open Idealize.ShloMosaic Idealize.ShloMosaic.TcCoe
variable {F : FTy → Type} [FloatOps F]

theorem fits (v : BitVec 32) (hv : v.toNat < 10240) :
    ∀ a, ((![v.toNat, (0#32).toNat, (0#32).toNat] : Fin 3 → ℕ) a + 1) * S1x288x128.size a ≤ S10240x288x128.size a := by
  intro a; fin_cases a
  · show (v.toNat + 1) * 1 ≤ 10240; omega
  · show (0 + 1) * 288 ≤ 288; omega
  · show (0 + 1) * 128 ≤ 128; omega

/-- A table of page names meets the pipeline's side condition: every window's block lies inside the pool. -/
theorem ok_of_lt (m : (ℓ : Loc nD τ sig) → Buf (Elt F) ℓ) (h : ∀ i, (m (((0 : Dev nD).tc : Thread nD τ).loc main_arg0) i).toNat < 10240) : Ok m := by
  have h' : ∀ i, (tbl m 0 i : BitVec 32).toNat < 10240 := fun i => by
    have e : tbl m 0 = m (((0 : Dev nD).tc : Thread nD τ).loc main_arg0) := V_main_arg0 m 0
    rw [e]; exact h i
  unfold Ok ok0
  repeat' apply And.intro
  all_goals exact fun i => ⟨fits _ (h' _), Or.inl rfl⟩

end Cert.Kernel.Gen

namespace Cert.KernelIdeal.Gen
open Idealize.ShloMosaic Idealize.ShloMosaic.TcCoe
variable {F : FTy → Type} [FloatOps F] [Named F]

theorem fits (v : BitVec 32) (hv : v.toNat < 10240) :
    ∀ a, ((![v.toNat, (0#32).toNat, (0#32).toNat] : Fin 3 → ℕ) a + 1) * S1x288x128.size a ≤ S10240x288x128.size a := by
  intro a; fin_cases a
  · show (v.toNat + 1) * 1 ≤ 10240; omega
  · show (0 + 1) * 288 ≤ 288; omega
  · show (0 + 1) * 128 ≤ 128; omega

/-- A table of page names meets the pipeline's side condition: every window's block lies inside the pool. -/
theorem ok_of_lt (m : (ℓ : Loc nD τ sig) → Buf (Elt F) ℓ) (h : ∀ i, (m (((0 : Dev nD).tc : Thread nD τ).loc main_arg0) i).toNat < 10240) : Ok m := by
  have h' : ∀ i, (tbl m 0 i : BitVec 32).toNat < 10240 := fun i => by
    have e : tbl m 0 = m (((0 : Dev nD).tc : Thread nD τ).loc main_arg0) := V_main_arg0 m 0
    rw [e]; exact h i
  unfold Ok ok0
  repeat' apply And.intro
  all_goals exact fun i => ⟨fits _ (h' _), Or.inl rfl⟩

end Cert.KernelIdeal.Gen

end
-- ==== Proof.Pre.lean ====
/- The precondition `pages` read as what the proofs use: the page table's words name pages of the pool. -/
module

public import proofs.«01_k».proof.Defs
public import proofs.«01_k».proof.Proof.Gen.Pre_pages
public import Idealize.ShloMosaic.Lib.ReduceAll
public import Idealize.ShloMosaic.Lib.Affine

@[expose] public section

set_option maxRecDepth 16384

noncomputable section

namespace Cert.Pages

open Idealize.ShloMosaic Idealize.ShloMosaic.TcCoe

/-- A word between 0 and 10239 as a signed number is that number unsigned. -/
theorem lt_of_cmp (v : BitVec 32) (e1 : IntOp.cmpi .sge v 0#32 = 1#1) (e2 : IntOp.cmpi .slt v 10240#32 = 1#1) :
    v.toNat < 10240 := by
  have ofBool_eq_one (p : Bool) : (BitVec.ofBool p = 1#1) ↔ p = true := by cases p <;> decide
  simp only [IntOp.cmpi, ofBool_eq_one, BitVec.sle_eq_decide, BitVec.slt_eq_decide, decide_eq_true_eq,
    BitVec.toInt_eq_toNat_cond, BitVec.toNat_ofNat, Nat.reducePow, Nat.reduceMod] at e1 e2
  omega

section Tables
variable {F : FTy → Type} [FloatOps F]

instance : Subsingleton Cert.Pre_pages.S_.Idx := ⟨fun _ _ => funext fun a => a.elim0⟩

/-- `pages` says that every word of the table names a page. -/
theorem of_pages (a0 : IVec Cert.Pre_pages.S128x64 32) (a1 : FVec F Cert.Pre_pages.S128x4x8x288 .bf16)
    (a2 : FVec F Cert.Pre_pages.S10240x128x288 .f32) (a3 : FVec F Cert.Pre_pages.S128x4x288 .f32)
    (h : Cert.Pre_pages.fn (F := F) a0 a1 a2 a3 = fun _ => 1#1) (i : Cert.Pre_pages.S128x64.Idx) : (a0 i).toNat < 10240 := by
  have e := congrFun h (fun a => a.elim0)
  simp only [Cert.Pre_pages.fn] at e
  have e2 := Host.reduce_andi_all _ _ _ _ _ e i
  simp only [andi, cmpi, broadcastInDim, constantI, IntOp.andi_eq_one] at e2
  exact lt_of_cmp _ e2.1 e2.2

end Tables

end Cert.Pages

end
-- ==== Proof.PreTame.lean ====
/- The precondition `tame` read as what the proofs use: the page table's words name pages of the pool, and every query, cached
   row and new row is a real number. -/
module

public import proofs.«01_k».proof.Proof.Pre
public import proofs.«01_k».proof.Proof.Gen.Pre_tame

@[expose] public section

set_option maxRecDepth 16384

noncomputable section

namespace Cert.Pages

open Idealize.ShloMosaic Idealize.ShloMosaic.TcCoe

instance : Subsingleton Cert.Pre_tame.S_.Idx := ⟨fun _ _ => funext fun a => a.elim0⟩

/-- An extended real whose absolute value is below infinity is a real number. -/
theorem real_of_abs (x : EReal) (h : Ideal.cmp .olt (max x (-x)) ⊤ = 1#1) : ∃ r : ℝ, x = r := by
  have ofBool_eq_one (p : Bool) : (BitVec.ofBool p = 1#1) ↔ p = true := by cases p <;> decide
  simp only [Ideal.cmp, ofBool_eq_one, decide_eq_true_eq] at h
  induction x with
  | bot => simp at h
  | coe r => exact ⟨r, rfl⟩
  | top => simp at h

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

/-- `tame` says the same of the table, and that every element of the three float arrays is a real number. -/
theorem of_tame (a0 : IVec Cert.Pre_tame.S128x64 32) (a1 : FVec Ideal Cert.Pre_tame.S128x4x8x288 .bf16)
    (a2 : FVec Ideal Cert.Pre_tame.S10240x128x288 .f32) (a3 : FVec Ideal Cert.Pre_tame.S128x4x288 .f32)
    (h : Cert.Pre_tame.fn (F := Ideal) a0 a1 a2 a3 = fun _ => 1#1) :
    (∀ i, (a0 i).toNat < 10240) ∧ (∀ i, ∃ r : ℝ, (a1 i : EReal) = r) ∧ (∀ i, ∃ r : ℝ, (a2 i : EReal) = r)
      ∧ (∀ i, ∃ r : ℝ, (a3 i : EReal) = r) := by
  have e := congrFun h (fun a => a.elim0)
  simp only [Cert.Pre_tame.fn, Cert.Pre_tame.fn_part1, andi, IntOp.andi_eq_one] at e
  obtain ⟨⟨⟨e0, e1⟩, e2⟩, e3⟩ := e
  refine ⟨fun i => ?_, fun i => ?_, fun i => ?_, fun i => ?_⟩
  · have e' := Host.reduce_andi_all _ _ _ _ _ e0 i
    simp only [andi, cmpi, broadcastInDim, constantI, IntOp.andi_eq_one] at e'
    exact lt_of_cmp _ e'.1 e'.2
  · have e' := Host.reduce_andi_all _ _ _ _ _ e1 i
    exact real_of_abs _ ((congrArg (Ideal.cmp .olt (max (a1 i : EReal) (-(a1 i : EReal)))) inf_bf16).symm.trans e')
  · have e' := Host.reduce_andi_all _ _ _ _ _ e2 i
    exact real_of_abs _ ((congrArg (Ideal.cmp .olt (max (a2 i : EReal) (-(a2 i : EReal)))) inf_f32).symm.trans e')
  · have e' := Host.reduce_andi_all _ _ _ _ _ e3 i
    exact real_of_abs _ ((congrArg (Ideal.cmp .olt (max (a3 i : EReal) (-(a3 i : EReal)))) inf_f32).symm.trans e')

end Cert.Pages

end
-- ==== Proof.KernelIdealOuts.lean ====
/- What the cases of KernelIdeal's body leave in the output and in the running state, and what these hold after each grid point.
   The cases' contents are the launch kit's own text. -/
module

public import proofs.«01_k».proof.Proof.Gen.KernelIdeal.Frame.RunC
public import Idealize.ShloMosaic.Lib.Claim
@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section

/- The point's arguments, the case it is in, and the blocks it reads. -/
variable (c : Dev nD) (i : grid0.Coords) (arg3 : Memref sig .tc .vmem S1x32x288 .bf16) (harg3 : arg3.IsWhole) (arg4 : Memref sig .tc .vmem S1x288x128 .f32) (harg4 : arg4.IsWhole) (arg5 : Memref sig .tc .vmem S1x288x128 .f32) (harg5 : arg5.IsWhole) (arg6 : Memref sig .tc .vmem S1x288x128 .f32) (harg6 : arg6.IsWhole) (arg7 : Memref sig .tc .vmem S1x288x128 .f32) (harg7 : arg7.IsWhole) (arg8 : Memref sig .tc .vmem S1x288x128 .f32) (harg8 : arg8.IsWhole) (arg9 : Memref sig .tc .vmem S1x288x128 .f32) (harg9 : arg9.IsWhole) (arg10 : Memref sig .tc .vmem S1x288x128 .f32) (harg10 : arg10.IsWhole) (arg11 : Memref sig .tc .vmem S1x288x128 .f32) (harg11 : arg11.IsWhole) (arg12 : Memref sig .tc .vmem S1x288x128 .f32) (harg12 : arg12.IsWhole) (arg13 : Memref sig .tc .vmem S1x288x128 .f32) (harg13 : arg13.IsWhole) (arg14 : Memref sig .tc .vmem S1x288x128 .f32) (harg14 : arg14.IsWhole) (arg15 : Memref sig .tc .vmem S1x288x128 .f32) (harg15 : arg15.IsWhole) (arg16 : Memref sig .tc .vmem S1x288x128 .f32) (harg16 : arg16.IsWhole) (arg17 : Memref sig .tc .vmem S1x288x128 .f32) (harg17 : arg17.IsWhole) (arg18 : Memref sig .tc .vmem S1x288x128 .f32) (harg18 : arg18.IsWhole) (arg19 : Memref sig .tc .vmem S1x288x128 .f32) (harg19 : arg19.IsWhole) (arg20 : Memref sig .tc .vmem S1x8x288 .f32) (harg20 : arg20.IsWhole) (arg21 : Memref sig .tc .vmem S32x8 .f32) (harg21 : arg21.IsWhole) (arg22 : Memref sig .tc .vmem S1x32x256 .bf16) (harg22 : arg22.IsWhole) (arg23 : Memref sig .tc .vmem S1x32x1 .f32) (harg23 : arg23.IsWhole) (arg24 : Memref sig .tc .vmem S1x32x1 .f32) (harg24 : arg24.IsWhole) (arg25 : Memref sig .tc .vmem S1x32x256 .f32) (harg25 : arg25.IsWhole) (hc0 : cond0_0 i) (hc1 : ¬cond0_1 i)
  (x0 : Vec F S1x32x288 .bf16) (x1 : Vec F S1x288x128 .f32) (x2 : Vec F S1x288x128 .f32) (x3 : Vec F S1x288x128 .f32) (x4 : Vec F S1x288x128 .f32) (x5 : Vec F S1x288x128 .f32) (x6 : Vec F S1x288x128 .f32) (x7 : Vec F S1x288x128 .f32) (x8 : Vec F S1x288x128 .f32) (x9 : Vec F S1x288x128 .f32) (x10 : Vec F S1x288x128 .f32) (x11 : Vec F S1x288x128 .f32) (x12 : Vec F S1x288x128 .f32) (x13 : Vec F S1x288x128 .f32) (x14 : Vec F S1x288x128 .f32) (x15 : Vec F S1x288x128 .f32) (x16 : Vec F S1x288x128 .f32) (x17 : Vec F S1x8x288 .f32) (x18 : Vec F S32x8 .f32) (xt0 : TbBuf0 (F := F) c tbM0_0)

/-- Case A stores nothing into output 19 (the window is idle at its points and not written back there):
    no pieces — a placeholder (junk read back) that nothing consults, since at these points the window is neither
    written back nor read at the next point (Lib/Pipeline.lean "Idle points"). -/
def out0_A_19 : Vec F S1x32x256 .bf16 :=
  VO0_19.read (Elt F) (VO0_19.writes (Elt F) VO0_19.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0).1)

/-- Case A's pieces for scratch `arg23`, which the kernel carries between points, cover it: 2 pieces of `S1x32x1` tiling it (Lib/Ring.lean `Piece.tiledL`). -/
theorem scover0_A_0 (y : S1x32x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0).2.1 S1x32x1.size (by sl_kernel_rfl) y

/-- What case A leaves in scratch `arg23`: its pieces read back over junk. -/
def sout0_A_0 : Vec F S1x32x1 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0).2.1)

/-- Case A's pieces for scratch `arg24`, which the kernel carries between points, cover it: 2 pieces of `S1x32x1` tiling it (Lib/Ring.lean `Piece.tiledL`). -/
theorem scover0_A_1 (y : S1x32x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0).2.2.1 S1x32x1.size (by sl_kernel_rfl) y

/-- What case A leaves in scratch `arg24`: its pieces read back over junk. -/
def sout0_A_1 : Vec F S1x32x1 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0).2.2.1)

/-- Case A's pieces for scratch `arg25`, which the kernel carries between points, cover it: 2 pieces of `S1x32x256` tiling it (Lib/Ring.lean `Piece.tiledL`). -/
theorem scover0_A_2 (y : S1x32x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0).2.2.2.1 S1x32x256.size (by sl_kernel_rfl) y

/-- What case A leaves in scratch `arg25`: its pieces read back over junk. -/
def sout0_A_2 : Vec F S1x32x256 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0).2.2.2.1)

end

section

/- The point's arguments, the case it is in, and the blocks it reads. -/
variable (c : Dev nD) (i : grid0.Coords) (arg3 : Memref sig .tc .vmem S1x32x288 .bf16) (harg3 : arg3.IsWhole) (arg4 : Memref sig .tc .vmem S1x288x128 .f32) (harg4 : arg4.IsWhole) (arg5 : Memref sig .tc .vmem S1x288x128 .f32) (harg5 : arg5.IsWhole) (arg6 : Memref sig .tc .vmem S1x288x128 .f32) (harg6 : arg6.IsWhole) (arg7 : Memref sig .tc .vmem S1x288x128 .f32) (harg7 : arg7.IsWhole) (arg8 : Memref sig .tc .vmem S1x288x128 .f32) (harg8 : arg8.IsWhole) (arg9 : Memref sig .tc .vmem S1x288x128 .f32) (harg9 : arg9.IsWhole) (arg10 : Memref sig .tc .vmem S1x288x128 .f32) (harg10 : arg10.IsWhole) (arg11 : Memref sig .tc .vmem S1x288x128 .f32) (harg11 : arg11.IsWhole) (arg12 : Memref sig .tc .vmem S1x288x128 .f32) (harg12 : arg12.IsWhole) (arg13 : Memref sig .tc .vmem S1x288x128 .f32) (harg13 : arg13.IsWhole) (arg14 : Memref sig .tc .vmem S1x288x128 .f32) (harg14 : arg14.IsWhole) (arg15 : Memref sig .tc .vmem S1x288x128 .f32) (harg15 : arg15.IsWhole) (arg16 : Memref sig .tc .vmem S1x288x128 .f32) (harg16 : arg16.IsWhole) (arg17 : Memref sig .tc .vmem S1x288x128 .f32) (harg17 : arg17.IsWhole) (arg18 : Memref sig .tc .vmem S1x288x128 .f32) (harg18 : arg18.IsWhole) (arg19 : Memref sig .tc .vmem S1x288x128 .f32) (harg19 : arg19.IsWhole) (arg20 : Memref sig .tc .vmem S1x8x288 .f32) (harg20 : arg20.IsWhole) (arg21 : Memref sig .tc .vmem S32x8 .f32) (harg21 : arg21.IsWhole) (arg22 : Memref sig .tc .vmem S1x32x256 .bf16) (harg22 : arg22.IsWhole) (arg23 : Memref sig .tc .vmem S1x32x1 .f32) (harg23 : arg23.IsWhole) (arg24 : Memref sig .tc .vmem S1x32x1 .f32) (harg24 : arg24.IsWhole) (arg25 : Memref sig .tc .vmem S1x32x256 .f32) (harg25 : arg25.IsWhole) (hc0 : ¬cond0_0 i) (hc1 : ¬cond0_1 i)
  (x0 : Vec F S1x32x288 .bf16) (x1 : Vec F S1x288x128 .f32) (x2 : Vec F S1x288x128 .f32) (x3 : Vec F S1x288x128 .f32) (x4 : Vec F S1x288x128 .f32) (x5 : Vec F S1x288x128 .f32) (x6 : Vec F S1x288x128 .f32) (x7 : Vec F S1x288x128 .f32) (x8 : Vec F S1x288x128 .f32) (x9 : Vec F S1x288x128 .f32) (x10 : Vec F S1x288x128 .f32) (x11 : Vec F S1x288x128 .f32) (x12 : Vec F S1x288x128 .f32) (x13 : Vec F S1x288x128 .f32) (x14 : Vec F S1x288x128 .f32) (x15 : Vec F S1x288x128 .f32) (x16 : Vec F S1x288x128 .f32) (x17 : Vec F S1x8x288 .f32) (x18 : Vec F S32x8 .f32) (xt0 : TbBuf0 (F := F) c tbM0_0) (xs0 : Vec F S1x32x1 .f32) (xs1 : Vec F S1x32x1 .f32) (xs2 : Vec F S1x32x256 .f32)

/-- Case B stores nothing into output 19 (the window is idle at its points and not written back there):
    no pieces — a placeholder (junk read back) that nothing consults, since at these points the window is neither
    written back nor read at the next point (Lib/Pipeline.lean "Idle points"). -/
def out0_B_19 : Vec F S1x32x256 .bf16 :=
  VO0_19.read (Elt F) (VO0_19.writes (Elt F) VO0_19.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).1)

/-- Case B's pieces for scratch `arg23`, which the kernel carries between points, cover it: 1 piece of `S1x32x1` tiling it (Lib/Ring.lean `Piece.tiledL`). -/
theorem scover0_B_0 (y : S1x32x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).2.1 S1x32x1.size (by sl_kernel_rfl) y

/-- What case B leaves in scratch `arg23`: its pieces read back over junk. -/
def sout0_B_0 : Vec F S1x32x1 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).2.1)

/-- Case B's pieces for scratch `arg24`, which the kernel carries between points, cover it: 1 piece of `S1x32x1` tiling it (Lib/Ring.lean `Piece.tiledL`). -/
theorem scover0_B_1 (y : S1x32x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).2.2.1 S1x32x1.size (by sl_kernel_rfl) y

/-- What case B leaves in scratch `arg24`: its pieces read back over junk. -/
def sout0_B_1 : Vec F S1x32x1 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).2.2.1)

/-- Case B's pieces for scratch `arg25`, which the kernel carries between points, cover it: 1 piece of `S1x32x256` tiling it (Lib/Ring.lean `Piece.tiledL`). -/
theorem scover0_B_2 (y : S1x32x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).2.2.2.1 S1x32x256.size (by sl_kernel_rfl) y

/-- What case B leaves in scratch `arg25`: its pieces read back over junk. -/
def sout0_B_2 : Vec F S1x32x256 .f32 :=
  VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).2.2.2.1)

end

section

/- The point's arguments, the case it is in, and the blocks it reads. -/
variable (c : Dev nD) (i : grid0.Coords) (arg3 : Memref sig .tc .vmem S1x32x288 .bf16) (harg3 : arg3.IsWhole) (arg4 : Memref sig .tc .vmem S1x288x128 .f32) (harg4 : arg4.IsWhole) (arg5 : Memref sig .tc .vmem S1x288x128 .f32) (harg5 : arg5.IsWhole) (arg6 : Memref sig .tc .vmem S1x288x128 .f32) (harg6 : arg6.IsWhole) (arg7 : Memref sig .tc .vmem S1x288x128 .f32) (harg7 : arg7.IsWhole) (arg8 : Memref sig .tc .vmem S1x288x128 .f32) (harg8 : arg8.IsWhole) (arg9 : Memref sig .tc .vmem S1x288x128 .f32) (harg9 : arg9.IsWhole) (arg10 : Memref sig .tc .vmem S1x288x128 .f32) (harg10 : arg10.IsWhole) (arg11 : Memref sig .tc .vmem S1x288x128 .f32) (harg11 : arg11.IsWhole) (arg12 : Memref sig .tc .vmem S1x288x128 .f32) (harg12 : arg12.IsWhole) (arg13 : Memref sig .tc .vmem S1x288x128 .f32) (harg13 : arg13.IsWhole) (arg14 : Memref sig .tc .vmem S1x288x128 .f32) (harg14 : arg14.IsWhole) (arg15 : Memref sig .tc .vmem S1x288x128 .f32) (harg15 : arg15.IsWhole) (arg16 : Memref sig .tc .vmem S1x288x128 .f32) (harg16 : arg16.IsWhole) (arg17 : Memref sig .tc .vmem S1x288x128 .f32) (harg17 : arg17.IsWhole) (arg18 : Memref sig .tc .vmem S1x288x128 .f32) (harg18 : arg18.IsWhole) (arg19 : Memref sig .tc .vmem S1x288x128 .f32) (harg19 : arg19.IsWhole) (arg20 : Memref sig .tc .vmem S1x8x288 .f32) (harg20 : arg20.IsWhole) (arg21 : Memref sig .tc .vmem S32x8 .f32) (harg21 : arg21.IsWhole) (arg22 : Memref sig .tc .vmem S1x32x256 .bf16) (harg22 : arg22.IsWhole) (arg23 : Memref sig .tc .vmem S1x32x1 .f32) (harg23 : arg23.IsWhole) (arg24 : Memref sig .tc .vmem S1x32x1 .f32) (harg24 : arg24.IsWhole) (arg25 : Memref sig .tc .vmem S1x32x256 .f32) (harg25 : arg25.IsWhole) (hc0 : ¬cond0_0 i) (hc1 : cond0_1 i)
  (x0 : Vec F S1x32x288 .bf16) (x1 : Vec F S1x288x128 .f32) (x2 : Vec F S1x288x128 .f32) (x3 : Vec F S1x288x128 .f32) (x4 : Vec F S1x288x128 .f32) (x5 : Vec F S1x288x128 .f32) (x6 : Vec F S1x288x128 .f32) (x7 : Vec F S1x288x128 .f32) (x8 : Vec F S1x288x128 .f32) (x9 : Vec F S1x288x128 .f32) (x10 : Vec F S1x288x128 .f32) (x11 : Vec F S1x288x128 .f32) (x12 : Vec F S1x288x128 .f32) (x13 : Vec F S1x288x128 .f32) (x14 : Vec F S1x288x128 .f32) (x15 : Vec F S1x288x128 .f32) (x16 : Vec F S1x288x128 .f32) (x17 : Vec F S1x8x288 .f32) (x18 : Vec F S32x8 .f32) (xt0 : TbBuf0 (F := F) c tbM0_0) (xs0 : Vec F S1x32x1 .f32) (xs1 : Vec F S1x32x1 .f32) (xs2 : Vec F S1x32x256 .f32)

/-- Case C's pieces for output 19 tile its block (1 store of `S1x32x256`, checked by the kernel's evaluation: Lib/Ring.lean `Piece.tiledL`, linear in the pieces, through a loop's `@[irreducible]` trip theorem too), so they cover it. -/
theorem cover0_C_19 (y : S1x32x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).1 S1x32x256.size (by sl_kernel_rfl) y

/-- What case C leaves in output 19's staging buffer: its pieces read back over junk. -/
def out0_C_19 : Vec F S1x32x256 .bf16 :=
  VO0_19.read (Elt F) (VO0_19.writes (Elt F) VO0_19.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).1)

/-- Case C's pieces for scratch `arg23`, which the kernel carries between points, cover it: 2 pieces of `S1x32x1` tiling it (Lib/Ring.lean `Piece.tiledL`). -/
theorem scover0_C_0 (y : S1x32x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).2.1 S1x32x1.size (by sl_kernel_rfl) y

/-- What case C leaves in scratch `arg23`: its pieces read back over junk. -/
def sout0_C_0 : Vec F S1x32x1 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).2.1)

/-- Case C's pieces for scratch `arg24`, which the kernel carries between points, cover it: 2 pieces of `S1x32x1` tiling it (Lib/Ring.lean `Piece.tiledL`). -/
theorem scover0_C_1 (y : S1x32x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).2.2.1 S1x32x1.size (by sl_kernel_rfl) y

/-- What case C leaves in scratch `arg24`: its pieces read back over junk. -/
def sout0_C_1 : Vec F S1x32x1 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).2.2.1)

/-- Case C's pieces for scratch `arg25`, which the kernel carries between points, cover it: 2 pieces of `S1x32x256` tiling it (Lib/Ring.lean `Piece.tiledL`). -/
theorem scover0_C_2 (y : S1x32x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).2.2.2.1 S1x32x256.size (by sl_kernel_rfl) y

/-- What case C leaves in scratch `arg25`: its pieces read back over junk. -/
def sout0_C_2 : Vec F S1x32x256 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2).2.2.2.1)

/-! ## What the outputs hold after each point -/

end

/-- What the body of case A leaves at point `t`: the output's block and the running maximum, sum and weighted sum. -/
def caseA (hO : Ok m) (c : Dev nD) (t : Fin (cfgM m hO).N) (h0 : t.val % 4 = 0) (h1 : ¬t.val % 4 = 3) :
    Vec F S1x32x256 .bf16 × Vec F S1x32x1 .f32 × Vec F S1x32x1 .f32 × Vec F S1x32x256 .f32 :=
  (out0_A_19 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0), sout0_A_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) scM0_0 (Memref.isWhole_whole _) scM0_1 (Memref.isWhole_whole _) scM0_2 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0))

/-- What the body of case B leaves at point `t`: the output's block and the running maximum, sum and weighted sum, from what the point before left. -/
def caseB (hO : Ok m) (c : Dev nD) (t : Fin (cfgM m hO).N) (h0 : ¬t.val % 4 = 0) (h1 : ¬t.val % 4 = 3) (p : Vec F S1x32x256 .bf16 × Vec F S1x32x1 .f32 × Vec F S1x32x1 .f32 × Vec F S1x32x256 .f32) :
    Vec F S1x32x256 .bf16 × Vec F S1x32x1 .f32 × Vec F S1x32x1 .f32 × Vec F S1x32x256 .f32 :=
  (out0_B_19 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0) p.2.1 p.2.2.1 p.2.2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0) p.2.1 p.2.2.1 p.2.2.2, sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0) p.2.1 p.2.2.1 p.2.2.2, sout0_B_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) scM0_0 (Memref.isWhole_whole _) scM0_1 (Memref.isWhole_whole _) scM0_2 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0) p.2.1 p.2.2.1 p.2.2.2)

/-- What the body of case C leaves at point `t`: the output's block and the running maximum, sum and weighted sum, from what the point before left. -/
def caseC (hO : Ok m) (c : Dev nD) (t : Fin (cfgM m hO).N) (h0 : ¬t.val % 4 = 0) (h1 : t.val % 4 = 3) (p : Vec F S1x32x256 .bf16 × Vec F S1x32x1 .f32 × Vec F S1x32x1 .f32 × Vec F S1x32x256 .f32) :
    Vec F S1x32x256 .bf16 × Vec F S1x32x1 .f32 × Vec F S1x32x1 .f32 × Vec F S1x32x256 .f32 :=
  (out0_C_19 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0) p.2.1 p.2.2.1 p.2.2.2, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0) p.2.1 p.2.2.1 p.2.2.2, sout0_C_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0) p.2.1 p.2.2.1 p.2.2.2, sout0_C_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) scM0_0 (Memref.isWhole_whole _) scM0_1 (Memref.isWhole_whole _) scM0_2 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0) p.2.1 p.2.2.1 p.2.2.2)

/-- What the output's block and the running state hold after the body of point `n`, by recursion on the point: the first chunk of a
    batch starts afresh, a later one goes on from what the point before left. -/
def outsAt0 (hO : Ok m) (c : Dev nD) : (n : ℕ) → n < (cfgM m hO).N → Vec F S1x32x256 .bf16 × Vec F S1x32x1 .f32 × Vec F S1x32x1 .f32 × Vec F S1x32x256 .f32
  | 0, hn => caseA m hO c ⟨0, hn⟩ (Nat.zero_mod _) (by intro h; exact absurd ((Nat.zero_mod 4).symm.trans h) (by decide))
  | n + 1, hn =>
    if h0 : (n + 1) % 4 = 0 then
      caseA m hO c ⟨n + 1, hn⟩ h0 (by intro h; exact absurd (h0.symm.trans h) (by decide))
    else
      if h1 : (n + 1) % 4 = 3 then caseC m hO c ⟨n + 1, hn⟩ h0 h1 (outsAt0 hO c n (Nat.lt_of_succ_lt hn))
      else caseB m hO c ⟨n + 1, hn⟩ h0 h1 (outsAt0 hO c n (Nat.lt_of_succ_lt hn))

/-- A batch's first chunk leaves what case A leaves. -/
theorem outsAt0_A (hO : Ok m) (c : Dev nD) (t : Fin (cfgM m hO).N) (h0 : t.val % 4 = 0) (h1 : ¬t.val % 4 = 3) :
    outsAt0 m hO c t.val t.isLt = caseA m hO c t h0 h1 := by
  obtain ⟨n, hn⟩ := t
  cases n with
  | zero => rw [outsAt0]
  | succ n => rw [outsAt0]; exact dif_pos h0

/-- A middle chunk leaves what case B leaves over what the chunk before left. -/
theorem outsAt0_B (hO : Ok m) (c : Dev nD) (t : Fin (cfgM m hO).N) (h0 : ¬t.val % 4 = 0) (h1 : ¬t.val % 4 = 3) :
    outsAt0 m hO c t.val t.isLt = caseB m hO c t h0 h1 (outsAt0 m hO c (t.val - 1) (Nat.lt_of_le_of_lt (Nat.sub_le _ _) t.isLt)) := by
  obtain ⟨n, hn⟩ := t
  cases n with
  | zero => exact absurd (Nat.zero_mod 4) h0
  | succ n => rw [outsAt0]; exact (dif_neg h0).trans (dif_neg h1)

/-- A batch's last chunk leaves what case C leaves over what the chunk before left. -/
theorem outsAt0_C (hO : Ok m) (c : Dev nD) (t : Fin (cfgM m hO).N) (h0 : ¬t.val % 4 = 0) (h1 : t.val % 4 = 3) :
    outsAt0 m hO c t.val t.isLt = caseC m hO c t h0 h1 (outsAt0 m hO c (t.val - 1) (Nat.lt_of_le_of_lt (Nat.sub_le _ _) t.isLt)) := by
  obtain ⟨n, hn⟩ := t
  cases n with
  | zero => exact absurd (Nat.zero_mod 4) h0
  | succ n => rw [outsAt0]; exact (dif_neg h0).trans (dif_pos h1)

end Cert.KernelIdeal.Gen

end
-- ==== Proof.KernelIdealFrame.lean ====
/- KernelIdeal's launch: the region's proof data, its body obligation, the run and the frame, over what KernelIdealOuts names.
   The text is the launch kit's own. -/
module

public import proofs.«01_k».proof.Proof.KernelIdealOuts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2.1) ∗ owns (c : Thread nD τ) scM0_2 fullShare ((outsAt0 m hO c (n - 1) (by omega)).2.2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => (outsAt0 m hO c t.val t.isLt).1
    | ⟨_ + 20, h⟩ => absurd h (Nat.not_lt.2 (Nat.le_add_left _ _))
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (dats m hO 0 c).leavesExact 13 t
    ∗ (dats m hO 0 c).leavesExact 14 t
    ∗ (dats m hO 0 c).leavesExact 15 t
    ∗ (dats m hO 0 c).leavesExact 16 t
    ∗ (dats m hO 0 c).leavesExact 17 t
    ∗ (dats m hO 0 c).leavesExact 18 t
    ∗ (dats m hO 0 c).leavesExact 19 t)

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 512 := lt_of_lt_of_eq t.isLt (show (cfgM m hO).N = 512 from N_0)
  by_cases h0 : t.val % 4 = 0
  · by_cases h1 : t.val % 4 = 3
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [show (dats m hO 0 c).leavesExact 13 t = owns (c : Thread nD τ) (ms0_13 m hO t) fullShare ((dats m hO 0 c).after 13 t) from by
      unfold Dat.leavesExact; rw [liveAt0_13 m hO t]; try rfl, after0_13]
      rw [show (dats m hO 0 c).leavesExact 14 t = owns (c : Thread nD τ) (ms0_14 m hO t) fullShare ((dats m hO 0 c).after 14 t) from by
      unfold Dat.leavesExact; rw [liveAt0_14 m hO t]; try rfl, after0_14]
      rw [show (dats m hO 0 c).leavesExact 15 t = owns (c : Thread nD τ) (ms0_15 m hO t) fullShare ((dats m hO 0 c).after 15 t) from by
      unfold Dat.leavesExact; rw [liveAt0_15 m hO t]; try rfl, after0_15]
      rw [show (dats m hO 0 c).leavesExact 16 t = owns (c : Thread nD τ) (ms0_16 m hO t) fullShare ((dats m hO 0 c).after 16 t) from by
      unfold Dat.leavesExact; rw [liveAt0_16 m hO t]; try rfl, after0_16]
      rw [show (dats m hO 0 c).leavesExact 17 t = owns (c : Thread nD τ) (ms0_17 m hO t) fullShare ((dats m hO 0 c).after 17 t) from by
      unfold Dat.leavesExact; rw [liveAt0_17 m hO t]; try rfl, after0_17]
      rw [show (dats m hO 0 c).leavesExact 18 t = owns (c : Thread nD τ) (ms0_18 m hO t) fullShare ((dats m hO 0 c).after 18 t) from by
      unfold Dat.leavesExact; rw [liveAt0_18 m hO t]; try rfl, after0_18]
      rw [Dat.leavesExact_idle (dats m hO 0 c) 19 t (idleAt0_19_A m hO t ((hcond0_0 t).mpr h0) (fun h => h1 ((hcond0_1 t).mp h))) (noFlush0_19_A m hO t ((hcond0_0 t).mpr h0) (fun h => h1 ((hcond0_1 t).mp h)))]
      by_cases hz : t.val = 0
      · rw [PhiS_castSucc m hO c t, PhiS_zero m hO c _ _ hz, PhiT0_eq, PhiA0_eq]
        rw [outsAt0_A m hO c t h0 h1]
        unfold caseA sout0_A_0 sout0_A_1 sout0_A_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
        iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [HS0]; · iexact HS0
        isplitl [HS1]; · iexact HS1
        isplitl [HS2]; · iexact HS2
        isplitl [HT0]; · iexact HT0
        iintro ⟨H0, H1, H2, H3, H4, H5, H6, H7, H8, H9, H10, H11, H12, H13, H14, H15, H16, H17, H18, H19, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        iexists _; iexact H19
      · rw [PhiS_castSucc m hO c t, PhiS_pos m hO c _ _ hz, PhiT0_eq]
        rw [outsAt0_A m hO c t h0 h1]
        unfold caseA sout0_A_0 sout0_A_1 sout0_A_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
        iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [HS0]; · iexists _; iexact HS0
        isplitl [HS1]; · iexists _; iexact HS1
        isplitl [HS2]; · iexists _; iexact HS2
        isplitl [HT0]; · iexact HT0
        iintro ⟨H0, H1, H2, H3, H4, H5, H6, H7, H8, H9, H10, H11, H12, H13, H14, H15, H16, H17, H18, H19, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        iexists _; iexact H19
  · by_cases h1 : t.val % 4 = 3
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [show (dats m hO 0 c).leavesExact 13 t = owns (c : Thread nD τ) (ms0_13 m hO t) fullShare ((dats m hO 0 c).after 13 t) from by
      unfold Dat.leavesExact; rw [liveAt0_13 m hO t]; try rfl, after0_13]
      rw [show (dats m hO 0 c).leavesExact 14 t = owns (c : Thread nD τ) (ms0_14 m hO t) fullShare ((dats m hO 0 c).after 14 t) from by
      unfold Dat.leavesExact; rw [liveAt0_14 m hO t]; try rfl, after0_14]
      rw [show (dats m hO 0 c).leavesExact 15 t = owns (c : Thread nD τ) (ms0_15 m hO t) fullShare ((dats m hO 0 c).after 15 t) from by
      unfold Dat.leavesExact; rw [liveAt0_15 m hO t]; try rfl, after0_15]
      rw [show (dats m hO 0 c).leavesExact 16 t = owns (c : Thread nD τ) (ms0_16 m hO t) fullShare ((dats m hO 0 c).after 16 t) from by
      unfold Dat.leavesExact; rw [liveAt0_16 m hO t]; try rfl, after0_16]
      rw [show (dats m hO 0 c).leavesExact 17 t = owns (c : Thread nD τ) (ms0_17 m hO t) fullShare ((dats m hO 0 c).after 17 t) from by
      unfold Dat.leavesExact; rw [liveAt0_17 m hO t]; try rfl, after0_17]
      rw [show (dats m hO 0 c).leavesExact 18 t = owns (c : Thread nD τ) (ms0_18 m hO t) fullShare ((dats m hO 0 c).after 18 t) from by
      unfold Dat.leavesExact; rw [liveAt0_18 m hO t]; try rfl, after0_18]
      rw [show (dats m hO 0 c).leavesExact 19 t = owns (c : Thread nD τ) (ms0_19 m hO t) fullShare ((dats m hO 0 c).after 19 t) from by
      unfold Dat.leavesExact; rw [liveAt0_19_C m hO t (fun h => h0 ((hcond0_0 t).mp h)) ((hcond0_1 t).mpr h1)]; try rfl, after0_19]
      by_cases hz : t.val = 0
      · exfalso; have hN : t.val < 512 := lt_of_lt_of_eq t.isLt (show (cfgM m hO).N = 512 from N_0); omega
      · rw [PhiS_castSucc m hO c t, PhiS_pos m hO c _ _ hz, PhiT0_eq]
        rw [outsAt0_C m hO c t h0 h1]
        unfold caseC out0_C_19 sout0_C_0 sout0_C_1 sout0_C_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
        iapply ((kernelRun0_C c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexists _; iexact H19
        isplitl [HS0]; · iexact HS0
        isplitl [HS1]; · iexact HS1
        isplitl [HS2]; · iexact HS2
        isplitl [HT0]; · iexact HT0
        iintro ⟨H0, H1, H2, H3, H4, H5, H6, H7, H8, H9, H10, H11, H12, H13, H14, H15, H16, H17, H18, ⟨%e19, H19⟩, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        unfold owns; iexists _; isplitr
        swap; · iexact H19
        ipureintro; exact View.read_writes_of_cover _ _ _ _ _ (cover0_C_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [show (dats m hO 0 c).leavesExact 13 t = owns (c : Thread nD τ) (ms0_13 m hO t) fullShare ((dats m hO 0 c).after 13 t) from by
      unfold Dat.leavesExact; rw [liveAt0_13 m hO t]; try rfl, after0_13]
      rw [show (dats m hO 0 c).leavesExact 14 t = owns (c : Thread nD τ) (ms0_14 m hO t) fullShare ((dats m hO 0 c).after 14 t) from by
      unfold Dat.leavesExact; rw [liveAt0_14 m hO t]; try rfl, after0_14]
      rw [show (dats m hO 0 c).leavesExact 15 t = owns (c : Thread nD τ) (ms0_15 m hO t) fullShare ((dats m hO 0 c).after 15 t) from by
      unfold Dat.leavesExact; rw [liveAt0_15 m hO t]; try rfl, after0_15]
      rw [show (dats m hO 0 c).leavesExact 16 t = owns (c : Thread nD τ) (ms0_16 m hO t) fullShare ((dats m hO 0 c).after 16 t) from by
      unfold Dat.leavesExact; rw [liveAt0_16 m hO t]; try rfl, after0_16]
      rw [show (dats m hO 0 c).leavesExact 17 t = owns (c : Thread nD τ) (ms0_17 m hO t) fullShare ((dats m hO 0 c).after 17 t) from by
      unfold Dat.leavesExact; rw [liveAt0_17 m hO t]; try rfl, after0_17]
      rw [show (dats m hO 0 c).leavesExact 18 t = owns (c : Thread nD τ) (ms0_18 m hO t) fullShare ((dats m hO 0 c).after 18 t) from by
      unfold Dat.leavesExact; rw [liveAt0_18 m hO t]; try rfl, after0_18]
      rw [Dat.leavesExact_idle (dats m hO 0 c) 19 t (idleAt0_19_B m hO t (fun h => h0 ((hcond0_0 t).mp h)) (fun h => h1 ((hcond0_1 t).mp h))) (noFlush0_19_B m hO t (fun h => h0 ((hcond0_0 t).mp h)) (fun h => h1 ((hcond0_1 t).mp h)))]
      by_cases hz : t.val = 0
      · exfalso; have hN : t.val < 512 := lt_of_lt_of_eq t.isLt (show (cfgM m hO).N = 512 from N_0); omega
      · rw [PhiS_castSucc m hO c t, PhiS_pos m hO c _ _ hz, PhiT0_eq]
        rw [outsAt0_B m hO c t h0 h1]
        unfold caseB sout0_B_0 sout0_B_1 sout0_B_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
        iapply ((kernelRun0_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [HS0]; · iexact HS0
        isplitl [HS1]; · iexact HS1
        isplitl [HS2]; · iexact HS2
        isplitl [HT0]; · iexact HT0
        iintro ⟨H0, H1, H2, H3, H4, H5, H6, H7, H8, H9, H10, H11, H12, H13, H14, H15, H16, H17, H18, H19, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        iexists _; iexact H19

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 512 := N_0; omega)

/-! ## The run and the frame -/

-- `θ_run_frameP_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.KernelIdeal.Gen

end
-- ==== Proof.Frames.lean ====
/- The frames of the kernel, of its idealization and of the reference, and the named constant. -/
module

public import proofs.«01_k».proof.Proof.Pages
public import proofs.«01_k».proof.Proof.Pre
public import proofs.«01_k».proof.Proof.PreTame
public import proofs.«01_k».proof.Proof.KernelFrame
public import proofs.«01_k».proof.Proof.KernelIdealFrame
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel runs, from every memory whose page table names pages of the pool; its arguments and the counters end as they began. -/
theorem frame_kernel : Cert.quiescent_Kernel := fun m ρ h =>
  Cert.Kernel.Gen.frame m ρ (Cert.Kernel.Gen.ok_of_lt m fun i => Cert.Pages.of_pages _ _ _ _ (h 0) i)

/-- So does the kernel over the extended reals. -/
theorem frame_ideal : Cert.quiescent_KernelIdeal := fun m ρ h =>
  Cert.KernelIdeal.Gen.frame m ρ (Cert.KernelIdeal.Gen.ok_of_lt m fun i => Cert.Pages.of_pages _ _ _ _ (h 0) i)

/-- So it does when the float arguments are real as well. -/
theorem frame_ideal_tame : Cert.quiescent_KernelIdeal_pre_tame := fun m ρ h =>
  Cert.KernelIdeal.Gen.frame m ρ (Cert.KernelIdeal.Gen.ok_of_lt m fun i => (Cert.Pages.of_tame _ _ _ _ (h 0)).1 i)

/-- The reference runs, its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference runs from every memory, so from those with real arguments. -/
theorem frame_reference_tame : Cert.quiescent_ReferenceIdeal_pre_tame := fun m ρ _ => frame_reference m ρ trivial

/-- The mask's constant is minus infinity over the extended reals. -/
theorem mask : Cert.preserves_Kernel_KernelIdeal :=
  IdealRules.named_const.statement Cert.KernelIdeal.κ "mask" .f32 0xF149F2CA#32 ⊥ rfl

end Cert.Proof

end
-- ==== Proof.Host.lean ====
/- The arrays that the host prepares for the launch, read at an index: the queries reshaped, the new rows padded, the mask of
   the new rows, the transposed cache. -/
module

public import proofs.«01_k».proof.Proof.KernelIdealOuts
public import Idealize.ShloMosaic.Lib.StableHlo.RunRead
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.ShloMosaic.Pointwise

variable (m : (ℓ : Loc nD τ sig) → Buf (Elt Ideal) ℓ)

/-- The mask as the host computes it. -/
def mask : FVec Ideal S32x8 .f32 :=
  uitofp .f32 (andi (cmpi .sle (broadcastInDim S32x8 ![0, 1] bcast_S1x8_S32x8_0_1 (broadcastInDim S1x8 ![1] bcast_S8_S1x8_1 (iotaInDim S8 32 0)))
    (broadcastInDim S32x8 ![0, 1] bcast_S32x1_S32x8_0_1 (broadcastInDim S32x1 ![0] bcast_S32_S32x1_0 (shapeCast S32 (broadcastInDim S4x8 ![0] bcast_S4_S4x8_0 (iotaInDim S4 32 0)) shapeCasts_S4x8_S32))))
    (broadcastInDim S32x8 ![0, 1] bcast_S1x8_S32x8_0_1 (cmpi .slt (broadcastInDim S1x8 ![1] bcast_S8_S1x8_1 (iotaInDim S8 32 0)) (broadcastInDim S1x8 ![] bcast_S_S1x8 (constantI S_ 32 4#32)))))

/-- The new rows padded with zeros to eight. -/
def padded (x : FVec Ideal S128x4x288 .f32) : FVec Ideal S128x8x288 .f32 :=
  pad S128x8x288 ![0, 0, 0] ![0, 4, 0] ![0, 0, 0] x (sitofp .f32 (constantI S_ 32 0#32)) pads_S128x4x288_S128x8x288_000_040_000 h_S_

theorem V_v1 (c : Dev nD) : V m c main_v1 = shapeCast S128x32x288 (m ((c : Thread nD τ).loc main_arg1)) shapeCasts_S128x4x8x288_S128x32x288 := by
  show StableHlo.after (hostOps0 ++ (hostOps0_1 ++ (hostOps0_2 ++ []))) _ (Proc.devRef .tc main_v1) = _
  after_reads_simp
  rfl

theorem V_v2 (c : Dev nD) : V m c main_v2 = padded (m ((c : Thread nD τ).loc main_arg3)) := by
  show StableHlo.after (hostOps0 ++ (hostOps0_1 ++ (hostOps0_2 ++ []))) _ (Proc.devRef .tc main_v2) = _
  after_reads_simp
  rfl

theorem V_v16 (c : Dev nD) : V m c main_v16 = mask := by
  show StableHlo.after (hostOps0 ++ (hostOps0_1 ++ (hostOps0_2 ++ []))) _ (Proc.devRef .tc main_v16) = _
  after_reads_simp
  rfl

theorem V_v17 (c : Dev nD) : V m c main_v17 = transpose S10240x288x128 [0, 2, 1] (m ((c : Thread nD τ).loc main_arg2)) transposes_S10240x128x288_S10240x288x128_0_2_1 := by
  show StableHlo.after (hostOps0 ++ (hostOps0_1 ++ (hostOps0_2 ++ []))) _ (Proc.devRef .tc main_v17) = _
  after_reads_simp
  try rfl

/-- Row `8 s + h` of the queries is head `h` of new row `s`. -/
theorem v1_at (q : FVec Ideal S128x4x8x288 .bf16) (b : Fin 128) (s : Fin 4) (h : Fin 8) (r : Fin 32) (j : Fin 288) (hr : r.val = 8 * s.val + h.val) :
    shapeCast S128x32x288 q shapeCasts_S128x4x8x288_S128x32x288 (ix3 b r j) = q (ix4 b s h j) := by
  pointwise []
  have e : r.val / 8 = s.val ∧ r.val % 8 = h.val := by omega
  have h1 : (⟨r.val / 8, by omega⟩ : Fin 4) = s := Fin.ext e.1
  have h2 : (⟨r.val % 8, by omega⟩ : Fin 8) = h := Fin.ext e.2
  exact congrArg₂ (fun s' h' => q (ix4 b s' h' j)) h1 h2

/-- A new row of the padded array is the row given. -/
theorem padded_at (x : FVec Ideal S128x4x288 .f32) (b : Fin 128) (k : Fin 4) (j : Fin 288) :
    padded x (ix3 b (Fin.castLE (by omega) k) j) = x (ix3 b k j) := by
  have hk := k.isLt
  pointwise [padded]
  exact dif_pos hk

/-- A bit read as a number is positive exactly when it is set. -/
theorem pos_bit (x : BitVec 1) : (0 : EReal) < (FloatOps.uitofp (F := Ideal) .f32 x : EReal) ↔ x = 1#1 := by
  have hx : x = 0#1 ∨ x = 1#1 := by revert x; decide
  have e : (FloatOps.uitofp (F := Ideal) .f32 x : EReal) = ((x.toNat : ℝ) : EReal) := rfl
  rw [e]
  rcases hx with rfl | rfl
  · simp
  · simp

/-- The mask is positive at the new rows up to the query's own. -/
theorem mask_at (r : Fin 32) (k : Fin 8) : (0 : EReal) < mask (ix2 r k) ↔ k.val < 4 ∧ k.val ≤ r.val / 8 := by
  pointwise [mask]
  have hr := r.isLt
  have hk := k.isLt
  have ofBool_eq (x : Bool) : (BitVec.ofBool x = 1#1) ↔ x = true := by cases x <;> decide
  have hc : (IntOp.andi (IntOp.cmpi .sle (BitVec.ofNat 32 k.val) (BitVec.ofNat 32 (r.val / 8))) (IntOp.cmpi .slt (BitVec.ofNat 32 k.val) 4#32) = 1#1)
      ↔ k.val < 4 ∧ k.val ≤ r.val / 8 := by
    simp only [IntOp.andi_eq_one, IntOp.cmpi, ofBool_eq, BitVec.sle_eq_decide, BitVec.slt_eq_decide, decide_eq_true_eq, BitVec.toInt_eq_toNat_cond,
      BitVec.toNat_ofNat]
    omega
  rw [← hc]
  exact pos_bit _

theorem v17_at (x : FVec Ideal S10240x128x288 .f32) (b : Fin 10240) (j : Fin 288) (k : Fin 128) :
    transpose S10240x288x128 [0, 2, 1] x transposes_S10240x128x288_S10240x288x128_0_2_1 (ix3 b j k) = x (ix3 b k j) := by
  pointwise []

end Cert.KernelIdeal.Value

end
-- ==== Proof.Blocks.lean ====
/- The blocks the windows read: the queries, the pages that the table names, the new rows and the mask. -/
module

public import proofs.«01_k».proof.Proof.KernelIdealOuts
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.ShloMosaic.Pointwise

variable {F : FTy → Type} [FloatOps F] [Named F]
variable (m : (ℓ : Loc nD τ sig) → Buf (Elt F) ℓ)

/-- The word of the table that a unit rectangle reads. -/
theorem table_at (pf : pre0.Contents (Elt F)) (off : Fin 2 → ℕ) (h : ∀ a, off a + S1x1.size a ≤ S128x64.size a) (h1 : S1x1.numel = 1)
    (b : Fin 128) (g : Fin 64) (hb : off 0 = b.val) (hg : off 1 = g.val) :
    pf.at 0 (Rect.unit (s := S128x64) off S1x1.size h) h1 = pf 0 (ix2 b g) := by
  show pf 0 _ = pf 0 _
  congr 1
  funext a
  refine Fin.ext ?_
  match a with
  | ⟨0, _⟩ => show off 0 + 1 * 0 = b.val; omega
  | ⟨1, _⟩ => show off 1 + 1 * 0 = g.val; omega

/-- The word of a sample. -/
theorem row_word (b : Fin 128) : (Scalar.indexCast (BitVec.ofNat 32 b.val)).toNat = b.val := by
  have := b.isLt
  unfold Scalar.indexCast
  rw [BitVec.toNat_ofNat]
  exact Nat.mod_eq_of_lt (by omega)

/-- The word of a page's place in its sample's row of the table. -/
theorem page_word (c : Fin 4) (r : Fin 16) : (Scalar.indexCast (Scalar.addi (Scalar.muli (BitVec.ofNat 32 c.val) 16#32) (BitVec.ofNat 32 r.val))).toNat = 16 * c.val + r.val := by
  revert c r; decide

/-- Window 1's block is the page that the table names. -/
theorem index_1 (hO : Ok m) (c : Dev nD) (t : Fin (cfgM m hO).N) (b : Fin 128) (g : Fin 64) (hb : (grid0.coords t 0).val = b.val)
   (hg : g.val = 16 * (grid0.coords t 1).val + 0) :
   (((cfgM m hO).win 1).index t : Fin 3 → ℕ) = ![(tbl m 0 (ix2 b g) : BitVec 32).toNat, 0, 0] := by
  show ![(_ : BitVec 32).toNat, 0, 0] = _
  congr 2
  refine table_at (tbl m) _ _ _ b g ?_ ?_
  · exact (row_word (grid0.coords t 0)).trans hb
  · exact (page_word (grid0.coords t 1) 0).trans hg.symm

/-- Window 1's block, read at an index. -/
theorem block_1 (hO : Ok m) (c : Dev nD) (t : Fin (cfgM m hO).N) (b : Fin 128) (g : Fin 64) (hb : (grid0.coords t 0).val = b.val)
   (hg : g.val = 16 * (grid0.coords t 1).val + 0) (hlt : (tbl m 0 (ix2 b g) : BitVec 32).toNat < 10240) (j : Fin 288) (k : Fin 128) :
   (iblk m hO c 1 t : Vec F S1x288x128 .f32) (ix3 0 j k) = (V m c main_v17 : Vec F S10240x288x128 .f32) (ix3 ⟨(tbl m 0 (ix2 b g) : BitVec 32).toNat, hlt⟩ j k) := by
  have hi := index_1 m hO c t b g hb hg
  refine (View.read_apply ..).trans ?_
  show (V m c main_v17 : Vec F S10240x288x128 .f32) _ = _
  congr 1
  funext a
  refine Fin.ext ?_
  match a with
  | ⟨0, _⟩ => exact (congrArg (fun x => x * 1 + 1 * 0) (congrFun hi (0 : Fin 3))).trans (by show (tbl m 0 (ix2 b g) : BitVec 32).toNat * 1 + 1 * 0 = (tbl m 0 (ix2 b g) : BitVec 32).toNat; omega)
  | ⟨1, _⟩ => exact (congrArg (fun x => x * 288 + 1 * j.val) (congrFun hi (1 : Fin 3))).trans (by show 0 * 288 + 1 * j.val = j.val; omega)
  | ⟨2, _⟩ => exact (congrArg (fun x => x * 128 + 1 * k.val) (congrFun hi (2 : Fin 3))).trans (by show 0 * 128 + 1 * k.val = k.val; omega)

/-- Window 2's block is the page that the table names. -/
theorem index_2 (hO : Ok m) (c : Dev nD) (t : Fin (cfgM m hO).N) (b : Fin 128) (g : Fin 64) (hb : (grid0.coords t 0).val = b.val)
   (hg : g.val = 16 * (grid0.coords t 1).val + 1) :
   (((cfgM m hO).win 2).index t : Fin 3 → ℕ) = ![(tbl m 0 (ix2 b g) : BitVec 32).toNat, 0, 0] := by
  show ![(_ : BitVec 32).toNat, 0, 0] = _
  congr 2
  refine table_at (tbl m) _ _ _ b g ?_ ?_
  · exact (row_word (grid0.coords t 0)).trans hb
  · exact (page_word (grid0.coords t 1) 1).trans hg.symm

/-- Window 2's block, read at an index. -/
theorem block_2 (hO : Ok m) (c : Dev nD) (t : Fin (cfgM m hO).N) (b : Fin 128) (g : Fin 64) (hb : (grid0.coords t 0).val = b.val)
   (hg : g.val = 16 * (grid0.coords t 1).val + 1) (hlt : (tbl m 0 (ix2 b g) : BitVec 32).toNat < 10240) (j : Fin 288) (k : Fin 128) :
   (iblk m hO c 2 t : Vec F S1x288x128 .f32) (ix3 0 j k) = (V m c main_v17 : Vec F S10240x288x128 .f32) (ix3 ⟨(tbl m 0 (ix2 b g) : BitVec 32).toNat, hlt⟩ j k) := by
  have hi := index_2 m hO c t b g hb hg
  refine (View.read_apply ..).trans ?_
  show (V m c main_v17 : Vec F S10240x288x128 .f32) _ = _
  congr 1
  funext a
  refine Fin.ext ?_
  match a with
  | ⟨0, _⟩ => exact (congrArg (fun x => x * 1 + 1 * 0) (congrFun hi (0 : Fin 3))).trans (by show (tbl m 0 (ix2 b g) : BitVec 32).toNat * 1 + 1 * 0 = (tbl m 0 (ix2 b g) : BitVec 32).toNat; omega)
  | ⟨1, _⟩ => exact (congrArg (fun x => x * 288 + 1 * j.val) (congrFun hi (1 : Fin 3))).trans (by show 0 * 288 + 1 * j.val = j.val; omega)
  | ⟨2, _⟩ => exact (congrArg (fun x => x * 128 + 1 * k.val) (congrFun hi (2 : Fin 3))).trans (by show 0 * 128 + 1 * k.val = k.val; omega)

/-- Window 3's block is the page that the table names. -/
theorem index_3 (hO : Ok m) (c : Dev nD) (t : Fin (cfgM m hO).N) (b : Fin 128) (g : Fin 64) (hb : (grid0.coords t 0).val = b.val)
   (hg : g.val = 16 * (grid0.coords t 1).val + 2) :
   (((cfgM m hO).win 3).index t : Fin 3 → ℕ) = ![(tbl m 0 (ix2 b g) : BitVec 32).toNat, 0, 0] := by
  show ![(_ : BitVec 32).toNat, 0, 0] = _
  congr 2
  refine table_at (tbl m) _ _ _ b g ?_ ?_
  · exact (row_word (grid0.coords t 0)).trans hb
  · exact (page_word (grid0.coords t 1) 2).trans hg.symm

/-- Window 3's block, read at an index. -/
theorem block_3 (hO : Ok m) (c : Dev nD) (t : Fin (cfgM m hO).N) (b : Fin 128) (g : Fin 64) (hb : (grid0.coords t 0).val = b.val)
   (hg : g.val = 16 * (grid0.coords t 1).val + 2) (hlt : (tbl m 0 (ix2 b g) : BitVec 32).toNat < 10240) (j : Fin 288) (k : Fin 128) :
   (iblk m hO c 3 t : Vec F S1x288x128 .f32) (ix3 0 j k) = (V m c main_v17 : Vec F S10240x288x128 .f32) (ix3 ⟨(tbl m 0 (ix2 b g) : BitVec 32).toNat, hlt⟩ j k) := by
  have hi := index_3 m hO c t b g hb hg
  refine (View.read_apply ..).trans ?_
  show (V m c main_v17 : Vec F S10240x288x128 .f32) _ = _
  congr 1
  funext a
  refine Fin.ext ?_
  match a with
  | ⟨0, _⟩ => exact (congrArg (fun x => x * 1 + 1 * 0) (congrFun hi (0 : Fin 3))).trans (by show (tbl m 0 (ix2 b g) : BitVec 32).toNat * 1 + 1 * 0 = (tbl m 0 (ix2 b g) : BitVec 32).toNat; omega)
  | ⟨1, _⟩ => exact (congrArg (fun x => x * 288 + 1 * j.val) (congrFun hi (1 : Fin 3))).trans (by show 0 * 288 + 1 * j.val = j.val; omega)
  | ⟨2, _⟩ => exact (congrArg (fun x => x * 128 + 1 * k.val) (congrFun hi (2 : Fin 3))).trans (by show 0 * 128 + 1 * k.val = k.val; omega)

/-- Window 4's block is the page that the table names. -/
theorem index_4 (hO : Ok m) (c : Dev nD) (t : Fin (cfgM m hO).N) (b : Fin 128) (g : Fin 64) (hb : (grid0.coords t 0).val = b.val)
   (hg : g.val = 16 * (grid0.coords t 1).val + 3) :
   (((cfgM m hO).win 4).index t : Fin 3 → ℕ) = ![(tbl m 0 (ix2 b g) : BitVec 32).toNat, 0, 0] := by
  show ![(_ : BitVec 32).toNat, 0, 0] = _
  congr 2
  refine table_at (tbl m) _ _ _ b g ?_ ?_
  · exact (row_word (grid0.coords t 0)).trans hb
  · exact (page_word (grid0.coords t 1) 3).trans hg.symm

/-- Window 4's block, read at an index. -/
theorem block_4 (hO : Ok m) (c : Dev nD) (t : Fin (cfgM m hO).N) (b : Fin 128) (g : Fin 64) (hb : (grid0.coords t 0).val = b.val)
   (hg : g.val = 16 * (grid0.coords t 1).val + 3) (hlt : (tbl m 0 (ix2 b g) : BitVec 32).toNat < 10240) (j : Fin 288) (k : Fin 128) :
   (iblk m hO c 4 t : Vec F S1x288x128 .f32) (ix3 0 j k) = (V m c main_v17 : Vec F S10240x288x128 .f32) (ix3 ⟨(tbl m 0 (ix2 b g) : BitVec 32).toNat, hlt⟩ j k) := by
  have hi := index_4 m hO c t b g hb hg
  refine (View.read_apply ..).trans ?_
  show (V m c main_v17 : Vec F S10240x288x128 .f32) _ = _
  congr 1
  funext a
  refine Fin.ext ?_
  match a with
  | ⟨0, _⟩ => exact (congrArg (fun x => x * 1 + 1 * 0) (congrFun hi (0 : Fin 3))).trans (by show (tbl m 0 (ix2 b g) : BitVec 32).toNat * 1 + 1 * 0 = (tbl m 0 (ix2 b g) : BitVec 32).toNat; omega)
  | ⟨1, _⟩ => exact (congrArg (fun x => x * 288 + 1 * j.val) (congrFun hi (1 : Fin 3))).trans (by show 0 * 288 + 1 * j.val = j.val; omega)
  | ⟨2, _⟩ => exact (congrArg (fun x => x * 128 + 1 * k.val) (congrFun hi (2 : Fin 3))).trans (by show 0 * 128 + 1 * k.val = k.val; omega)

/-- Window 5's block is the page that the table names. -/
theorem index_5 (hO : Ok m) (c : Dev nD) (t : Fin (cfgM m hO).N) (b : Fin 128) (g : Fin 64) (hb : (grid0.coords t 0).val = b.val)
   (hg : g.val = 16 * (grid0.coords t 1).val + 4) :
   (((cfgM m hO).win 5).index t : Fin 3 → ℕ) = ![(tbl m 0 (ix2 b g) : BitVec 32).toNat, 0, 0] := by
  show ![(_ : BitVec 32).toNat, 0, 0] = _
  congr 2
  refine table_at (tbl m) _ _ _ b g ?_ ?_
  · exact (row_word (grid0.coords t 0)).trans hb
  · exact (page_word (grid0.coords t 1) 4).trans hg.symm

/-- Window 5's block, read at an index. -/
theorem block_5 (hO : Ok m) (c : Dev nD) (t : Fin (cfgM m hO).N) (b : Fin 128) (g : Fin 64) (hb : (grid0.coords t 0).val = b.val)
   (hg : g.val = 16 * (grid0.coords t 1).val + 4) (hlt : (tbl m 0 (ix2 b g) : BitVec 32).toNat < 10240) (j : Fin 288) (k : Fin 128) :
   (iblk m hO c 5 t : Vec F S1x288x128 .f32) (ix3 0 j k) = (V m c main_v17 : Vec F S10240x288x128 .f32) (ix3 ⟨(tbl m 0 (ix2 b g) : BitVec 32).toNat, hlt⟩ j k) := by
  have hi := index_5 m hO c t b g hb hg
  refine (View.read_apply ..).trans ?_
  show (V m c main_v17 : Vec F S10240x288x128 .f32) _ = _
  congr 1
  funext a
  refine Fin.ext ?_
  match a with
  | ⟨0, _⟩ => exact (congrArg (fun x => x * 1 + 1 * 0) (congrFun hi (0 : Fin 3))).trans (by show (tbl m 0 (ix2 b g) : BitVec 32).toNat * 1 + 1 * 0 = (tbl m 0 (ix2 b g) : BitVec 32).toNat; omega)
  | ⟨1, _⟩ => exact (congrArg (fun x => x * 288 + 1 * j.val) (congrFun hi (1 : Fin 3))).trans (by show 0 * 288 + 1 * j.val = j.val; omega)
  | ⟨2, _⟩ => exact (congrArg (fun x => x * 128 + 1 * k.val) (congrFun hi (2 : Fin 3))).trans (by show 0 * 128 + 1 * k.val = k.val; omega)

/-- Window 6's block is the page that the table names. -/
theorem index_6 (hO : Ok m) (c : Dev nD) (t : Fin (cfgM m hO).N) (b : Fin 128) (g : Fin 64) (hb : (grid0.coords t 0).val = b.val)
   (hg : g.val = 16 * (grid0.coords t 1).val + 5) :
   (((cfgM m hO).win 6).index t : Fin 3 → ℕ) = ![(tbl m 0 (ix2 b g) : BitVec 32).toNat, 0, 0] := by
  show ![(_ : BitVec 32).toNat, 0, 0] = _
  congr 2
  refine table_at (tbl m) _ _ _ b g ?_ ?_
  · exact (row_word (grid0.coords t 0)).trans hb
  · exact (page_word (grid0.coords t 1) 5).trans hg.symm

/-- Window 6's block, read at an index. -/
theorem block_6 (hO : Ok m) (c : Dev nD) (t : Fin (cfgM m hO).N) (b : Fin 128) (g : Fin 64) (hb : (grid0.coords t 0).val = b.val)
   (hg : g.val = 16 * (grid0.coords t 1).val + 5) (hlt : (tbl m 0 (ix2 b g) : BitVec 32).toNat < 10240) (j : Fin 288) (k : Fin 128) :
   (iblk m hO c 6 t : Vec F S1x288x128 .f32) (ix3 0 j k) = (V m c main_v17 : Vec F S10240x288x128 .f32) (ix3 ⟨(tbl m 0 (ix2 b g) : BitVec 32).toNat, hlt⟩ j k) := by
  have hi := index_6 m hO c t b g hb hg
  refine (View.read_apply ..).trans ?_
  show (V m c main_v17 : Vec F S10240x288x128 .f32) _ = _
  congr 1
  funext a
  refine Fin.ext ?_
  match a with
  | ⟨0, _⟩ => exact (congrArg (fun x => x * 1 + 1 * 0) (congrFun hi (0 : Fin 3))).trans (by show (tbl m 0 (ix2 b g) : BitVec 32).toNat * 1 + 1 * 0 = (tbl m 0 (ix2 b g) : BitVec 32).toNat; omega)
  | ⟨1, _⟩ => exact (congrArg (fun x => x * 288 + 1 * j.val) (congrFun hi (1 : Fin 3))).trans (by show 0 * 288 + 1 * j.val = j.val; omega)
  | ⟨2, _⟩ => exact (congrArg (fun x => x * 128 + 1 * k.val) (congrFun hi (2 : Fin 3))).trans (by show 0 * 128 + 1 * k.val = k.val; omega)

/-- Window 7's block is the page that the table names. -/
theorem index_7 (hO : Ok m) (c : Dev nD) (t : Fin (cfgM m hO).N) (b : Fin 128) (g : Fin 64) (hb : (grid0.coords t 0).val = b.val)
   (hg : g.val = 16 * (grid0.coords t 1).val + 6) :
   (((cfgM m hO).win 7).index t : Fin 3 → ℕ) = ![(tbl m 0 (ix2 b g) : BitVec 32).toNat, 0, 0] := by
  show ![(_ : BitVec 32).toNat, 0, 0] = _
  congr 2
  refine table_at (tbl m) _ _ _ b g ?_ ?_
  · exact (row_word (grid0.coords t 0)).trans hb
  · exact (page_word (grid0.coords t 1) 6).trans hg.symm

/-- Window 7's block, read at an index. -/
theorem block_7 (hO : Ok m) (c : Dev nD) (t : Fin (cfgM m hO).N) (b : Fin 128) (g : Fin 64) (hb : (grid0.coords t 0).val = b.val)
   (hg : g.val = 16 * (grid0.coords t 1).val + 6) (hlt : (tbl m 0 (ix2 b g) : BitVec 32).toNat < 10240) (j : Fin 288) (k : Fin 128) :
   (iblk m hO c 7 t : Vec F S1x288x128 .f32) (ix3 0 j k) = (V m c main_v17 : Vec F S10240x288x128 .f32) (ix3 ⟨(tbl m 0 (ix2 b g) : BitVec 32).toNat, hlt⟩ j k) := by
  have hi := index_7 m hO c t b g hb hg
  refine (View.read_apply ..).trans ?_
  show (V m c main_v17 : Vec F S10240x288x128 .f32) _ = _
  congr 1
  funext a
  refine Fin.ext ?_
  match a with
  | ⟨0, _⟩ => exact (congrArg (fun x => x * 1 + 1 * 0) (congrFun hi (0 : Fin 3))).trans (by show (tbl m 0 (ix2 b g) : BitVec 32).toNat * 1 + 1 * 0 = (tbl m 0 (ix2 b g) : BitVec 32).toNat; omega)
  | ⟨1, _⟩ => exact (congrArg (fun x => x * 288 + 1 * j.val) (congrFun hi (1 : Fin 3))).trans (by show 0 * 288 + 1 * j.val = j.val; omega)
  | ⟨2, _⟩ => exact (congrArg (fun x => x * 128 + 1 * k.val) (congrFun hi (2 : Fin 3))).trans (by show 0 * 128 + 1 * k.val = k.val; omega)

/-- Window 8's block is the page that the table names. -/
theorem index_8 (hO : Ok m) (c : Dev nD) (t : Fin (cfgM m hO).N) (b : Fin 128) (g : Fin 64) (hb : (grid0.coords t 0).val = b.val)
   (hg : g.val = 16 * (grid0.coords t 1).val + 7) :
   (((cfgM m hO).win 8).index t : Fin 3 → ℕ) = ![(tbl m 0 (ix2 b g) : BitVec 32).toNat, 0, 0] := by
  show ![(_ : BitVec 32).toNat, 0, 0] = _
  congr 2
  refine table_at (tbl m) _ _ _ b g ?_ ?_
  · exact (row_word (grid0.coords t 0)).trans hb
  · exact (page_word (grid0.coords t 1) 7).trans hg.symm

/-- Window 8's block, read at an index. -/
theorem block_8 (hO : Ok m) (c : Dev nD) (t : Fin (cfgM m hO).N) (b : Fin 128) (g : Fin 64) (hb : (grid0.coords t 0).val = b.val)
   (hg : g.val = 16 * (grid0.coords t 1).val + 7) (hlt : (tbl m 0 (ix2 b g) : BitVec 32).toNat < 10240) (j : Fin 288) (k : Fin 128) :
   (iblk m hO c 8 t : Vec F S1x288x128 .f32) (ix3 0 j k) = (V m c main_v17 : Vec F S10240x288x128 .f32) (ix3 ⟨(tbl m 0 (ix2 b g) : BitVec 32).toNat, hlt⟩ j k) := by
  have hi := index_8 m hO c t b g hb hg
  refine (View.read_apply ..).trans ?_
  show (V m c main_v17 : Vec F S10240x288x128 .f32) _ = _
  congr 1
  funext a
  refine Fin.ext ?_
  match a with
  | ⟨0, _⟩ => exact (congrArg (fun x => x * 1 + 1 * 0) (congrFun hi (0 : Fin 3))).trans (by show (tbl m 0 (ix2 b g) : BitVec 32).toNat * 1 + 1 * 0 = (tbl m 0 (ix2 b g) : BitVec 32).toNat; omega)
  | ⟨1, _⟩ => exact (congrArg (fun x => x * 288 + 1 * j.val) (congrFun hi (1 : Fin 3))).trans (by show 0 * 288 + 1 * j.val = j.val; omega)
  | ⟨2, _⟩ => exact (congrArg (fun x => x * 128 + 1 * k.val) (congrFun hi (2 : Fin 3))).trans (by show 0 * 128 + 1 * k.val = k.val; omega)

/-- Window 9's block is the page that the table names. -/
theorem index_9 (hO : Ok m) (c : Dev nD) (t : Fin (cfgM m hO).N) (b : Fin 128) (g : Fin 64) (hb : (grid0.coords t 0).val = b.val)
   (hg : g.val = 16 * (grid0.coords t 1).val + 8) :
   (((cfgM m hO).win 9).index t : Fin 3 → ℕ) = ![(tbl m 0 (ix2 b g) : BitVec 32).toNat, 0, 0] := by
  show ![(_ : BitVec 32).toNat, 0, 0] = _
  congr 2
  refine table_at (tbl m) _ _ _ b g ?_ ?_
  · exact (row_word (grid0.coords t 0)).trans hb
  · exact (page_word (grid0.coords t 1) 8).trans hg.symm

/-- Window 9's block, read at an index. -/
theorem block_9 (hO : Ok m) (c : Dev nD) (t : Fin (cfgM m hO).N) (b : Fin 128) (g : Fin 64) (hb : (grid0.coords t 0).val = b.val)
   (hg : g.val = 16 * (grid0.coords t 1).val + 8) (hlt : (tbl m 0 (ix2 b g) : BitVec 32).toNat < 10240) (j : Fin 288) (k : Fin 128) :
   (iblk m hO c 9 t : Vec F S1x288x128 .f32) (ix3 0 j k) = (V m c main_v17 : Vec F S10240x288x128 .f32) (ix3 ⟨(tbl m 0 (ix2 b g) : BitVec 32).toNat, hlt⟩ j k) := by
  have hi := index_9 m hO c t b g hb hg
  refine (View.read_apply ..).trans ?_
  show (V m c main_v17 : Vec F S10240x288x128 .f32) _ = _
  congr 1
  funext a
  refine Fin.ext ?_
  match a with
  | ⟨0, _⟩ => exact (congrArg (fun x => x * 1 + 1 * 0) (congrFun hi (0 : Fin 3))).trans (by show (tbl m 0 (ix2 b g) : BitVec 32).toNat * 1 + 1 * 0 = (tbl m 0 (ix2 b g) : BitVec 32).toNat; omega)
  | ⟨1, _⟩ => exact (congrArg (fun x => x * 288 + 1 * j.val) (congrFun hi (1 : Fin 3))).trans (by show 0 * 288 + 1 * j.val = j.val; omega)
  | ⟨2, _⟩ => exact (congrArg (fun x => x * 128 + 1 * k.val) (congrFun hi (2 : Fin 3))).trans (by show 0 * 128 + 1 * k.val = k.val; omega)

/-- Window 10's block is the page that the table names. -/
theorem index_10 (hO : Ok m) (c : Dev nD) (t : Fin (cfgM m hO).N) (b : Fin 128) (g : Fin 64) (hb : (grid0.coords t 0).val = b.val)
   (hg : g.val = 16 * (grid0.coords t 1).val + 9) :
   (((cfgM m hO).win 10).index t : Fin 3 → ℕ) = ![(tbl m 0 (ix2 b g) : BitVec 32).toNat, 0, 0] := by
  show ![(_ : BitVec 32).toNat, 0, 0] = _
  congr 2
  refine table_at (tbl m) _ _ _ b g ?_ ?_
  · exact (row_word (grid0.coords t 0)).trans hb
  · exact (page_word (grid0.coords t 1) 9).trans hg.symm

/-- Window 10's block, read at an index. -/
theorem block_10 (hO : Ok m) (c : Dev nD) (t : Fin (cfgM m hO).N) (b : Fin 128) (g : Fin 64) (hb : (grid0.coords t 0).val = b.val)
   (hg : g.val = 16 * (grid0.coords t 1).val + 9) (hlt : (tbl m 0 (ix2 b g) : BitVec 32).toNat < 10240) (j : Fin 288) (k : Fin 128) :
   (iblk m hO c 10 t : Vec F S1x288x128 .f32) (ix3 0 j k) = (V m c main_v17 : Vec F S10240x288x128 .f32) (ix3 ⟨(tbl m 0 (ix2 b g) : BitVec 32).toNat, hlt⟩ j k) := by
  have hi := index_10 m hO c t b g hb hg
  refine (View.read_apply ..).trans ?_
  show (V m c main_v17 : Vec F S10240x288x128 .f32) _ = _
  congr 1
  funext a
  refine Fin.ext ?_
  match a with
  | ⟨0, _⟩ => exact (congrArg (fun x => x * 1 + 1 * 0) (congrFun hi (0 : Fin 3))).trans (by show (tbl m 0 (ix2 b g) : BitVec 32).toNat * 1 + 1 * 0 = (tbl m 0 (ix2 b g) : BitVec 32).toNat; omega)
  | ⟨1, _⟩ => exact (congrArg (fun x => x * 288 + 1 * j.val) (congrFun hi (1 : Fin 3))).trans (by show 0 * 288 + 1 * j.val = j.val; omega)
  | ⟨2, _⟩ => exact (congrArg (fun x => x * 128 + 1 * k.val) (congrFun hi (2 : Fin 3))).trans (by show 0 * 128 + 1 * k.val = k.val; omega)

/-- Window 11's block is the page that the table names. -/
theorem index_11 (hO : Ok m) (c : Dev nD) (t : Fin (cfgM m hO).N) (b : Fin 128) (g : Fin 64) (hb : (grid0.coords t 0).val = b.val)
   (hg : g.val = 16 * (grid0.coords t 1).val + 10) :
   (((cfgM m hO).win 11).index t : Fin 3 → ℕ) = ![(tbl m 0 (ix2 b g) : BitVec 32).toNat, 0, 0] := by
  show ![(_ : BitVec 32).toNat, 0, 0] = _
  congr 2
  refine table_at (tbl m) _ _ _ b g ?_ ?_
  · exact (row_word (grid0.coords t 0)).trans hb
  · exact (page_word (grid0.coords t 1) 10).trans hg.symm

/-- Window 11's block, read at an index. -/
theorem block_11 (hO : Ok m) (c : Dev nD) (t : Fin (cfgM m hO).N) (b : Fin 128) (g : Fin 64) (hb : (grid0.coords t 0).val = b.val)
   (hg : g.val = 16 * (grid0.coords t 1).val + 10) (hlt : (tbl m 0 (ix2 b g) : BitVec 32).toNat < 10240) (j : Fin 288) (k : Fin 128) :
   (iblk m hO c 11 t : Vec F S1x288x128 .f32) (ix3 0 j k) = (V m c main_v17 : Vec F S10240x288x128 .f32) (ix3 ⟨(tbl m 0 (ix2 b g) : BitVec 32).toNat, hlt⟩ j k) := by
  have hi := index_11 m hO c t b g hb hg
  refine (View.read_apply ..).trans ?_
  show (V m c main_v17 : Vec F S10240x288x128 .f32) _ = _
  congr 1
  funext a
  refine Fin.ext ?_
  match a with
  | ⟨0, _⟩ => exact (congrArg (fun x => x * 1 + 1 * 0) (congrFun hi (0 : Fin 3))).trans (by show (tbl m 0 (ix2 b g) : BitVec 32).toNat * 1 + 1 * 0 = (tbl m 0 (ix2 b g) : BitVec 32).toNat; omega)
  | ⟨1, _⟩ => exact (congrArg (fun x => x * 288 + 1 * j.val) (congrFun hi (1 : Fin 3))).trans (by show 0 * 288 + 1 * j.val = j.val; omega)
  | ⟨2, _⟩ => exact (congrArg (fun x => x * 128 + 1 * k.val) (congrFun hi (2 : Fin 3))).trans (by show 0 * 128 + 1 * k.val = k.val; omega)

/-- Window 12's block is the page that the table names. -/
theorem index_12 (hO : Ok m) (c : Dev nD) (t : Fin (cfgM m hO).N) (b : Fin 128) (g : Fin 64) (hb : (grid0.coords t 0).val = b.val)
   (hg : g.val = 16 * (grid0.coords t 1).val + 11) :
   (((cfgM m hO).win 12).index t : Fin 3 → ℕ) = ![(tbl m 0 (ix2 b g) : BitVec 32).toNat, 0, 0] := by
  show ![(_ : BitVec 32).toNat, 0, 0] = _
  congr 2
  refine table_at (tbl m) _ _ _ b g ?_ ?_
  · exact (row_word (grid0.coords t 0)).trans hb
  · exact (page_word (grid0.coords t 1) 11).trans hg.symm

/-- Window 12's block, read at an index. -/
theorem block_12 (hO : Ok m) (c : Dev nD) (t : Fin (cfgM m hO).N) (b : Fin 128) (g : Fin 64) (hb : (grid0.coords t 0).val = b.val)
   (hg : g.val = 16 * (grid0.coords t 1).val + 11) (hlt : (tbl m 0 (ix2 b g) : BitVec 32).toNat < 10240) (j : Fin 288) (k : Fin 128) :
   (iblk m hO c 12 t : Vec F S1x288x128 .f32) (ix3 0 j k) = (V m c main_v17 : Vec F S10240x288x128 .f32) (ix3 ⟨(tbl m 0 (ix2 b g) : BitVec 32).toNat, hlt⟩ j k) := by
  have hi := index_12 m hO c t b g hb hg
  refine (View.read_apply ..).trans ?_
  show (V m c main_v17 : Vec F S10240x288x128 .f32) _ = _
  congr 1
  funext a
  refine Fin.ext ?_
  match a with
  | ⟨0, _⟩ => exact (congrArg (fun x => x * 1 + 1 * 0) (congrFun hi (0 : Fin 3))).trans (by show (tbl m 0 (ix2 b g) : BitVec 32).toNat * 1 + 1 * 0 = (tbl m 0 (ix2 b g) : BitVec 32).toNat; omega)
  | ⟨1, _⟩ => exact (congrArg (fun x => x * 288 + 1 * j.val) (congrFun hi (1 : Fin 3))).trans (by show 0 * 288 + 1 * j.val = j.val; omega)
  | ⟨2, _⟩ => exact (congrArg (fun x => x * 128 + 1 * k.val) (congrFun hi (2 : Fin 3))).trans (by show 0 * 128 + 1 * k.val = k.val; omega)

/-- Window 13's block is the page that the table names. -/
theorem index_13 (hO : Ok m) (c : Dev nD) (t : Fin (cfgM m hO).N) (b : Fin 128) (g : Fin 64) (hb : (grid0.coords t 0).val = b.val)
   (hg : g.val = 16 * (grid0.coords t 1).val + 12) :
   (((cfgM m hO).win 13).index t : Fin 3 → ℕ) = ![(tbl m 0 (ix2 b g) : BitVec 32).toNat, 0, 0] := by
  show ![(_ : BitVec 32).toNat, 0, 0] = _
  congr 2
  refine table_at (tbl m) _ _ _ b g ?_ ?_
  · exact (row_word (grid0.coords t 0)).trans hb
  · exact (page_word (grid0.coords t 1) 12).trans hg.symm

/-- Window 13's block, read at an index. -/
theorem block_13 (hO : Ok m) (c : Dev nD) (t : Fin (cfgM m hO).N) (b : Fin 128) (g : Fin 64) (hb : (grid0.coords t 0).val = b.val)
   (hg : g.val = 16 * (grid0.coords t 1).val + 12) (hlt : (tbl m 0 (ix2 b g) : BitVec 32).toNat < 10240) (j : Fin 288) (k : Fin 128) :
   (iblk m hO c 13 t : Vec F S1x288x128 .f32) (ix3 0 j k) = (V m c main_v17 : Vec F S10240x288x128 .f32) (ix3 ⟨(tbl m 0 (ix2 b g) : BitVec 32).toNat, hlt⟩ j k) := by
  have hi := index_13 m hO c t b g hb hg
  refine (View.read_apply ..).trans ?_
  show (V m c main_v17 : Vec F S10240x288x128 .f32) _ = _
  congr 1
  funext a
  refine Fin.ext ?_
  match a with
  | ⟨0, _⟩ => exact (congrArg (fun x => x * 1 + 1 * 0) (congrFun hi (0 : Fin 3))).trans (by show (tbl m 0 (ix2 b g) : BitVec 32).toNat * 1 + 1 * 0 = (tbl m 0 (ix2 b g) : BitVec 32).toNat; omega)
  | ⟨1, _⟩ => exact (congrArg (fun x => x * 288 + 1 * j.val) (congrFun hi (1 : Fin 3))).trans (by show 0 * 288 + 1 * j.val = j.val; omega)
  | ⟨2, _⟩ => exact (congrArg (fun x => x * 128 + 1 * k.val) (congrFun hi (2 : Fin 3))).trans (by show 0 * 128 + 1 * k.val = k.val; omega)

/-- Window 14's block is the page that the table names. -/
theorem index_14 (hO : Ok m) (c : Dev nD) (t : Fin (cfgM m hO).N) (b : Fin 128) (g : Fin 64) (hb : (grid0.coords t 0).val = b.val)
   (hg : g.val = 16 * (grid0.coords t 1).val + 13) :
   (((cfgM m hO).win 14).index t : Fin 3 → ℕ) = ![(tbl m 0 (ix2 b g) : BitVec 32).toNat, 0, 0] := by
  show ![(_ : BitVec 32).toNat, 0, 0] = _
  congr 2
  refine table_at (tbl m) _ _ _ b g ?_ ?_
  · exact (row_word (grid0.coords t 0)).trans hb
  · exact (page_word (grid0.coords t 1) 13).trans hg.symm

/-- Window 14's block, read at an index. -/
theorem block_14 (hO : Ok m) (c : Dev nD) (t : Fin (cfgM m hO).N) (b : Fin 128) (g : Fin 64) (hb : (grid0.coords t 0).val = b.val)
   (hg : g.val = 16 * (grid0.coords t 1).val + 13) (hlt : (tbl m 0 (ix2 b g) : BitVec 32).toNat < 10240) (j : Fin 288) (k : Fin 128) :
   (iblk m hO c 14 t : Vec F S1x288x128 .f32) (ix3 0 j k) = (V m c main_v17 : Vec F S10240x288x128 .f32) (ix3 ⟨(tbl m 0 (ix2 b g) : BitVec 32).toNat, hlt⟩ j k) := by
  have hi := index_14 m hO c t b g hb hg
  refine (View.read_apply ..).trans ?_
  show (V m c main_v17 : Vec F S10240x288x128 .f32) _ = _
  congr 1
  funext a
  refine Fin.ext ?_
  match a with
  | ⟨0, _⟩ => exact (congrArg (fun x => x * 1 + 1 * 0) (congrFun hi (0 : Fin 3))).trans (by show (tbl m 0 (ix2 b g) : BitVec 32).toNat * 1 + 1 * 0 = (tbl m 0 (ix2 b g) : BitVec 32).toNat; omega)
  | ⟨1, _⟩ => exact (congrArg (fun x => x * 288 + 1 * j.val) (congrFun hi (1 : Fin 3))).trans (by show 0 * 288 + 1 * j.val = j.val; omega)
  | ⟨2, _⟩ => exact (congrArg (fun x => x * 128 + 1 * k.val) (congrFun hi (2 : Fin 3))).trans (by show 0 * 128 + 1 * k.val = k.val; omega)

/-- Window 15's block is the page that the table names. -/
theorem index_15 (hO : Ok m) (c : Dev nD) (t : Fin (cfgM m hO).N) (b : Fin 128) (g : Fin 64) (hb : (grid0.coords t 0).val = b.val)
   (hg : g.val = 16 * (grid0.coords t 1).val + 14) :
   (((cfgM m hO).win 15).index t : Fin 3 → ℕ) = ![(tbl m 0 (ix2 b g) : BitVec 32).toNat, 0, 0] := by
  show ![(_ : BitVec 32).toNat, 0, 0] = _
  congr 2
  refine table_at (tbl m) _ _ _ b g ?_ ?_
  · exact (row_word (grid0.coords t 0)).trans hb
  · exact (page_word (grid0.coords t 1) 14).trans hg.symm

/-- Window 15's block, read at an index. -/
theorem block_15 (hO : Ok m) (c : Dev nD) (t : Fin (cfgM m hO).N) (b : Fin 128) (g : Fin 64) (hb : (grid0.coords t 0).val = b.val)
   (hg : g.val = 16 * (grid0.coords t 1).val + 14) (hlt : (tbl m 0 (ix2 b g) : BitVec 32).toNat < 10240) (j : Fin 288) (k : Fin 128) :
   (iblk m hO c 15 t : Vec F S1x288x128 .f32) (ix3 0 j k) = (V m c main_v17 : Vec F S10240x288x128 .f32) (ix3 ⟨(tbl m 0 (ix2 b g) : BitVec 32).toNat, hlt⟩ j k) := by
  have hi := index_15 m hO c t b g hb hg
  refine (View.read_apply ..).trans ?_
  show (V m c main_v17 : Vec F S10240x288x128 .f32) _ = _
  congr 1
  funext a
  refine Fin.ext ?_
  match a with
  | ⟨0, _⟩ => exact (congrArg (fun x => x * 1 + 1 * 0) (congrFun hi (0 : Fin 3))).trans (by show (tbl m 0 (ix2 b g) : BitVec 32).toNat * 1 + 1 * 0 = (tbl m 0 (ix2 b g) : BitVec 32).toNat; omega)
  | ⟨1, _⟩ => exact (congrArg (fun x => x * 288 + 1 * j.val) (congrFun hi (1 : Fin 3))).trans (by show 0 * 288 + 1 * j.val = j.val; omega)
  | ⟨2, _⟩ => exact (congrArg (fun x => x * 128 + 1 * k.val) (congrFun hi (2 : Fin 3))).trans (by show 0 * 128 + 1 * k.val = k.val; omega)

/-- Window 16's block is the page that the table names. -/
theorem index_16 (hO : Ok m) (c : Dev nD) (t : Fin (cfgM m hO).N) (b : Fin 128) (g : Fin 64) (hb : (grid0.coords t 0).val = b.val)
   (hg : g.val = 16 * (grid0.coords t 1).val + 15) :
   (((cfgM m hO).win 16).index t : Fin 3 → ℕ) = ![(tbl m 0 (ix2 b g) : BitVec 32).toNat, 0, 0] := by
  show ![(_ : BitVec 32).toNat, 0, 0] = _
  congr 2
  refine table_at (tbl m) _ _ _ b g ?_ ?_
  · exact (row_word (grid0.coords t 0)).trans hb
  · exact (page_word (grid0.coords t 1) 15).trans hg.symm

/-- Window 16's block, read at an index. -/
theorem block_16 (hO : Ok m) (c : Dev nD) (t : Fin (cfgM m hO).N) (b : Fin 128) (g : Fin 64) (hb : (grid0.coords t 0).val = b.val)
   (hg : g.val = 16 * (grid0.coords t 1).val + 15) (hlt : (tbl m 0 (ix2 b g) : BitVec 32).toNat < 10240) (j : Fin 288) (k : Fin 128) :
   (iblk m hO c 16 t : Vec F S1x288x128 .f32) (ix3 0 j k) = (V m c main_v17 : Vec F S10240x288x128 .f32) (ix3 ⟨(tbl m 0 (ix2 b g) : BitVec 32).toNat, hlt⟩ j k) := by
  have hi := index_16 m hO c t b g hb hg
  refine (View.read_apply ..).trans ?_
  show (V m c main_v17 : Vec F S10240x288x128 .f32) _ = _
  congr 1
  funext a
  refine Fin.ext ?_
  match a with
  | ⟨0, _⟩ => exact (congrArg (fun x => x * 1 + 1 * 0) (congrFun hi (0 : Fin 3))).trans (by show (tbl m 0 (ix2 b g) : BitVec 32).toNat * 1 + 1 * 0 = (tbl m 0 (ix2 b g) : BitVec 32).toNat; omega)
  | ⟨1, _⟩ => exact (congrArg (fun x => x * 288 + 1 * j.val) (congrFun hi (1 : Fin 3))).trans (by show 0 * 288 + 1 * j.val = j.val; omega)
  | ⟨2, _⟩ => exact (congrArg (fun x => x * 128 + 1 * k.val) (congrFun hi (2 : Fin 3))).trans (by show 0 * 128 + 1 * k.val = k.val; omega)

theorem index_0 (hO : Ok m) (t : Fin (cfgM m hO).N) (b : Fin 128) (hb : (grid0.coords t 0).val = b.val) :
   (((cfgM m hO).win 0).index t : Fin 3 → ℕ) = ![b.val, 0, 0] := by
  show ![BitVec.toNat _, 0, 0] = _
  congr 1
  exact (row_word (grid0.coords t 0)).trans hb

theorem index_17 (hO : Ok m) (t : Fin (cfgM m hO).N) (b : Fin 128) (hb : (grid0.coords t 0).val = b.val) :
   (((cfgM m hO).win 17).index t : Fin 3 → ℕ) = ![b.val, 0, 0] := by
  show ![BitVec.toNat _, 0, 0] = _
  congr 1
  exact (row_word (grid0.coords t 0)).trans hb

theorem block_0 (hO : Ok m) (c : Dev nD) (t : Fin (cfgM m hO).N) (b : Fin 128) (hb : (grid0.coords t 0).val = b.val) (r : Fin 32) (j : Fin 288) :
   (iblk m hO c 0 t : Vec F S1x32x288 .bf16) (ix3 0 r j) = (V m c main_v1 : Vec F S128x32x288 .bf16) (ix3 b r j) := by
  have hi := index_0 m hO t b hb
  refine (View.read_apply ..).trans ?_
  show (V m c main_v1 : Vec F S128x32x288 .bf16) _ = _
  congr 1
  funext a
  refine Fin.ext ?_
  match a with
  | ⟨0, _⟩ => exact (congrArg (fun x => x * 1 + 1 * 0) (congrFun hi (0 : Fin 3))).trans (by show b.val * 1 + 1 * 0 = b.val; omega)
  | ⟨1, _⟩ => exact (congrArg (fun x => x * 32 + 1 * r.val) (congrFun hi (1 : Fin 3))).trans (by show 0 * 32 + 1 * r.val = r.val; omega)
  | ⟨2, _⟩ => exact (congrArg (fun x => x * 288 + 1 * j.val) (congrFun hi (2 : Fin 3))).trans (by show 0 * 288 + 1 * j.val = j.val; omega)

theorem block_17 (hO : Ok m) (c : Dev nD) (t : Fin (cfgM m hO).N) (b : Fin 128) (hb : (grid0.coords t 0).val = b.val) (k : Fin 8) (j : Fin 288) :
   (iblk m hO c 17 t : Vec F S1x8x288 .f32) (ix3 0 k j) = (V m c main_v2 : Vec F S128x8x288 .f32) (ix3 b k j) := by
  have hi := index_17 m hO t b hb
  refine (View.read_apply ..).trans ?_
  show (V m c main_v2 : Vec F S128x8x288 .f32) _ = _
  congr 1
  funext a
  refine Fin.ext ?_
  match a with
  | ⟨0, _⟩ => exact (congrArg (fun x => x * 1 + 1 * 0) (congrFun hi (0 : Fin 3))).trans (by show b.val * 1 + 1 * 0 = b.val; omega)
  | ⟨1, _⟩ => exact (congrArg (fun x => x * 8 + 1 * k.val) (congrFun hi (1 : Fin 3))).trans (by show 0 * 8 + 1 * k.val = k.val; omega)
  | ⟨2, _⟩ => exact (congrArg (fun x => x * 288 + 1 * j.val) (congrFun hi (2 : Fin 3))).trans (by show 0 * 288 + 1 * j.val = j.val; omega)

theorem block_18 (hO : Ok m) (c : Dev nD) (t : Fin (cfgM m hO).N) (r : Fin 32) (k : Fin 8) :
   (iblk m hO c 18 t : Vec F S32x8 .f32) (ix2 r k) = (V m c main_v16 : Vec F S32x8 .f32) (ix2 r k) := by
  refine (View.read_apply ..).trans ?_
  show (V m c main_v16 : Vec F S32x8 .f32) _ = _
  congr 1
  funext a
  refine Fin.ext ?_
  match a with
  | ⟨0, _⟩ => show 0 * 32 + 1 * r.val = r.val; omega
  | ⟨1, _⟩ => show 0 * 8 + 1 * k.val = k.val; omega

end Cert.KernelIdeal.Value

end
-- ==== Proof.Softmax.lean ====
/- The algebra of the online softmax over the extended reals: rescaling a weighted sum to a larger running maximum, the
   keys of the cache taken 2048 at a time, and the final quotient. Nothing here mentions a program. -/
module

public import Idealize.ShloMosaic.PureOps.Ideal
public import Mathlib.Data.EReal.Inv
public import Mathlib.Algebra.BigOperators.Fin
public import Mathlib.Order.ConditionallyCompleteLattice.Finset

@[expose] public section

set_option maxRecDepth 16384

noncomputable section

namespace Cert.Softmax

open Idealize.ShloMosaic

/-- The exponential of an extended real is nonnegative. -/
theorem exp_nonneg (x : EReal) : 0 ≤ Ideal.exp x := by
  induction x with
  | bot => simp
  | coe r => simp [Real.exp_nonneg r]
  | top => simp

/-- The exponential of the difference of two ordered extended reals is finite. -/
theorem exp_sub_ne_top {x y : EReal} (h : x ≤ y) : Ideal.exp (x - y) ≠ ⊤ := by
  induction x with
  | bot => simp [sub_eq_add_neg]
  | top => obtain rfl : y = ⊤ := top_le_iff.mp h; simp [sub_eq_add_neg]
  | coe r =>
    induction y with
    | bot => simp at h
    | top => simp [sub_eq_add_neg]
    | coe t => rw [← EReal.coe_sub, Ideal.exp_coe]; exact EReal.coe_ne_top _

/-- Weights relative to a running maximum `m`, rescaled by `exp (m - m')`, are the weights relative to `m'`. -/
theorem exp_mul_exp {s m m' : EReal} (h : s ≤ m) (h' : m ≤ m') :
    Ideal.exp (m - m') * Ideal.exp (s - m) = Ideal.exp (s - m') := by
  induction s with
  | bot => simp [sub_eq_add_neg]
  | top =>
    obtain rfl : m = ⊤ := top_le_iff.mp h
    obtain rfl : m' = ⊤ := top_le_iff.mp h'
    simp [sub_eq_add_neg]
  | coe a =>
    induction m with
    | bot => simp at h
    | top =>
      obtain rfl : m' = ⊤ := top_le_iff.mp h'
      simp [sub_eq_add_neg]
    | coe b =>
      induction m' with
      | bot => simp at h'
      | top => simp [sub_eq_add_neg]
      | coe c =>
        rw [← EReal.coe_sub, ← EReal.coe_sub, ← EReal.coe_sub, Ideal.exp_coe, Ideal.exp_coe, Ideal.exp_coe, ← EReal.coe_mul,
          ← Real.exp_add]
        congr 2; ring

/-- A nonnegative finite factor goes into a finite sum of extended reals. -/
theorem mul_sum_of_nonneg {ι : Type} (c : EReal) (h0 : 0 ≤ c) (h1 : c ≠ ⊤) (K : Finset ι) (f : ι → EReal) :
    c * ∑ k ∈ K, f k = ∑ k ∈ K, c * f k := by
  classical
  induction K using Finset.induction_on with
  | empty => simp
  | insert a K ha ih =>
    rw [Finset.sum_insert ha, Finset.sum_insert ha, EReal.left_distrib_of_nonneg_of_ne_top h0 h1, ih]

/-- A weighted sum relative to `m`, rescaled, is the weighted sum relative to `m'`. -/
theorem rescale {ι : Type} (K : Finset ι) (s w : ι → EReal) {m m' : EReal} (h : ∀ k ∈ K, s k ≤ m) (h' : m ≤ m') :
    Ideal.exp (m - m') * ∑ k ∈ K, Ideal.exp (s k - m) * w k = ∑ k ∈ K, Ideal.exp (s k - m') * w k := by
  rw [mul_sum_of_nonneg _ (exp_nonneg _) (exp_sub_ne_top h')]
  exact Finset.sum_congr rfl fun k hk => by rw [← mul_assoc, exp_mul_exp (h k hk) h']

/-- The same of the plain sum of the weights. -/
theorem rescale_one {ι : Type} (K : Finset ι) (s : ι → EReal) {m m' : EReal} (h : ∀ k ∈ K, s k ≤ m) (h' : m ≤ m') :
    Ideal.exp (m - m') * ∑ k ∈ K, Ideal.exp (s k - m) = ∑ k ∈ K, Ideal.exp (s k - m') := by
  simpa using rescale K s (fun _ => 1) h h'

/-- The position of lane `k` of the `i`th page of chunk `c`. -/
def pos (c : Fin 4) (i : Fin 16) (k : Fin 128) : Fin 8192 := ⟨2048 * c.val + 128 * i.val + k.val, by omega⟩

/-- The positions before chunk `c`. -/
def upto (c : ℕ) : Finset (Fin 8192) := Finset.univ.filter fun n => n.val < 2048 * c

theorem upto_zero : upto 0 = ∅ := by ext n; simp [upto]
theorem upto_four : upto 4 = Finset.univ := by
  ext n; have := n.isLt; simp only [upto, Finset.mem_filter, Finset.mem_univ, true_and, iff_true]; omega

/-- The positions of chunk `c`. -/
def chunk (c : Fin 4) : Finset (Fin 8192) := (Finset.univ : Finset (Fin 16 × Fin 128)).image fun p => pos c p.1 p.2

theorem pos_inj (c : Fin 4) : Function.Injective fun p : Fin 16 × Fin 128 => pos c p.1 p.2 := by
  rintro ⟨i, k⟩ ⟨i', k'⟩ h
  simp only [pos, Fin.mk.injEq] at h
  have := i.isLt; have := i'.isLt; have := k.isLt; have := k'.isLt
  ext <;> simp <;> omega

theorem upto_succ (c : Fin 4) : upto (c.val + 1) = upto c.val ∪ chunk c := by
  ext n
  simp only [upto, chunk, Finset.mem_union, Finset.mem_filter, Finset.mem_univ, true_and, Finset.mem_image, Prod.exists]
  constructor
  · intro h
    by_cases h' : n.val < 2048 * c.val
    · exact Or.inl h'
    · refine Or.inr ⟨⟨(n.val - 2048 * c.val) / 128, by omega⟩, ⟨(n.val - 2048 * c.val) % 128, by omega⟩, ?_⟩
      ext; simp only [pos]; omega
  · rintro (h | ⟨i, k, rfl⟩)
    · omega
    · simp only [pos]; omega

theorem upto_disjoint (c : Fin 4) : Disjoint (upto c.val) (chunk c) := by
  rw [Finset.disjoint_left]
  intro n h h'
  simp only [upto, chunk, Finset.mem_filter, Finset.mem_univ, true_and, Finset.mem_image, Prod.exists] at h h'
  obtain ⟨i, k, rfl⟩ := h'
  simp only [pos] at h; omega

/-- A sum over the positions through chunk `c`: those before it, and its pages lane by lane. -/
theorem sum_upto (c : Fin 4) (g : Fin 8192 → EReal) :
    ∑ n ∈ upto (c.val + 1), g n = ∑ n ∈ upto c.val, g n + ∑ i : Fin 16, ∑ k : Fin 128, g (pos c i k) := by
  rw [upto_succ, Finset.sum_union (upto_disjoint c), chunk, Finset.sum_image (fun a _ b _ h => pos_inj c h),
    Fintype.sum_prod_type]

/-- The same of the supremum. -/
theorem sup_upto (c : Fin 4) (g : Fin 8192 → EReal) :
    (upto (c.val + 1)).sup g = max ((upto c.val).sup g)
      ((Finset.univ : Finset (Fin 16)).sup fun i => (Finset.univ : Finset (Fin 128)).sup fun k => g (pos c i k)) := by
  rw [upto_succ, Finset.sup_union, chunk, Finset.sup_image, ← Finset.univ_product_univ, Finset.sup_product_left]
  rfl

/-- The running state of the online softmax over the keys `K`: the maximum of the scores, the sum of the weights relative to
    it, and for each output lane the weighted sum of the values. -/
def IsState {ι J : Type} (K : Finset ι) (s : ι → EReal) (v : ι → J → EReal) (m l : EReal) (a : J → EReal) : Prop :=
  m = K.sup s ∧ l = ∑ k ∈ K, Ideal.exp (s k - m) ∧ ∀ j, a j = ∑ k ∈ K, Ideal.exp (s k - m) * v k j

/-- The state the kernel starts a row of queries with is the state over no keys. -/
theorem isState_zero {J : Type} (s : Fin 8192 → EReal) (v : Fin 8192 → J → EReal) :
    IsState (upto 0) s v ⊥ 0 (fun _ => 0) := by
  rw [upto_zero]; exact ⟨by simp, by simp, fun j => by simp⟩

/-- One chunk's update keeps the state. -/
theorem isState_succ {J : Type} (c : Fin 4) (s : Fin 8192 → EReal) (v : Fin 8192 → J → EReal) {m l : EReal} {a : J → EReal}
    (h : IsState (upto c.val) s v m l a) {m' l' : EReal} {a' : J → EReal}
    (hm : m' = max m ((Finset.univ : Finset (Fin 16)).sup fun i => (Finset.univ : Finset (Fin 128)).sup fun k => s (pos c i k)))
    (hl : l' = Ideal.exp (m - m') * l + ∑ i : Fin 16, ∑ k : Fin 128, Ideal.exp (s (pos c i k) - m'))
    (ha : ∀ j, a' j = Ideal.exp (m - m') * a j + ∑ i : Fin 16, ∑ k : Fin 128, Ideal.exp (s (pos c i k) - m') * v (pos c i k) j) :
    IsState (upto (c.val + 1)) s v m' l' a' := by
  obtain ⟨h1, h2, h3⟩ := h
  have hle : ∀ k ∈ upto c.val, s k ≤ m := fun k hk => h1 ▸ Finset.le_sup hk
  have hmm : m ≤ m' := hm ▸ le_max_left _ _
  refine ⟨?_, ?_, fun j => ?_⟩
  · rw [hm, h1, sup_upto]
  · rw [hl, h2, rescale_one _ _ hle hmm, sum_upto]
  · rw [ha, h3, rescale _ _ _ hle hmm, sum_upto]

/-- A supremum of reals and `⊥`s, one of them real, is real. -/
theorem sup_real {ι : Type} (K : Finset ι) (s : ι → EReal) (h : ∀ k ∈ K, s k ≠ ⊤) {k0 : ι} (hk : k0 ∈ K) (h0 : s k0 ≠ ⊥) :
    ∃ r : ℝ, K.sup s = r := by
  have h1 : K.sup s ≠ ⊤ := by
    have : K.sup s < ⊤ := (Finset.sup_lt_iff bot_lt_top).mpr fun k hk => lt_top_iff_ne_top.mpr (h k hk)
    exact this.ne
  have h2 : K.sup s ≠ ⊥ := fun e => h0 (le_bot_iff.mp (e ▸ Finset.le_sup hk))
  exact ⟨(K.sup s).toReal, (EReal.coe_toReal h1 h2).symm⟩

/-- A sum of nonnegative finite extended reals, one of them positive, is a positive real. -/
theorem sum_pos_real {ι : Type} (K : Finset ι) (f : ι → EReal) (h : ∀ k ∈ K, f k ≠ ⊤) (hn : ∀ k ∈ K, 0 ≤ f k) {k0 : ι}
    (hk : k0 ∈ K) (h0 : 0 < f k0) : ∃ r : ℝ, 0 < r ∧ ∑ k ∈ K, f k = r := by
  classical
  have e : ∀ k ∈ K, f k = ((f k).toReal : EReal) := fun k hk =>
    (EReal.coe_toReal (h k hk) (fun e => by have := hn k hk; rw [e] at this; simp at this)).symm
  refine ⟨∑ k ∈ K, (f k).toReal, ?_, ?_⟩
  · refine Finset.sum_pos' (fun k hk => EReal.toReal_nonneg (hn k hk)) ⟨k0, hk, ?_⟩
    have := e k0 hk
    rw [this] at h0
    exact EReal.coe_pos.mp h0
  · rw [Finset.sum_congr rfl e]
    have := map_sum (⟨⟨fun r : ℝ => (r : EReal), rfl⟩, EReal.coe_add⟩ : ℝ →+ EReal) (fun k => (f k).toReal) K
    exact this.symm

/-- Dividing by a positive real commutes with a weighted sum: normalising the weights first or the sum last. -/
theorem div_sum {ι : Type} (K : Finset ι) (e v : ι → EReal) {L : ℝ} (hL : 0 < L) :
    ∑ k ∈ K, Ideal.div (e k) L * v k = Ideal.div (∑ k ∈ K, e k * v k) L := by
  have hz : (L : EReal) ≠ 0 := by exact_mod_cast hL.ne'
  have hi : (L : EReal)⁻¹ = ((L⁻¹ : ℝ) : EReal) := (EReal.coe_inv L).symm
  simp only [Ideal.div, if_neg hz, hi]
  rw [mul_comm, mul_sum_of_nonneg _ (by exact_mod_cast (inv_pos.mpr hL).le) (EReal.coe_ne_top _)]
  exact Finset.sum_congr rfl fun k _ => by rw [mul_comm (e k), mul_assoc]

/-- A sum over the 8 padded new rows of terms that vanish on the padding is the sum over the 4 new rows. -/
theorem sum_pad (f : Fin 8 → EReal) (h : ∀ n : Fin 8, 4 ≤ n.val → f n = 0) :
    ∑ n : Fin 8, f n = ∑ n : Fin 4, f (Fin.castLE (by omega) n) := by
  rw [Fin.sum_univ_eight, h 4 (by decide), h 5 (by decide), h 6 (by decide), h 7 (by decide)]
  simp [Fin.sum_univ_four]

/-- The same of the supremum, of terms that are `⊥` on the padding. -/
theorem sup_pad (f : Fin 8 → EReal) (h : ∀ n : Fin 8, 4 ≤ n.val → f n = ⊥) :
    Finset.univ.sup f = Finset.univ.sup fun n : Fin 4 => f (Fin.castLE (by omega) n) := by
  apply le_antisymm
  · refine Finset.sup_le fun n _ => ?_
    by_cases hn : 4 ≤ n.val
    · rw [h n hn]; exact bot_le
    · have := Finset.le_sup (f := fun n : Fin 4 => f (Fin.castLE (by omega) n)) (Finset.mem_univ ⟨n.val, by omega⟩)
      exact this
  · exact Finset.sup_le fun n _ => Finset.le_sup (Finset.mem_univ _)

/-- The kernel's last step and quotient against the softmax normalised weight by weight. The cache's scores `s` are real, a
    new row's score `t` is real or masked (`⊥`), and the padding's is masked. -/
theorem finish {J : Type} (s : Fin 8192 → EReal) (v : Fin 8192 → J → EReal) (t : Fin 8 → EReal) (u : Fin 8 → J → EReal)
    (hs : ∀ n, ∃ r : ℝ, s n = r) (ht : ∀ n, t n ≠ ⊤) (hp : ∀ n : Fin 8, 4 ≤ n.val → t n = ⊥)
    {m l : EReal} {a : J → EReal} (h : IsState Finset.univ s v m l a) {m' l' : EReal} {a' : J → EReal}
    (hm : m' = max m (Finset.univ.sup t))
    (hl : l' = Ideal.exp (m - m') * l + ∑ n : Fin 8, Ideal.exp (t n - m'))
    (ha : ∀ j, a' j = Ideal.exp (m - m') * a j + ∑ n : Fin 8, Ideal.exp (t n - m') * u n j)
    {M L : EReal} (hM : M = max (Finset.univ.sup s) (Finset.univ.sup fun n : Fin 4 => t (Fin.castLE (by omega) n)))
    (hL : L = ∑ n, Ideal.exp (s n - M) + ∑ n : Fin 4, Ideal.exp (t (Fin.castLE (by omega) n) - M)) (j : J) :
    Ideal.div (Ideal.exp (m' - m') * a' j) (Ideal.exp (m' - m') * l')
      = ∑ n, Ideal.div (Ideal.exp (s n - M)) L * v n j
        + ∑ n : Fin 4, Ideal.div (Ideal.exp (t (Fin.castLE (by omega) n) - M)) L * u (Fin.castLE (by omega) n) j := by
  obtain ⟨h1, h2, h3⟩ := h
  have hst : ∀ n, s n ≠ ⊤ := fun n => by obtain ⟨r, e⟩ := hs n; rw [e]; exact EReal.coe_ne_top r
  have hsb : ∀ n, s n ≠ ⊥ := fun n => by obtain ⟨r, e⟩ := hs n; rw [e]; exact EReal.coe_ne_bot r
  have hle : ∀ k ∈ Finset.univ, s k ≤ m := fun k hk => h1 ▸ Finset.le_sup hk
  have hmm : m ≤ m' := hm ▸ le_max_left _ _
  have eM : m' = M := by rw [hm, hM, h1, sup_pad t hp]
  have h0 : ∀ n : Fin 8, 4 ≤ n.val → Ideal.exp (t n - m') = 0 := fun n hn => by rw [hp n hn]; simp [sub_eq_add_neg]
  have tle : ∀ n, t n ≤ m' := fun n => hm ▸ le_trans (Finset.le_sup (Finset.mem_univ n)) (le_max_right _ _)
  have eL : l' = L := by
    rw [hl, h2, rescale_one _ _ hle hmm, sum_pad _ h0, hL, eM]
  have eA : a' j = ∑ n, Ideal.exp (s n - M) * v n j
      + ∑ n : Fin 4, Ideal.exp (t (Fin.castLE (by omega) n) - M) * u (Fin.castLE (by omega) n) j := by
    rw [ha, h3, rescale _ _ _ hle hmm, sum_pad _ (fun n hn => by rw [h0 n hn, zero_mul]), eM]
  obtain ⟨x, hx⟩ := sup_real Finset.univ s (fun k _ => hst k) (Finset.mem_univ 0) (hsb 0)
  have hmr : ∃ r : ℝ, m' = r := by
    refine ⟨m'.toReal, (EReal.coe_toReal ?_ ?_).symm⟩
    · rw [hm, h1, hx]
      have : Finset.univ.sup t < ⊤ := (Finset.sup_lt_iff bot_lt_top).mpr fun k _ => lt_top_iff_ne_top.mpr (ht k)
      exact (max_lt (EReal.coe_lt_top x) this).ne
    · intro e; rw [e] at hmm; have := le_bot_iff.mp hmm; rw [h1, hx] at this; exact EReal.coe_ne_bot _ this
  obtain ⟨r, hr⟩ := hmr
  have e1 : Ideal.exp (m' - m') = 1 := by rw [hr, ← EReal.coe_sub, Ideal.exp_coe]; simp
  -- the whole list of keys as one sum
  let e : Fin 8192 ⊕ Fin 4 → EReal := Sum.elim (fun n => Ideal.exp (s n - M)) fun n => Ideal.exp (t (Fin.castLE (by omega) n) - M)
  let w : Fin 8192 ⊕ Fin 4 → EReal := Sum.elim (fun n => v n j) fun n => u (Fin.castLE (by omega) n) j
  have L1 : L = ∑ k, e k := by rw [hL, Fintype.sum_sum_type]; rfl
  obtain ⟨y, hy, ey⟩ := sum_pos_real Finset.univ e
    (by
      rintro (k | k) -
      · exact exp_sub_ne_top (eM ▸ le_trans (hle k (Finset.mem_univ k)) hmm)
      · exact exp_sub_ne_top (eM ▸ tle _))
    (by rintro (k | k) - <;> exact exp_nonneg _) (Finset.mem_univ (Sum.inl 0))
    (by
      obtain ⟨z, hz⟩ := hs 0
      show 0 < Ideal.exp (s 0 - M)
      rw [hz, ← eM, hr, ← EReal.coe_sub, Ideal.exp_coe]
      exact_mod_cast Real.exp_pos _)
  have key := div_sum Finset.univ e w hy
  rw [Fintype.sum_sum_type, Fintype.sum_sum_type, ← ey, ← L1] at key
  rw [e1, one_mul, one_mul, eL, eA]
  exact key.symm

end Cert.Softmax

end
-- ==== Proof.Step.lean ====
/- One chunk's update of the running softmax, as the kernel's payloads compose it from the queries, the chunk's 16 pages and
   the running state, read at an index: the maximum, the sum and the weighted sum. -/
module

public import proofs.«01_k».proof.Proof.Softmax
public import proofs.«01_k».proof.Proof.Gen.KernelIdeal.Skeleton
public import Idealize.ShloMosaic.Lib.Pointwise

@[expose] public section

set_option maxRecDepth 16384

noncomputable section

namespace Cert.KernelIdeal.Gen

open Idealize.ShloMosaic Idealize.ShloMosaic.TcCoe Idealize.ShloMosaic.Pointwise

section Forms
variable {F : FTy → Type} [FloatOps F] [Named F]

/-- The scores of the queries against page 0 of the chunk. -/
def sc0 (q : Vec F S1x32x288 .bf16) (x : Fin 16 → Vec F S1x288x128 .f32) : FVec F S32x128 .f32 :=
  k0_pay37 (k0_pay19 q) (k0_pay20 (x 0))
/-- The scores of the queries against page 1 of the chunk. -/
def sc1 (q : Vec F S1x32x288 .bf16) (x : Fin 16 → Vec F S1x288x128 .f32) : FVec F S32x128 .f32 :=
  k0_pay38 (k0_pay19 q) (k0_pay21 (x 1))
/-- The scores of the queries against page 2 of the chunk. -/
def sc2 (q : Vec F S1x32x288 .bf16) (x : Fin 16 → Vec F S1x288x128 .f32) : FVec F S32x128 .f32 :=
  k0_pay39 (k0_pay19 q) (k0_pay22 (x 2))
/-- The scores of the queries against page 3 of the chunk. -/
def sc3 (q : Vec F S1x32x288 .bf16) (x : Fin 16 → Vec F S1x288x128 .f32) : FVec F S32x128 .f32 :=
  k0_pay40 (k0_pay19 q) (k0_pay23 (x 3))
/-- The scores of the queries against page 4 of the chunk. -/
def sc4 (q : Vec F S1x32x288 .bf16) (x : Fin 16 → Vec F S1x288x128 .f32) : FVec F S32x128 .f32 :=
  k0_pay41 (k0_pay19 q) (k0_pay24 (x 4))
/-- The scores of the queries against page 5 of the chunk. -/
def sc5 (q : Vec F S1x32x288 .bf16) (x : Fin 16 → Vec F S1x288x128 .f32) : FVec F S32x128 .f32 :=
  k0_pay42 (k0_pay19 q) (k0_pay25 (x 5)) (constant S32x128 .f32 0x00000000#32)
/-- The scores of the queries against page 6 of the chunk. -/
def sc6 (q : Vec F S1x32x288 .bf16) (x : Fin 16 → Vec F S1x288x128 .f32) : FVec F S32x128 .f32 :=
  k0_pay43 (k0_pay19 q) (k0_pay26 (x 6))
/-- The scores of the queries against page 7 of the chunk. -/
def sc7 (q : Vec F S1x32x288 .bf16) (x : Fin 16 → Vec F S1x288x128 .f32) : FVec F S32x128 .f32 :=
  k0_pay44 (k0_pay19 q) (k0_pay28 (k0_pay27 (x 7)))
/-- The scores of the queries against page 8 of the chunk. -/
def sc8 (q : Vec F S1x32x288 .bf16) (x : Fin 16 → Vec F S1x288x128 .f32) : FVec F S32x128 .f32 :=
  k0_pay45 (k0_pay19 q) (k0_pay29 (x 8))
/-- The scores of the queries against page 9 of the chunk. -/
def sc9 (q : Vec F S1x32x288 .bf16) (x : Fin 16 → Vec F S1x288x128 .f32) : FVec F S32x128 .f32 :=
  k0_pay46 (k0_pay19 q) (k0_pay30 (x 9))
/-- The scores of the queries against page 10 of the chunk. -/
def sc10 (q : Vec F S1x32x288 .bf16) (x : Fin 16 → Vec F S1x288x128 .f32) : FVec F S32x128 .f32 :=
  k0_pay47 (k0_pay19 q) (k0_pay31 (x 10))
/-- The scores of the queries against page 11 of the chunk. -/
def sc11 (q : Vec F S1x32x288 .bf16) (x : Fin 16 → Vec F S1x288x128 .f32) : FVec F S32x128 .f32 :=
  k0_pay48 (k0_pay19 q) (k0_pay32 (x 11))
/-- The scores of the queries against page 12 of the chunk. -/
def sc12 (q : Vec F S1x32x288 .bf16) (x : Fin 16 → Vec F S1x288x128 .f32) : FVec F S32x128 .f32 :=
  k0_pay49 (k0_pay19 q) (k0_pay33 (x 12))
/-- The scores of the queries against page 13 of the chunk. -/
def sc13 (q : Vec F S1x32x288 .bf16) (x : Fin 16 → Vec F S1x288x128 .f32) : FVec F S32x128 .f32 :=
  k0_pay50 (k0_pay19 q) (k0_pay34 (x 13))
/-- The scores of the queries against page 14 of the chunk. -/
def sc14 (q : Vec F S1x32x288 .bf16) (x : Fin 16 → Vec F S1x288x128 .f32) : FVec F S32x128 .f32 :=
  k0_pay51 (k0_pay19 q) (k0_pay35 (x 14))
/-- The scores of the queries against page 15 of the chunk. -/
def sc15 (q : Vec F S1x32x288 .bf16) (x : Fin 16 → Vec F S1x288x128 .f32) : FVec F S32x128 .f32 :=
  k0_pay52 (k0_pay19 q) (k0_pay36 (x 15))
/-- The value lanes of page 0 of the chunk. -/
def vl0 (x : Fin 16 → Vec F S1x288x128 .f32) : FVec F S256x128 .bf16 :=
  k0_pay53 (k0_pay20 (x 0))
/-- The value lanes of page 1 of the chunk. -/
def vl1 (x : Fin 16 → Vec F S1x288x128 .f32) : FVec F S256x128 .bf16 :=
  k0_pay54 (k0_pay21 (x 1))
/-- The value lanes of page 2 of the chunk. -/
def vl2 (x : Fin 16 → Vec F S1x288x128 .f32) : FVec F S256x128 .bf16 :=
  k0_pay55 (k0_pay22 (x 2))
/-- The value lanes of page 3 of the chunk. -/
def vl3 (x : Fin 16 → Vec F S1x288x128 .f32) : FVec F S256x128 .bf16 :=
  k0_pay56 (k0_pay23 (x 3))
/-- The value lanes of page 4 of the chunk. -/
def vl4 (x : Fin 16 → Vec F S1x288x128 .f32) : FVec F S256x128 .bf16 :=
  k0_pay57 (k0_pay24 (x 4))
/-- The value lanes of page 5 of the chunk. -/
def vl5 (x : Fin 16 → Vec F S1x288x128 .f32) : FVec F S256x128 .bf16 :=
  k0_pay58 (k0_pay25 (x 5))
/-- The value lanes of page 6 of the chunk. -/
def vl6 (x : Fin 16 → Vec F S1x288x128 .f32) : FVec F S256x128 .bf16 :=
  k0_pay59 (k0_pay26 (x 6))
/-- The value lanes of page 7 of the chunk. -/
def vl7 (x : Fin 16 → Vec F S1x288x128 .f32) : FVec F S256x128 .bf16 :=
  k0_pay60 (k0_pay28 (k0_pay27 (x 7)))
/-- The value lanes of page 8 of the chunk. -/
def vl8 (x : Fin 16 → Vec F S1x288x128 .f32) : FVec F S256x128 .bf16 :=
  k0_pay61 (k0_pay29 (x 8))
/-- The value lanes of page 9 of the chunk. -/
def vl9 (x : Fin 16 → Vec F S1x288x128 .f32) : FVec F S256x128 .bf16 :=
  k0_pay62 (k0_pay30 (x 9))
/-- The value lanes of page 10 of the chunk. -/
def vl10 (x : Fin 16 → Vec F S1x288x128 .f32) : FVec F S256x128 .bf16 :=
  k0_pay63 (k0_pay31 (x 10))
/-- The value lanes of page 11 of the chunk. -/
def vl11 (x : Fin 16 → Vec F S1x288x128 .f32) : FVec F S256x128 .bf16 :=
  k0_pay64 (k0_pay32 (x 11))
/-- The value lanes of page 12 of the chunk. -/
def vl12 (x : Fin 16 → Vec F S1x288x128 .f32) : FVec F S256x128 .bf16 :=
  k0_pay65 (k0_pay33 (x 12))
/-- The value lanes of page 13 of the chunk. -/
def vl13 (x : Fin 16 → Vec F S1x288x128 .f32) : FVec F S256x128 .bf16 :=
  k0_pay66 (k0_pay34 (x 13))
/-- The value lanes of page 14 of the chunk. -/
def vl14 (x : Fin 16 → Vec F S1x288x128 .f32) : FVec F S256x128 .bf16 :=
  k0_pay67 (k0_pay35 (x 14))
/-- The value lanes of page 15 of the chunk. -/
def vl15 (x : Fin 16 → Vec F S1x288x128 .f32) : FVec F S256x128 .bf16 :=
  k0_pay68 (k0_pay36 (x 15))
/-- The maximum after the chunk's first four pages. -/
def max4 (q : Vec F S1x32x288 .bf16) (x : Fin 16 → Vec F S1x288x128 .f32) (m : Vec F S1x32x1 .f32) : FVec F S32x1 .f32 := k0_pay70 (sc0 q x) (sc1 q x) (sc2 q x) (sc3 q x) m
/-- The maximum after the chunk. -/
def newM (q : Vec F S1x32x288 .bf16) (x : Fin 16 → Vec F S1x288x128 .f32) (m : Vec F S1x32x1 .f32) : FVec F S32x1 .f32 :=
  k0_pay72 (sc5 q x) (sc6 q x) (sc7 q x) (sc8 q x) (sc9 q x) (sc10 q x) (sc11 q x) (sc12 q x) (sc13 q x) (sc14 q x) (sc15 q x) (max4 q x m) (k0_pay71 (sc4 q x))
/-- The sum of weights after the chunk. -/
def newL (q : Vec F S1x32x288 .bf16) (x : Fin 16 → Vec F S1x288x128 .f32) (m l : Vec F S1x32x1 .f32) : FVec F S32x1 .f32 :=
  k0_pay98 (sc11 q x) (sc12 q x) (sc13 q x) (sc14 q x) (sc15 q x) (newM q x m) (k0_pay91 (sc6 q x) (sc7 q x) (sc8 q x) (sc9 q x) (sc10 q x) (newM q x m) (k0_pay82 (sc0 q x) (sc1 q x) (sc2 q x) (sc3 q x) (sc4 q x) (newM q x m)
    (k0_pay74 (sc5 q x) (sc6 q x) (sc7 q x) (sc8 q x) (sc9 q x) (sc10 q x) (sc11 q x) (sc12 q x) (sc13 q x) (sc14 q x) (sc15 q x) (k0_pay69 m) (max4 q x m) (k0_pay71 (sc4 q x)) l)) (k0_pay84 (sc5 q x) (newM q x m)))
/-- The weighted sum of the values after the chunk. -/
def newA (q : Vec F S1x32x288 .bf16) (x : Fin 16 → Vec F S1x288x128 .f32) (m : Vec F S1x32x1 .f32) (a : Vec F S1x32x256 .f32) : FVec F S32x256 .f32 :=
  k0_pay99 (sc11 q x) (sc12 q x) (sc13 q x) (sc14 q x) (sc15 q x) (vl10 x) (vl11 x) (vl12 x) (vl13 x) (vl14 x) (vl15 x) (newM q x m) (k0_pay89 (sc6 q x) (sc7 q x) (sc8 q x) (sc9 q x) (vl5 x) (vl6 x) (vl7 x) (vl8 x) (vl9 x) (newM q x m)
    (k0_pay83 (sc0 q x) (sc1 q x) (sc2 q x) (sc3 q x) (sc4 q x) (vl0 x) (vl1 x) (vl2 x) (vl3 x) (vl4 x) (newM q x m) (k0_pay75 a) (k0_pay76 (sc5 q x) (sc6 q x) (sc7 q x) (sc8 q x) (sc9 q x) (sc10 q x) (sc11 q x) (sc12 q x) (sc13 q x) (sc14 q x) (sc15 q x) (k0_pay69 m) (max4 q x m) (k0_pay71 (sc4 q x))))
    (k0_pay84 (sc5 q x) (newM q x m))) (k0_pay92 (sc10 q x) (newM q x m)) (constant S32x256 .f32 0x00000000#32)

end Forms

/-- A query's score against a column of a page. -/
def dot (q : Vec Ideal S1x32x288 .bf16) (x : Vec Ideal S1x288x128 .f32) (r : Fin 32) (k : Fin 128) : EReal :=
  ∑ j : Fin 288, (q (ix3 0 r j) : EReal) * x (ix3 0 j k)

section AtIdeal
variable (q : Vec Ideal S1x32x288 .bf16) (x : Fin 16 → Vec Ideal S1x288x128 .f32)

theorem sc0_at (r : Fin 32) (k : Fin 128) : (sc0 q x (ix2 r k) : EReal) = dot q (x 0) r k := by
  unfold dot; pointwise [sc0, k0_pay37, k0_pay19, k0_pay20]
theorem vl0_at (j : Fin 256) (k : Fin 128) : (vl0 x (ix2 j k) : EReal) = x 0 (ix3 0 (Fin.castLE (by omega) j) k) := by
  pointwise [vl0, k0_pay53, k0_pay20]; rfl
theorem sc1_at (r : Fin 32) (k : Fin 128) : (sc1 q x (ix2 r k) : EReal) = dot q (x 1) r k := by
  unfold dot; pointwise [sc1, k0_pay38, k0_pay19, k0_pay21]
theorem vl1_at (j : Fin 256) (k : Fin 128) : (vl1 x (ix2 j k) : EReal) = x 1 (ix3 0 (Fin.castLE (by omega) j) k) := by
  pointwise [vl1, k0_pay54, k0_pay21]; rfl
theorem sc2_at (r : Fin 32) (k : Fin 128) : (sc2 q x (ix2 r k) : EReal) = dot q (x 2) r k := by
  unfold dot; pointwise [sc2, k0_pay39, k0_pay19, k0_pay22]
theorem vl2_at (j : Fin 256) (k : Fin 128) : (vl2 x (ix2 j k) : EReal) = x 2 (ix3 0 (Fin.castLE (by omega) j) k) := by
  pointwise [vl2, k0_pay55, k0_pay22]; rfl
theorem sc3_at (r : Fin 32) (k : Fin 128) : (sc3 q x (ix2 r k) : EReal) = dot q (x 3) r k := by
  unfold dot; pointwise [sc3, k0_pay40, k0_pay19, k0_pay23]
theorem vl3_at (j : Fin 256) (k : Fin 128) : (vl3 x (ix2 j k) : EReal) = x 3 (ix3 0 (Fin.castLE (by omega) j) k) := by
  pointwise [vl3, k0_pay56, k0_pay23]; rfl
theorem sc4_at (r : Fin 32) (k : Fin 128) : (sc4 q x (ix2 r k) : EReal) = dot q (x 4) r k := by
  unfold dot; pointwise [sc4, k0_pay41, k0_pay19, k0_pay24]
theorem vl4_at (j : Fin 256) (k : Fin 128) : (vl4 x (ix2 j k) : EReal) = x 4 (ix3 0 (Fin.castLE (by omega) j) k) := by
  pointwise [vl4, k0_pay57, k0_pay24]; rfl
theorem sc5_at (r : Fin 32) (k : Fin 128) : (sc5 q x (ix2 r k) : EReal) = dot q (x 5) r k := by
  unfold dot; pointwise [sc5, k0_pay42, k0_pay19, k0_pay25]
theorem vl5_at (j : Fin 256) (k : Fin 128) : (vl5 x (ix2 j k) : EReal) = x 5 (ix3 0 (Fin.castLE (by omega) j) k) := by
  pointwise [vl5, k0_pay58, k0_pay25]; rfl
theorem sc6_at (r : Fin 32) (k : Fin 128) : (sc6 q x (ix2 r k) : EReal) = dot q (x 6) r k := by
  unfold dot; pointwise [sc6, k0_pay43, k0_pay19, k0_pay26]
theorem vl6_at (j : Fin 256) (k : Fin 128) : (vl6 x (ix2 j k) : EReal) = x 6 (ix3 0 (Fin.castLE (by omega) j) k) := by
  pointwise [vl6, k0_pay59, k0_pay26]; rfl
theorem sc7_at (r : Fin 32) (k : Fin 128) : (sc7 q x (ix2 r k) : EReal) = dot q (x 7) r k := by
  unfold dot; pointwise [sc7, k0_pay44, k0_pay19, k0_pay27, k0_pay28]
theorem vl7_at (j : Fin 256) (k : Fin 128) : (vl7 x (ix2 j k) : EReal) = x 7 (ix3 0 (Fin.castLE (by omega) j) k) := by
  pointwise [vl7, k0_pay60, k0_pay27, k0_pay28]; rfl
theorem sc8_at (r : Fin 32) (k : Fin 128) : (sc8 q x (ix2 r k) : EReal) = dot q (x 8) r k := by
  unfold dot; pointwise [sc8, k0_pay45, k0_pay19, k0_pay29]
theorem vl8_at (j : Fin 256) (k : Fin 128) : (vl8 x (ix2 j k) : EReal) = x 8 (ix3 0 (Fin.castLE (by omega) j) k) := by
  pointwise [vl8, k0_pay61, k0_pay29]; rfl
theorem sc9_at (r : Fin 32) (k : Fin 128) : (sc9 q x (ix2 r k) : EReal) = dot q (x 9) r k := by
  unfold dot; pointwise [sc9, k0_pay46, k0_pay19, k0_pay30]
theorem vl9_at (j : Fin 256) (k : Fin 128) : (vl9 x (ix2 j k) : EReal) = x 9 (ix3 0 (Fin.castLE (by omega) j) k) := by
  pointwise [vl9, k0_pay62, k0_pay30]; rfl
theorem sc10_at (r : Fin 32) (k : Fin 128) : (sc10 q x (ix2 r k) : EReal) = dot q (x 10) r k := by
  unfold dot; pointwise [sc10, k0_pay47, k0_pay19, k0_pay31]
theorem vl10_at (j : Fin 256) (k : Fin 128) : (vl10 x (ix2 j k) : EReal) = x 10 (ix3 0 (Fin.castLE (by omega) j) k) := by
  pointwise [vl10, k0_pay63, k0_pay31]; rfl
theorem sc11_at (r : Fin 32) (k : Fin 128) : (sc11 q x (ix2 r k) : EReal) = dot q (x 11) r k := by
  unfold dot; pointwise [sc11, k0_pay48, k0_pay19, k0_pay32]
theorem vl11_at (j : Fin 256) (k : Fin 128) : (vl11 x (ix2 j k) : EReal) = x 11 (ix3 0 (Fin.castLE (by omega) j) k) := by
  pointwise [vl11, k0_pay64, k0_pay32]; rfl
theorem sc12_at (r : Fin 32) (k : Fin 128) : (sc12 q x (ix2 r k) : EReal) = dot q (x 12) r k := by
  unfold dot; pointwise [sc12, k0_pay49, k0_pay19, k0_pay33]
theorem vl12_at (j : Fin 256) (k : Fin 128) : (vl12 x (ix2 j k) : EReal) = x 12 (ix3 0 (Fin.castLE (by omega) j) k) := by
  pointwise [vl12, k0_pay65, k0_pay33]; rfl
theorem sc13_at (r : Fin 32) (k : Fin 128) : (sc13 q x (ix2 r k) : EReal) = dot q (x 13) r k := by
  unfold dot; pointwise [sc13, k0_pay50, k0_pay19, k0_pay34]
theorem vl13_at (j : Fin 256) (k : Fin 128) : (vl13 x (ix2 j k) : EReal) = x 13 (ix3 0 (Fin.castLE (by omega) j) k) := by
  pointwise [vl13, k0_pay66, k0_pay34]; rfl
theorem sc14_at (r : Fin 32) (k : Fin 128) : (sc14 q x (ix2 r k) : EReal) = dot q (x 14) r k := by
  unfold dot; pointwise [sc14, k0_pay51, k0_pay19, k0_pay35]
theorem vl14_at (j : Fin 256) (k : Fin 128) : (vl14 x (ix2 j k) : EReal) = x 14 (ix3 0 (Fin.castLE (by omega) j) k) := by
  pointwise [vl14, k0_pay67, k0_pay35]; rfl
theorem sc15_at (r : Fin 32) (k : Fin 128) : (sc15 q x (ix2 r k) : EReal) = dot q (x 15) r k := by
  unfold dot; pointwise [sc15, k0_pay52, k0_pay19, k0_pay36]
theorem vl15_at (j : Fin 256) (k : Fin 128) : (vl15 x (ix2 j k) : EReal) = x 15 (ix3 0 (Fin.castLE (by omega) j) k) := by
  pointwise [vl15, k0_pay68, k0_pay36]; rfl

/-- The bits of the reductions' starting value are minus infinity. -/
theorem ninf_f32 : Ideal.ofBits .f32 0xFF800000#32 = ⊥ := by simp [Ideal.ofBits, Ideal.ieee]

/-- A supremum as a fold of maxima from minus infinity. -/
theorem fold_max_eq {n : ℕ} (f : Fin n → EReal) : Finset.fold max (⊥ : EReal) f Finset.univ = Finset.univ.sup f := rfl

/-- The maximum after the first four pages at a row. -/
theorem max4_at (m : Vec Ideal S1x32x1 .f32) (r : Fin 32) : (max4 q x m (ix2 r 0) : EReal) =
    max (max (max (max (m (ix3 0 r 0) : EReal) (Finset.univ.sup fun k => dot q (x 0) r k)) (Finset.univ.sup fun k => dot q (x 1) r k))
      (Finset.univ.sup fun k => dot q (x 2) r k)) (Finset.univ.sup fun k => dot q (x 3) r k) := by
  pointwise [max4, k0_pay70, k0_pay69]
  simp only [ninf_f32, sc0_at, sc1_at, sc2_at, sc3_at]
  rfl

/-- The maximum after the chunk at a row: the old one and every score of the chunk. -/
theorem newM_at (m : Vec Ideal S1x32x1 .f32) (r : Fin 32) : (newM q x m (ix2 r 0) : EReal) =
    max (m (ix3 0 r 0)) ((Finset.univ : Finset (Fin 16)).sup fun i => (Finset.univ : Finset (Fin 128)).sup fun k => dot q (x i) r k) := by
  have e : (newM q x m (ix2 r 0) : EReal) = max (max (max (max (max (max (max (max (max (max (max (max (max4 q x m (ix2 r 0) : EReal)
    (Finset.univ.sup fun k => dot q (x 4) r k)) (Finset.univ.sup fun k => dot q (x 5) r k)) (Finset.univ.sup fun k => dot q (x 6) r k)) (Finset.univ.sup fun k => dot q (x 7) r k)) (Finset.univ.sup fun k => dot q (x 8) r k)) (Finset.univ.sup fun k => dot q (x 9) r k)) (Finset.univ.sup fun k => dot q (x 10) r k)) (Finset.univ.sup fun k => dot q (x 11) r k)) (Finset.univ.sup fun k => dot q (x 12) r k)) (Finset.univ.sup fun k => dot q (x 13) r k)) (Finset.univ.sup fun k => dot q (x 14) r k)) (Finset.univ.sup fun k => dot q (x 15) r k) := by
    pointwise [newM, k0_pay72, k0_pay71]
    simp only [ninf_f32, sc4_at, sc5_at, sc6_at, sc7_at, sc8_at, sc9_at, sc10_at, sc11_at, sc12_at, sc13_at, sc14_at, sc15_at]
    rfl
  rw [e, max4_at]
  have e2 : ∀ f : Fin 16 → EReal, (Finset.univ : Finset (Fin 16)).sup f = f 0 ⊔ (f 1 ⊔ (f 2 ⊔ (f 3 ⊔ (f 4 ⊔ (f 5 ⊔ (f 6 ⊔ (f 7 ⊔ (f 8 ⊔ (f 9 ⊔ (f 10 ⊔ (f 11 ⊔ (f 12 ⊔ (f 13 ⊔ (f 14 ⊔ f 15)))))))))))))) := by
    intro f
    apply le_antisymm
    · refine Finset.sup_le fun i _ => ?_
      fin_cases i <;> simp
    · simp only [sup_le_iff]
      refine ⟨?_, ?_, ?_, ?_, ?_, ?_, ?_, ?_, ?_, ?_, ?_, ?_, ?_, ?_, ?_, ?_⟩ <;> exact Finset.le_sup (Finset.mem_univ _)
  rw [e2]
  simp only [max_assoc]

/-- A sum over 16 pages, spelt out from the left. -/
theorem sum16 (f : Fin 16 → EReal) (b : EReal) : b + ∑ i, f i = b + f 0 + f 1 + f 2 + f 3 + f 4 + f 5 + f 6 + f 7 + f 8 + f 9 + f 10
    + f 11 + f 12 + f 13 + f 14 + f 15 := by
  simp only [Fin.sum_univ_succ, Fin.sum_univ_zero, add_zero, ← add_assoc]
  rfl

/-- The sum of weights after the chunk at a row. -/
theorem newL_at (m l : Vec Ideal S1x32x1 .f32) (r : Fin 32) : (newL q x m l (ix2 r 0) : EReal) =
    Ideal.exp ((m (ix3 0 r 0) : EReal) - newM q x m (ix2 r 0)) * l (ix3 0 r 0)
      + ∑ i : Fin 16, ∑ k : Fin 128, Ideal.exp (dot q (x i) r k - newM q x m (ix2 r 0)) := by
  rw [sum16 fun i => ∑ k : Fin 128, Ideal.exp (dot q (x i) r k - newM q x m (ix2 r 0))]
  have e : ∀ i, k0_pay72 (sc5 q x) (sc6 q x) (sc7 q x) (sc8 q x) (sc9 q x) (sc10 q x) (sc11 q x) (sc12 q x) (sc13 q x) (sc14 q x) (sc15 q x) (max4 q x m) (k0_pay71 (sc4 q x)) i = newM q x m i := fun _ => rfl
  pointwise [newL, k0_pay98, k0_pay97, k0_pay96, k0_pay95, k0_pay94, k0_pay93, k0_pay91, k0_pay90, k0_pay88, k0_pay87, k0_pay86,
    k0_pay85, k0_pay84, k0_pay82, k0_pay81, k0_pay80, k0_pay79, k0_pay78, k0_pay77, k0_pay74, k0_pay73, k0_pay69]
  simp only [e, sc0_at, sc1_at, sc2_at, sc3_at, sc4_at, sc5_at, sc6_at, sc7_at, sc8_at, sc9_at, sc10_at, sc11_at, sc12_at, sc13_at, sc14_at, sc15_at]

/-- The weighted sum of the values after the chunk at a row and a lane. -/
theorem newA_at (m : Vec Ideal S1x32x1 .f32) (a : Vec Ideal S1x32x256 .f32) (r : Fin 32) (j : Fin 256) :
    (newA q x m a (ix2 r j) : EReal) = Ideal.exp ((m (ix3 0 r 0) : EReal) - newM q x m (ix2 r 0)) * a (ix3 0 r j)
      + ∑ i : Fin 16, ∑ k : Fin 128, Ideal.exp (dot q (x i) r k - newM q x m (ix2 r 0)) * x i (ix3 0 (Fin.castLE (by omega) j) k) := by
  rw [sum16 fun i => ∑ k : Fin 128, Ideal.exp (dot q (x i) r k - newM q x m (ix2 r 0)) * (x i (ix3 0 (Fin.castLE (by omega) j) k) : EReal)]
  have e : ∀ i, k0_pay72 (sc5 q x) (sc6 q x) (sc7 q x) (sc8 q x) (sc9 q x) (sc10 q x) (sc11 q x) (sc12 q x) (sc13 q x) (sc14 q x) (sc15 q x) (max4 q x m) (k0_pay71 (sc4 q x)) i = newM q x m i := fun _ => rfl
  pointwise [newA, k0_pay99, k0_pay97, k0_pay96, k0_pay95, k0_pay94, k0_pay93, k0_pay92, k0_pay90, k0_pay89, k0_pay88, k0_pay87, k0_pay86,
    k0_pay85, k0_pay84, k0_pay83, k0_pay81, k0_pay80, k0_pay79, k0_pay78, k0_pay77, k0_pay76, k0_pay75, k0_pay73, k0_pay69]
  simp only [e, sc0_at, vl0_at, sc1_at, vl1_at, sc2_at, vl2_at, sc3_at, vl3_at, sc4_at, vl4_at, sc5_at, vl5_at, sc6_at, vl6_at, sc7_at, vl7_at, sc8_at, vl8_at, sc9_at, vl9_at, sc10_at, vl10_at, sc11_at, vl11_at, sc12_at, vl12_at, sc13_at, vl13_at, sc14_at, vl14_at, sc15_at, vl15_at]

end AtIdeal

end Cert.KernelIdeal.Gen

end
-- ==== Proof.Last.lean ====
/- The last chunk's extra step — the new rows under the causal mask — and the quotient it writes, read at an index. -/
module

public import proofs.«01_k».proof.Proof.Step

@[expose] public section

set_option maxRecDepth 16384

noncomputable section

namespace Cert.KernelIdeal.Gen

open Idealize.ShloMosaic Idealize.ShloMosaic.TcCoe Idealize.ShloMosaic.Pointwise

/-- A query's score against a new row: the product where the mask holds a positive number, minus infinity elsewhere. -/
def tdot (q : Vec Ideal S1x32x288 .bf16) (n : Vec Ideal S1x8x288 .f32) (w : Vec Ideal S32x8 .f32) (r : Fin 32) (k : Fin 8) : EReal :=
  (∑ j : Fin 288, (q (ix3 0 r j) : EReal) * n (ix3 0 k j)) + if (0 : EReal) < w (ix2 r k) then 0 else ⊥

variable (q : Vec Ideal S1x32x288 .bf16) (n : Vec Ideal S1x8x288 .f32) (w : Vec Ideal S32x8 .f32)

/-- The masked scores of the new rows. -/
theorem pay9_at (r : Fin 32) (k : Fin 8) : (k0_pay9 (k0_pay19 q) n w (ix2 r k) : EReal) = tdot q n w r k := by
  unfold tdot
  pointwise [k0_pay9, k0_pay19, k0_pay8]
  rfl

/-- The maximum with the new rows. -/
theorem pay11_at (m : Vec Ideal S1x32x1 .f32) (r : Fin 32) :
    (k0_pay11 (k0_pay19 q) n w m (ix2 r 0) : EReal) = max (m (ix3 0 r 0)) (Finset.univ.sup fun k => tdot q n w r k) := by
  pointwise [k0_pay11, k0_pay10]
  simp only [ninf_f32, pay9_at]
  rfl

/-- The sum of weights with the new rows. -/
theorem pay14_at (m l : Vec Ideal S1x32x1 .f32) (r : Fin 32) :
    (k0_pay14 (k0_pay19 q) n w m l (ix2 r 0) : EReal) =
      Ideal.exp ((m (ix3 0 r 0) : EReal) - k0_pay11 (k0_pay19 q) n w m (ix2 r 0)) * l (ix3 0 r 0)
        + ∑ k : Fin 8, Ideal.exp (tdot q n w r k - k0_pay11 (k0_pay19 q) n w m (ix2 r 0)) := by
  pointwise [k0_pay14, k0_pay13, k0_pay12, k0_pay10]
  simp only [pay9_at]

/-- The weighted sum with the new rows. -/
theorem pay15_at (m : Vec Ideal S1x32x1 .f32) (a : Vec Ideal S1x32x256 .f32) (r : Fin 32) (j : Fin 256) :
    (k0_pay15 (k0_pay19 q) n w m a (ix2 r j) : EReal) =
      Ideal.exp ((m (ix3 0 r 0) : EReal) - k0_pay11 (k0_pay19 q) n w m (ix2 r 0)) * a (ix3 0 r j)
        + ∑ k : Fin 8, Ideal.exp (tdot q n w r k - k0_pay11 (k0_pay19 q) n w m (ix2 r 0)) * n (ix3 0 k (Fin.castLE (by omega) j)) := by
  pointwise [k0_pay15, k0_pay13, k0_pay12, k0_pay10, k0_pay8]
  simp only [pay9_at]
  rfl

/-- The quotient the last chunk writes. -/
theorem pay7_at (m m' l : Vec Ideal S1x32x1 .f32) (a : Vec Ideal S1x32x256 .f32) (r : Fin 32) (j : Fin 256) :
    (k0_pay7 m m' l a (ix3 0 r j) : EReal) =
      Ideal.div (Ideal.exp ((m' (ix3 0 r 0) : EReal) - m (ix3 0 r 0)) * a (ix3 0 r j))
        (Ideal.exp ((m' (ix3 0 r 0) : EReal) - m (ix3 0 r 0)) * l (ix3 0 r 0)) := by
  pointwise [k0_pay7]

/-- The stored forms of a column and of a block read back the stored value. -/
theorem pay1_at (m : FVec Ideal S32x1 .f32) (r : Fin 32) : k0_pay1 m (ix3 0 r 0) = m (ix2 r 0) := by pointwise [k0_pay1]
theorem pay2_at (m : FVec Ideal S32x1 .f32) (r : Fin 32) : k0_pay2 m (ix3 0 r 0) = m (ix2 r 0) := by pointwise [k0_pay2]
theorem pay3_at (a : FVec Ideal S32x256 .f32) (r : Fin 32) (j : Fin 256) : k0_pay3 a (ix3 0 r j) = a (ix2 r j) := by pointwise [k0_pay3]
theorem pay4_at (m : FVec Ideal S32x1 .f32) (r : Fin 32) : k0_pay4 m (ix3 0 r 0) = m (ix2 r 0) := by pointwise [k0_pay4]
theorem pay5_at (m : FVec Ideal S32x1 .f32) (r : Fin 32) : k0_pay5 m (ix3 0 r 0) = m (ix2 r 0) := by pointwise [k0_pay5]
theorem pay6_at (a : FVec Ideal S32x256 .f32) (r : Fin 32) (j : Fin 256) : k0_pay6 a (ix3 0 r j) = a (ix2 r j) := by pointwise [k0_pay6]

/-- The state a row of queries starts with: minus infinity, zero, zero. -/
theorem pay16_at (r : Fin 32) : (k0_pay16 (F := Ideal) (ix3 0 r 0) : EReal) = ⊥ := by
  pointwise [k0_pay16]; rfl
theorem pay17_at (r : Fin 32) : (k0_pay17 (F := Ideal) (ix3 0 r 0) : EReal) = 0 := by
  pointwise [k0_pay17]
theorem pay18_at (r : Fin 32) (j : Fin 256) : (k0_pay18 (F := Ideal) (ix3 0 r j) : EReal) = 0 := by
  pointwise [k0_pay18]

end Cert.KernelIdeal.Gen

end
-- ==== Proof.Cases.lean ====
/- What each of the three kinds of grid point leaves in the kernel's scratches and output, as the named forms of `Step` and `Last`:
   the first chunk of a row of queries (A), a middle one (B), the last (C). -/
module

public import proofs.«01_k».proof.Proof.Last
public import proofs.«01_k».proof.Proof.KernelIdealOuts
public import Idealize.ShloMosaic.Lib.Pipeline.Value
public import Idealize.ShloMosaic.Lib.Tactic

@[expose] public section

set_option maxRecDepth 16384

noncomputable section

namespace Cert.KernelIdeal.Gen

open Idealize.ShloMosaic Idealize.ShloMosaic.TcCoe Idealize.ShloMosaic.Tactic

/-- The zero offsets of a whole-buffer access. -/
theorem off3 : (![0, 0, 0] : Fin 3 → ℕ) = fun _ => 0 := by funext a; fin_cases a <;> rfl
theorem off2 : (![0, 0] : Fin 2 → ℕ) = fun _ => 0 := by funext a; fin_cases a <;> rfl

/-- A whole-buffer load after whole-buffer stores reads the last one's payload. -/
theorem readCov_last {Val : EltTy → Type} [∀ e, Nonempty (Val e)] {S : Shape} {e : EltTy} {sg : RefSig} {kd : Kind} {sp : Space}
    (v : View sg kd sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

variable {F : FTy → Type} [FloatOps F] [Named F]

/-- What a first chunk leaves: the maximum. -/
theorem sout0_A_0_eq (c : Dev nD) (i : grid0.Coords) (arg3 : Memref sig .tc .vmem S1x32x288 .bf16) (harg3 : arg3.IsWhole) (arg4 : Memref sig .tc .vmem S1x288x128 .f32) (harg4 : arg4.IsWhole) (arg5 : Memref sig .tc .vmem S1x288x128 .f32) (harg5 : arg5.IsWhole) (arg6 : Memref sig .tc .vmem S1x288x128 .f32) (harg6 : arg6.IsWhole) (arg7 : Memref sig .tc .vmem S1x288x128 .f32) (harg7 : arg7.IsWhole) (arg8 : Memref sig .tc .vmem S1x288x128 .f32) (harg8 : arg8.IsWhole) (arg9 : Memref sig .tc .vmem S1x288x128 .f32) (harg9 : arg9.IsWhole) (arg10 : Memref sig .tc .vmem S1x288x128 .f32) (harg10 : arg10.IsWhole) (arg11 : Memref sig .tc .vmem S1x288x128 .f32) (harg11 : arg11.IsWhole) (arg12 : Memref sig .tc .vmem S1x288x128 .f32) (harg12 : arg12.IsWhole) (arg13 : Memref sig .tc .vmem S1x288x128 .f32) (harg13 : arg13.IsWhole) (arg14 : Memref sig .tc .vmem S1x288x128 .f32) (harg14 : arg14.IsWhole) (arg15 : Memref sig .tc .vmem S1x288x128 .f32) (harg15 : arg15.IsWhole) (arg16 : Memref sig .tc .vmem S1x288x128 .f32) (harg16 : arg16.IsWhole) (arg17 : Memref sig .tc .vmem S1x288x128 .f32) (harg17 : arg17.IsWhole) (arg18 : Memref sig .tc .vmem S1x288x128 .f32) (harg18 : arg18.IsWhole) (arg19 : Memref sig .tc .vmem S1x288x128 .f32) (harg19 : arg19.IsWhole) (arg20 : Memref sig .tc .vmem S1x8x288 .f32) (harg20 : arg20.IsWhole) (arg21 : Memref sig .tc .vmem S32x8 .f32) (harg21 : arg21.IsWhole) (arg22 : Memref sig .tc .vmem S1x32x256 .bf16) (harg22 : arg22.IsWhole) (arg23 : Memref sig .tc .vmem S1x32x1 .f32) (harg23 : arg23.IsWhole) (arg24 : Memref sig .tc .vmem S1x32x1 .f32) (harg24 : arg24.IsWhole) (arg25 : Memref sig .tc .vmem S1x32x256 .f32) (harg25 : arg25.IsWhole) (hc0 : cond0_0 i) (hc1 : ¬cond0_1 i)
    (x0 : Vec F S1x32x288 .bf16) (x1 : Vec F S1x288x128 .f32) (x2 : Vec F S1x288x128 .f32) (x3 : Vec F S1x288x128 .f32) (x4 : Vec F S1x288x128 .f32) (x5 : Vec F S1x288x128 .f32) (x6 : Vec F S1x288x128 .f32) (x7 : Vec F S1x288x128 .f32) (x8 : Vec F S1x288x128 .f32) (x9 : Vec F S1x288x128 .f32) (x10 : Vec F S1x288x128 .f32) (x11 : Vec F S1x288x128 .f32) (x12 : Vec F S1x288x128 .f32) (x13 : Vec F S1x288x128 .f32) (x14 : Vec F S1x288x128 .f32) (x15 : Vec F S1x288x128 .f32) (x16 : Vec F S1x288x128 .f32) (x17 : Vec F S1x8x288 .f32) (x18 : Vec F S32x8 .f32) (xt0 : TbBuf0 (F := F) c tbM0_0) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 = (k0_pay1 (newM x0 ![x1, x2, x3, x4, x5, x6, x7, x8, x9, x10, x11, x12, x13, x14, x15, x16] k0_pay16)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0)]
  unfold kernelRun0_A
  dsimp only
  sl_unfold_words
  rw [View.canon_cons_unit_zero (S := S1x32x1) off3]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S1x32x288) off3, View.ld_unit_zero (S := S1x288x128) off3, View.ld_unit_zero (S := S1x32x1) off3, View.ld_unit_zero (S := S1x32x256) off3, View.ld_unit_zero (S := S1x8x288) off3, View.ld_unit_zero (S := S32x8) off2, readCov_last (S := S1x32x1) _ off3, readCov_last (S := S1x32x256) _ off3]
  rfl

/-- What a first chunk leaves: the sum of weights. -/
theorem sout0_A_1_eq (c : Dev nD) (i : grid0.Coords) (arg3 : Memref sig .tc .vmem S1x32x288 .bf16) (harg3 : arg3.IsWhole) (arg4 : Memref sig .tc .vmem S1x288x128 .f32) (harg4 : arg4.IsWhole) (arg5 : Memref sig .tc .vmem S1x288x128 .f32) (harg5 : arg5.IsWhole) (arg6 : Memref sig .tc .vmem S1x288x128 .f32) (harg6 : arg6.IsWhole) (arg7 : Memref sig .tc .vmem S1x288x128 .f32) (harg7 : arg7.IsWhole) (arg8 : Memref sig .tc .vmem S1x288x128 .f32) (harg8 : arg8.IsWhole) (arg9 : Memref sig .tc .vmem S1x288x128 .f32) (harg9 : arg9.IsWhole) (arg10 : Memref sig .tc .vmem S1x288x128 .f32) (harg10 : arg10.IsWhole) (arg11 : Memref sig .tc .vmem S1x288x128 .f32) (harg11 : arg11.IsWhole) (arg12 : Memref sig .tc .vmem S1x288x128 .f32) (harg12 : arg12.IsWhole) (arg13 : Memref sig .tc .vmem S1x288x128 .f32) (harg13 : arg13.IsWhole) (arg14 : Memref sig .tc .vmem S1x288x128 .f32) (harg14 : arg14.IsWhole) (arg15 : Memref sig .tc .vmem S1x288x128 .f32) (harg15 : arg15.IsWhole) (arg16 : Memref sig .tc .vmem S1x288x128 .f32) (harg16 : arg16.IsWhole) (arg17 : Memref sig .tc .vmem S1x288x128 .f32) (harg17 : arg17.IsWhole) (arg18 : Memref sig .tc .vmem S1x288x128 .f32) (harg18 : arg18.IsWhole) (arg19 : Memref sig .tc .vmem S1x288x128 .f32) (harg19 : arg19.IsWhole) (arg20 : Memref sig .tc .vmem S1x8x288 .f32) (harg20 : arg20.IsWhole) (arg21 : Memref sig .tc .vmem S32x8 .f32) (harg21 : arg21.IsWhole) (arg22 : Memref sig .tc .vmem S1x32x256 .bf16) (harg22 : arg22.IsWhole) (arg23 : Memref sig .tc .vmem S1x32x1 .f32) (harg23 : arg23.IsWhole) (arg24 : Memref sig .tc .vmem S1x32x1 .f32) (harg24 : arg24.IsWhole) (arg25 : Memref sig .tc .vmem S1x32x256 .f32) (harg25 : arg25.IsWhole) (hc0 : cond0_0 i) (hc1 : ¬cond0_1 i)
    (x0 : Vec F S1x32x288 .bf16) (x1 : Vec F S1x288x128 .f32) (x2 : Vec F S1x288x128 .f32) (x3 : Vec F S1x288x128 .f32) (x4 : Vec F S1x288x128 .f32) (x5 : Vec F S1x288x128 .f32) (x6 : Vec F S1x288x128 .f32) (x7 : Vec F S1x288x128 .f32) (x8 : Vec F S1x288x128 .f32) (x9 : Vec F S1x288x128 .f32) (x10 : Vec F S1x288x128 .f32) (x11 : Vec F S1x288x128 .f32) (x12 : Vec F S1x288x128 .f32) (x13 : Vec F S1x288x128 .f32) (x14 : Vec F S1x288x128 .f32) (x15 : Vec F S1x288x128 .f32) (x16 : Vec F S1x288x128 .f32) (x17 : Vec F S1x8x288 .f32) (x18 : Vec F S32x8 .f32) (xt0 : TbBuf0 (F := F) c tbM0_0) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 = (k0_pay2 (newL x0 ![x1, x2, x3, x4, x5, x6, x7, x8, x9, x10, x11, x12, x13, x14, x15, x16] k0_pay16 k0_pay17)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0)]
  unfold kernelRun0_A
  dsimp only
  sl_unfold_words
  rw [View.canon_cons_unit_zero (S := S1x32x1) off3]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S1x32x288) off3, View.ld_unit_zero (S := S1x288x128) off3, View.ld_unit_zero (S := S1x32x1) off3, View.ld_unit_zero (S := S1x32x256) off3, View.ld_unit_zero (S := S1x8x288) off3, View.ld_unit_zero (S := S32x8) off2, readCov_last (S := S1x32x1) _ off3, readCov_last (S := S1x32x256) _ off3]
  rfl

/-- What a first chunk leaves: the weighted sum. -/
theorem sout0_A_2_eq (c : Dev nD) (i : grid0.Coords) (arg3 : Memref sig .tc .vmem S1x32x288 .bf16) (harg3 : arg3.IsWhole) (arg4 : Memref sig .tc .vmem S1x288x128 .f32) (harg4 : arg4.IsWhole) (arg5 : Memref sig .tc .vmem S1x288x128 .f32) (harg5 : arg5.IsWhole) (arg6 : Memref sig .tc .vmem S1x288x128 .f32) (harg6 : arg6.IsWhole) (arg7 : Memref sig .tc .vmem S1x288x128 .f32) (harg7 : arg7.IsWhole) (arg8 : Memref sig .tc .vmem S1x288x128 .f32) (harg8 : arg8.IsWhole) (arg9 : Memref sig .tc .vmem S1x288x128 .f32) (harg9 : arg9.IsWhole) (arg10 : Memref sig .tc .vmem S1x288x128 .f32) (harg10 : arg10.IsWhole) (arg11 : Memref sig .tc .vmem S1x288x128 .f32) (harg11 : arg11.IsWhole) (arg12 : Memref sig .tc .vmem S1x288x128 .f32) (harg12 : arg12.IsWhole) (arg13 : Memref sig .tc .vmem S1x288x128 .f32) (harg13 : arg13.IsWhole) (arg14 : Memref sig .tc .vmem S1x288x128 .f32) (harg14 : arg14.IsWhole) (arg15 : Memref sig .tc .vmem S1x288x128 .f32) (harg15 : arg15.IsWhole) (arg16 : Memref sig .tc .vmem S1x288x128 .f32) (harg16 : arg16.IsWhole) (arg17 : Memref sig .tc .vmem S1x288x128 .f32) (harg17 : arg17.IsWhole) (arg18 : Memref sig .tc .vmem S1x288x128 .f32) (harg18 : arg18.IsWhole) (arg19 : Memref sig .tc .vmem S1x288x128 .f32) (harg19 : arg19.IsWhole) (arg20 : Memref sig .tc .vmem S1x8x288 .f32) (harg20 : arg20.IsWhole) (arg21 : Memref sig .tc .vmem S32x8 .f32) (harg21 : arg21.IsWhole) (arg22 : Memref sig .tc .vmem S1x32x256 .bf16) (harg22 : arg22.IsWhole) (arg23 : Memref sig .tc .vmem S1x32x1 .f32) (harg23 : arg23.IsWhole) (arg24 : Memref sig .tc .vmem S1x32x1 .f32) (harg24 : arg24.IsWhole) (arg25 : Memref sig .tc .vmem S1x32x256 .f32) (harg25 : arg25.IsWhole) (hc0 : cond0_0 i) (hc1 : ¬cond0_1 i)
    (x0 : Vec F S1x32x288 .bf16) (x1 : Vec F S1x288x128 .f32) (x2 : Vec F S1x288x128 .f32) (x3 : Vec F S1x288x128 .f32) (x4 : Vec F S1x288x128 .f32) (x5 : Vec F S1x288x128 .f32) (x6 : Vec F S1x288x128 .f32) (x7 : Vec F S1x288x128 .f32) (x8 : Vec F S1x288x128 .f32) (x9 : Vec F S1x288x128 .f32) (x10 : Vec F S1x288x128 .f32) (x11 : Vec F S1x288x128 .f32) (x12 : Vec F S1x288x128 .f32) (x13 : Vec F S1x288x128 .f32) (x14 : Vec F S1x288x128 .f32) (x15 : Vec F S1x288x128 .f32) (x16 : Vec F S1x288x128 .f32) (x17 : Vec F S1x8x288 .f32) (x18 : Vec F S32x8 .f32) (xt0 : TbBuf0 (F := F) c tbM0_0) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 = (k0_pay3 (newA x0 ![x1, x2, x3, x4, x5, x6, x7, x8, x9, x10, x11, x12, x13, x14, x15, x16] k0_pay16 k0_pay18)) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0)]
  unfold kernelRun0_A
  dsimp only
  sl_unfold_words
  rw [View.canon_cons_unit_zero (S := S1x32x256) off3]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S1x32x288) off3, View.ld_unit_zero (S := S1x288x128) off3, View.ld_unit_zero (S := S1x32x1) off3, View.ld_unit_zero (S := S1x32x256) off3, View.ld_unit_zero (S := S1x8x288) off3, View.ld_unit_zero (S := S32x8) off2, readCov_last (S := S1x32x1) _ off3, readCov_last (S := S1x32x256) _ off3]
  rfl

/-- What a middle chunk leaves: the maximum. -/
theorem sout0_B_0_eq (c : Dev nD) (i : grid0.Coords) (arg3 : Memref sig .tc .vmem S1x32x288 .bf16) (harg3 : arg3.IsWhole) (arg4 : Memref sig .tc .vmem S1x288x128 .f32) (harg4 : arg4.IsWhole) (arg5 : Memref sig .tc .vmem S1x288x128 .f32) (harg5 : arg5.IsWhole) (arg6 : Memref sig .tc .vmem S1x288x128 .f32) (harg6 : arg6.IsWhole) (arg7 : Memref sig .tc .vmem S1x288x128 .f32) (harg7 : arg7.IsWhole) (arg8 : Memref sig .tc .vmem S1x288x128 .f32) (harg8 : arg8.IsWhole) (arg9 : Memref sig .tc .vmem S1x288x128 .f32) (harg9 : arg9.IsWhole) (arg10 : Memref sig .tc .vmem S1x288x128 .f32) (harg10 : arg10.IsWhole) (arg11 : Memref sig .tc .vmem S1x288x128 .f32) (harg11 : arg11.IsWhole) (arg12 : Memref sig .tc .vmem S1x288x128 .f32) (harg12 : arg12.IsWhole) (arg13 : Memref sig .tc .vmem S1x288x128 .f32) (harg13 : arg13.IsWhole) (arg14 : Memref sig .tc .vmem S1x288x128 .f32) (harg14 : arg14.IsWhole) (arg15 : Memref sig .tc .vmem S1x288x128 .f32) (harg15 : arg15.IsWhole) (arg16 : Memref sig .tc .vmem S1x288x128 .f32) (harg16 : arg16.IsWhole) (arg17 : Memref sig .tc .vmem S1x288x128 .f32) (harg17 : arg17.IsWhole) (arg18 : Memref sig .tc .vmem S1x288x128 .f32) (harg18 : arg18.IsWhole) (arg19 : Memref sig .tc .vmem S1x288x128 .f32) (harg19 : arg19.IsWhole) (arg20 : Memref sig .tc .vmem S1x8x288 .f32) (harg20 : arg20.IsWhole) (arg21 : Memref sig .tc .vmem S32x8 .f32) (harg21 : arg21.IsWhole) (arg22 : Memref sig .tc .vmem S1x32x256 .bf16) (harg22 : arg22.IsWhole) (arg23 : Memref sig .tc .vmem S1x32x1 .f32) (harg23 : arg23.IsWhole) (arg24 : Memref sig .tc .vmem S1x32x1 .f32) (harg24 : arg24.IsWhole) (arg25 : Memref sig .tc .vmem S1x32x256 .f32) (harg25 : arg25.IsWhole) (hc0 : ¬cond0_0 i) (hc1 : ¬cond0_1 i)
    (x0 : Vec F S1x32x288 .bf16) (x1 : Vec F S1x288x128 .f32) (x2 : Vec F S1x288x128 .f32) (x3 : Vec F S1x288x128 .f32) (x4 : Vec F S1x288x128 .f32) (x5 : Vec F S1x288x128 .f32) (x6 : Vec F S1x288x128 .f32) (x7 : Vec F S1x288x128 .f32) (x8 : Vec F S1x288x128 .f32) (x9 : Vec F S1x288x128 .f32) (x10 : Vec F S1x288x128 .f32) (x11 : Vec F S1x288x128 .f32) (x12 : Vec F S1x288x128 .f32) (x13 : Vec F S1x288x128 .f32) (x14 : Vec F S1x288x128 .f32) (x15 : Vec F S1x288x128 .f32) (x16 : Vec F S1x288x128 .f32) (x17 : Vec F S1x8x288 .f32) (x18 : Vec F S32x8 .f32) (xt0 : TbBuf0 (F := F) c tbM0_0) (xs0 : Vec F S1x32x1 .f32) (xs1 : Vec F S1x32x1 .f32) (xs2 : Vec F S1x32x256 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2 = (k0_pay1 (newM x0 ![x1, x2, x3, x4, x5, x6, x7, x8, x9, x10, x11, x12, x13, x14, x15, x16] xs0)) := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2)]
  unfold kernelRun0_B
  dsimp only
  sl_unfold_words
  rw [View.canon_cons_unit_zero (S := S1x32x1) off3]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S1x32x288) off3, View.ld_unit_zero (S := S1x288x128) off3, View.ld_unit_zero (S := S1x32x1) off3, View.ld_unit_zero (S := S1x32x256) off3, View.ld_unit_zero (S := S1x8x288) off3, View.ld_unit_zero (S := S32x8) off2, readCov_last (S := S1x32x1) _ off3, readCov_last (S := S1x32x256) _ off3]
  rfl

/-- What a middle chunk leaves: the sum of weights. -/
theorem sout0_B_1_eq (c : Dev nD) (i : grid0.Coords) (arg3 : Memref sig .tc .vmem S1x32x288 .bf16) (harg3 : arg3.IsWhole) (arg4 : Memref sig .tc .vmem S1x288x128 .f32) (harg4 : arg4.IsWhole) (arg5 : Memref sig .tc .vmem S1x288x128 .f32) (harg5 : arg5.IsWhole) (arg6 : Memref sig .tc .vmem S1x288x128 .f32) (harg6 : arg6.IsWhole) (arg7 : Memref sig .tc .vmem S1x288x128 .f32) (harg7 : arg7.IsWhole) (arg8 : Memref sig .tc .vmem S1x288x128 .f32) (harg8 : arg8.IsWhole) (arg9 : Memref sig .tc .vmem S1x288x128 .f32) (harg9 : arg9.IsWhole) (arg10 : Memref sig .tc .vmem S1x288x128 .f32) (harg10 : arg10.IsWhole) (arg11 : Memref sig .tc .vmem S1x288x128 .f32) (harg11 : arg11.IsWhole) (arg12 : Memref sig .tc .vmem S1x288x128 .f32) (harg12 : arg12.IsWhole) (arg13 : Memref sig .tc .vmem S1x288x128 .f32) (harg13 : arg13.IsWhole) (arg14 : Memref sig .tc .vmem S1x288x128 .f32) (harg14 : arg14.IsWhole) (arg15 : Memref sig .tc .vmem S1x288x128 .f32) (harg15 : arg15.IsWhole) (arg16 : Memref sig .tc .vmem S1x288x128 .f32) (harg16 : arg16.IsWhole) (arg17 : Memref sig .tc .vmem S1x288x128 .f32) (harg17 : arg17.IsWhole) (arg18 : Memref sig .tc .vmem S1x288x128 .f32) (harg18 : arg18.IsWhole) (arg19 : Memref sig .tc .vmem S1x288x128 .f32) (harg19 : arg19.IsWhole) (arg20 : Memref sig .tc .vmem S1x8x288 .f32) (harg20 : arg20.IsWhole) (arg21 : Memref sig .tc .vmem S32x8 .f32) (harg21 : arg21.IsWhole) (arg22 : Memref sig .tc .vmem S1x32x256 .bf16) (harg22 : arg22.IsWhole) (arg23 : Memref sig .tc .vmem S1x32x1 .f32) (harg23 : arg23.IsWhole) (arg24 : Memref sig .tc .vmem S1x32x1 .f32) (harg24 : arg24.IsWhole) (arg25 : Memref sig .tc .vmem S1x32x256 .f32) (harg25 : arg25.IsWhole) (hc0 : ¬cond0_0 i) (hc1 : ¬cond0_1 i)
    (x0 : Vec F S1x32x288 .bf16) (x1 : Vec F S1x288x128 .f32) (x2 : Vec F S1x288x128 .f32) (x3 : Vec F S1x288x128 .f32) (x4 : Vec F S1x288x128 .f32) (x5 : Vec F S1x288x128 .f32) (x6 : Vec F S1x288x128 .f32) (x7 : Vec F S1x288x128 .f32) (x8 : Vec F S1x288x128 .f32) (x9 : Vec F S1x288x128 .f32) (x10 : Vec F S1x288x128 .f32) (x11 : Vec F S1x288x128 .f32) (x12 : Vec F S1x288x128 .f32) (x13 : Vec F S1x288x128 .f32) (x14 : Vec F S1x288x128 .f32) (x15 : Vec F S1x288x128 .f32) (x16 : Vec F S1x288x128 .f32) (x17 : Vec F S1x8x288 .f32) (x18 : Vec F S32x8 .f32) (xt0 : TbBuf0 (F := F) c tbM0_0) (xs0 : Vec F S1x32x1 .f32) (xs1 : Vec F S1x32x1 .f32) (xs2 : Vec F S1x32x256 .f32) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2 = (k0_pay2 (newL x0 ![x1, x2, x3, x4, x5, x6, x7, x8, x9, x10, x11, x12, x13, x14, x15, x16] xs0 xs1)) := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2)]
  unfold kernelRun0_B
  dsimp only
  sl_unfold_words
  rw [View.canon_cons_unit_zero (S := S1x32x1) off3]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S1x32x288) off3, View.ld_unit_zero (S := S1x288x128) off3, View.ld_unit_zero (S := S1x32x1) off3, View.ld_unit_zero (S := S1x32x256) off3, View.ld_unit_zero (S := S1x8x288) off3, View.ld_unit_zero (S := S32x8) off2, readCov_last (S := S1x32x1) _ off3, readCov_last (S := S1x32x256) _ off3]
  rfl

/-- What a middle chunk leaves: the weighted sum. -/
theorem sout0_B_2_eq (c : Dev nD) (i : grid0.Coords) (arg3 : Memref sig .tc .vmem S1x32x288 .bf16) (harg3 : arg3.IsWhole) (arg4 : Memref sig .tc .vmem S1x288x128 .f32) (harg4 : arg4.IsWhole) (arg5 : Memref sig .tc .vmem S1x288x128 .f32) (harg5 : arg5.IsWhole) (arg6 : Memref sig .tc .vmem S1x288x128 .f32) (harg6 : arg6.IsWhole) (arg7 : Memref sig .tc .vmem S1x288x128 .f32) (harg7 : arg7.IsWhole) (arg8 : Memref sig .tc .vmem S1x288x128 .f32) (harg8 : arg8.IsWhole) (arg9 : Memref sig .tc .vmem S1x288x128 .f32) (harg9 : arg9.IsWhole) (arg10 : Memref sig .tc .vmem S1x288x128 .f32) (harg10 : arg10.IsWhole) (arg11 : Memref sig .tc .vmem S1x288x128 .f32) (harg11 : arg11.IsWhole) (arg12 : Memref sig .tc .vmem S1x288x128 .f32) (harg12 : arg12.IsWhole) (arg13 : Memref sig .tc .vmem S1x288x128 .f32) (harg13 : arg13.IsWhole) (arg14 : Memref sig .tc .vmem S1x288x128 .f32) (harg14 : arg14.IsWhole) (arg15 : Memref sig .tc .vmem S1x288x128 .f32) (harg15 : arg15.IsWhole) (arg16 : Memref sig .tc .vmem S1x288x128 .f32) (harg16 : arg16.IsWhole) (arg17 : Memref sig .tc .vmem S1x288x128 .f32) (harg17 : arg17.IsWhole) (arg18 : Memref sig .tc .vmem S1x288x128 .f32) (harg18 : arg18.IsWhole) (arg19 : Memref sig .tc .vmem S1x288x128 .f32) (harg19 : arg19.IsWhole) (arg20 : Memref sig .tc .vmem S1x8x288 .f32) (harg20 : arg20.IsWhole) (arg21 : Memref sig .tc .vmem S32x8 .f32) (harg21 : arg21.IsWhole) (arg22 : Memref sig .tc .vmem S1x32x256 .bf16) (harg22 : arg22.IsWhole) (arg23 : Memref sig .tc .vmem S1x32x1 .f32) (harg23 : arg23.IsWhole) (arg24 : Memref sig .tc .vmem S1x32x1 .f32) (harg24 : arg24.IsWhole) (arg25 : Memref sig .tc .vmem S1x32x256 .f32) (harg25 : arg25.IsWhole) (hc0 : ¬cond0_0 i) (hc1 : ¬cond0_1 i)
    (x0 : Vec F S1x32x288 .bf16) (x1 : Vec F S1x288x128 .f32) (x2 : Vec F S1x288x128 .f32) (x3 : Vec F S1x288x128 .f32) (x4 : Vec F S1x288x128 .f32) (x5 : Vec F S1x288x128 .f32) (x6 : Vec F S1x288x128 .f32) (x7 : Vec F S1x288x128 .f32) (x8 : Vec F S1x288x128 .f32) (x9 : Vec F S1x288x128 .f32) (x10 : Vec F S1x288x128 .f32) (x11 : Vec F S1x288x128 .f32) (x12 : Vec F S1x288x128 .f32) (x13 : Vec F S1x288x128 .f32) (x14 : Vec F S1x288x128 .f32) (x15 : Vec F S1x288x128 .f32) (x16 : Vec F S1x288x128 .f32) (x17 : Vec F S1x8x288 .f32) (x18 : Vec F S32x8 .f32) (xt0 : TbBuf0 (F := F) c tbM0_0) (xs0 : Vec F S1x32x1 .f32) (xs1 : Vec F S1x32x1 .f32) (xs2 : Vec F S1x32x256 .f32) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2 = (k0_pay3 (newA x0 ![x1, x2, x3, x4, x5, x6, x7, x8, x9, x10, x11, x12, x13, x14, x15, x16] xs0 xs2)) := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2)]
  unfold kernelRun0_B
  dsimp only
  sl_unfold_words
  rw [View.canon_cons_unit_zero (S := S1x32x256) off3]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S1x32x288) off3, View.ld_unit_zero (S := S1x288x128) off3, View.ld_unit_zero (S := S1x32x1) off3, View.ld_unit_zero (S := S1x32x256) off3, View.ld_unit_zero (S := S1x8x288) off3, View.ld_unit_zero (S := S32x8) off2, readCov_last (S := S1x32x1) _ off3, readCov_last (S := S1x32x256) _ off3]
  rfl

/-- What a last chunk leaves: the output. -/
theorem out0_C_19_eq (c : Dev nD) (i : grid0.Coords) (arg3 : Memref sig .tc .vmem S1x32x288 .bf16) (harg3 : arg3.IsWhole) (arg4 : Memref sig .tc .vmem S1x288x128 .f32) (harg4 : arg4.IsWhole) (arg5 : Memref sig .tc .vmem S1x288x128 .f32) (harg5 : arg5.IsWhole) (arg6 : Memref sig .tc .vmem S1x288x128 .f32) (harg6 : arg6.IsWhole) (arg7 : Memref sig .tc .vmem S1x288x128 .f32) (harg7 : arg7.IsWhole) (arg8 : Memref sig .tc .vmem S1x288x128 .f32) (harg8 : arg8.IsWhole) (arg9 : Memref sig .tc .vmem S1x288x128 .f32) (harg9 : arg9.IsWhole) (arg10 : Memref sig .tc .vmem S1x288x128 .f32) (harg10 : arg10.IsWhole) (arg11 : Memref sig .tc .vmem S1x288x128 .f32) (harg11 : arg11.IsWhole) (arg12 : Memref sig .tc .vmem S1x288x128 .f32) (harg12 : arg12.IsWhole) (arg13 : Memref sig .tc .vmem S1x288x128 .f32) (harg13 : arg13.IsWhole) (arg14 : Memref sig .tc .vmem S1x288x128 .f32) (harg14 : arg14.IsWhole) (arg15 : Memref sig .tc .vmem S1x288x128 .f32) (harg15 : arg15.IsWhole) (arg16 : Memref sig .tc .vmem S1x288x128 .f32) (harg16 : arg16.IsWhole) (arg17 : Memref sig .tc .vmem S1x288x128 .f32) (harg17 : arg17.IsWhole) (arg18 : Memref sig .tc .vmem S1x288x128 .f32) (harg18 : arg18.IsWhole) (arg19 : Memref sig .tc .vmem S1x288x128 .f32) (harg19 : arg19.IsWhole) (arg20 : Memref sig .tc .vmem S1x8x288 .f32) (harg20 : arg20.IsWhole) (arg21 : Memref sig .tc .vmem S32x8 .f32) (harg21 : arg21.IsWhole) (arg22 : Memref sig .tc .vmem S1x32x256 .bf16) (harg22 : arg22.IsWhole) (arg23 : Memref sig .tc .vmem S1x32x1 .f32) (harg23 : arg23.IsWhole) (arg24 : Memref sig .tc .vmem S1x32x1 .f32) (harg24 : arg24.IsWhole) (arg25 : Memref sig .tc .vmem S1x32x256 .f32) (harg25 : arg25.IsWhole) (hc0 : ¬cond0_0 i) (hc1 : cond0_1 i)
    (x0 : Vec F S1x32x288 .bf16) (x1 : Vec F S1x288x128 .f32) (x2 : Vec F S1x288x128 .f32) (x3 : Vec F S1x288x128 .f32) (x4 : Vec F S1x288x128 .f32) (x5 : Vec F S1x288x128 .f32) (x6 : Vec F S1x288x128 .f32) (x7 : Vec F S1x288x128 .f32) (x8 : Vec F S1x288x128 .f32) (x9 : Vec F S1x288x128 .f32) (x10 : Vec F S1x288x128 .f32) (x11 : Vec F S1x288x128 .f32) (x12 : Vec F S1x288x128 .f32) (x13 : Vec F S1x288x128 .f32) (x14 : Vec F S1x288x128 .f32) (x15 : Vec F S1x288x128 .f32) (x16 : Vec F S1x288x128 .f32) (x17 : Vec F S1x8x288 .f32) (x18 : Vec F S32x8 .f32) (xt0 : TbBuf0 (F := F) c tbM0_0) (xs0 : Vec F S1x32x1 .f32) (xs1 : Vec F S1x32x1 .f32) (xs2 : Vec F S1x32x256 .f32) :
    out0_C_19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2 = k0_pay7 (k0_pay4 (k0_pay11 (k0_pay19 x0) x17 x18 (k0_pay1 (newM x0 ![x1, x2, x3, x4, x5, x6, x7, x8, x9, x10, x11, x12, x13, x14, x15, x16] xs0)))) (k0_pay4 (k0_pay11 (k0_pay19 x0) x17 x18 (k0_pay1 (newM x0 ![x1, x2, x3, x4, x5, x6, x7, x8, x9, x10, x11, x12, x13, x14, x15, x16] xs0)))) (k0_pay5 (k0_pay14 (k0_pay19 x0) x17 x18 (k0_pay1 (newM x0 ![x1, x2, x3, x4, x5, x6, x7, x8, x9, x10, x11, x12, x13, x14, x15, x16] xs0)) (k0_pay2 (newL x0 ![x1, x2, x3, x4, x5, x6, x7, x8, x9, x10, x11, x12, x13, x14, x15, x16] xs0 xs1)))) (k0_pay6 (k0_pay15 (k0_pay19 x0) x17 x18 (k0_pay1 (newM x0 ![x1, x2, x3, x4, x5, x6, x7, x8, x9, x10, x11, x12, x13, x14, x15, x16] xs0)) (k0_pay3 (newA x0 ![x1, x2, x3, x4, x5, x6, x7, x8, x9, x10, x11, x12, x13, x14, x15, x16] xs0 xs2)))) := by
  unfold out0_C_19
  rw [View.read_writes_eq_canon _ _ _ (cover0_C_19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 xt0 xs0 xs1 xs2)]
  unfold kernelRun0_C
  dsimp only
  sl_unfold_words
  rw [View.canon_cons_unit_zero (S := S1x32x256) off3]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S1x32x288) off3, View.ld_unit_zero (S := S1x288x128) off3, View.ld_unit_zero (S := S1x32x1) off3, View.ld_unit_zero (S := S1x32x256) off3, View.ld_unit_zero (S := S1x8x288) off3, View.ld_unit_zero (S := S32x8) off2, readCov_last (S := S1x32x1) _ off3, readCov_last (S := S1x32x256) _ off3]
  rfl

end Cert.KernelIdeal.Gen

end
-- ==== Proof.Chunk.lean ====
/- What each kind of point leaves, in the terms of one chunk's update. -/
module

public import proofs.«01_k».proof.Proof.Cases

@[expose] public section

set_option maxRecDepth 16384

noncomputable section

namespace Cert.KernelIdeal.Value

open Cert.KernelIdeal Cert.KernelIdeal.Gen Idealize.ShloMosaic Idealize.ShloMosaic.TcCoe

variable {F : FTy → Type} [FloatOps F] [Named F]
variable (m : (ℓ : Loc nD τ sig) → Buf (Elt F) ℓ)

/-- The queries of a point. -/
def queries (hO : Ok m) (c : Dev nD) (t : Fin (cfgM m hO).N) : Vec F S1x32x288 .bf16 := iblk m hO c 0 t

/-- The sixteen pages of a point. -/
def pages (hO : Ok m) (c : Dev nD) (t : Fin (cfgM m hO).N) : Fin 16 → Vec F S1x288x128 .f32 :=
  ![iblk m hO c 1 t, iblk m hO c 2 t, iblk m hO c 3 t, iblk m hO c 4 t, iblk m hO c 5 t, iblk m hO c 6 t, iblk m hO c 7 t, iblk m hO c 8 t, iblk m hO c 9 t, iblk m hO c 10 t, iblk m hO c 11 t, iblk m hO c 12 t, iblk m hO c 13 t, iblk m hO c 14 t, iblk m hO c 15 t, iblk m hO c 16 t]

/-- The running maximum after a point, from the one before. -/
def nextM (hO : Ok m) (c : Dev nD) (t : Fin (cfgM m hO).N) (xm : Vec F S1x32x1 .f32) : Vec F S1x32x1 .f32 := k0_pay1 (newM (queries m hO c t) (pages m hO c t) xm)
/-- The running sum after a point. -/
def nextL (hO : Ok m) (c : Dev nD) (t : Fin (cfgM m hO).N) (xm xl : Vec F S1x32x1 .f32) : Vec F S1x32x1 .f32 := k0_pay2 (newL (queries m hO c t) (pages m hO c t) xm xl)
/-- The running weighted sum after a point. -/
def nextA (hO : Ok m) (c : Dev nD) (t : Fin (cfgM m hO).N) (xm : Vec F S1x32x1 .f32) (xa : Vec F S1x32x256 .f32) : Vec F S1x32x256 .f32 := k0_pay3 (newA (queries m hO c t) (pages m hO c t) xm xa)

theorem caseA_m (hO : Ok m) (c : Dev nD) (t : Fin (cfgM m hO).N) (h0 : t.val % 4 = 0) (h1 : ¬t.val % 4 = 3) :
    (caseA m hO c t h0 h1).2.1 = nextM m hO c t k0_pay16 := by
  unfold caseA
  dsimp only
  refine (sout0_A_0_eq ..).trans ?_
  rfl

theorem caseA_l (hO : Ok m) (c : Dev nD) (t : Fin (cfgM m hO).N) (h0 : t.val % 4 = 0) (h1 : ¬t.val % 4 = 3) :
    (caseA m hO c t h0 h1).2.2.1 = nextL m hO c t k0_pay16 k0_pay17 := by
  unfold caseA
  dsimp only
  refine (sout0_A_1_eq ..).trans ?_
  rfl

theorem caseA_a (hO : Ok m) (c : Dev nD) (t : Fin (cfgM m hO).N) (h0 : t.val % 4 = 0) (h1 : ¬t.val % 4 = 3) :
    (caseA m hO c t h0 h1).2.2.2 = nextA m hO c t k0_pay16 k0_pay18 := by
  unfold caseA
  dsimp only
  refine (sout0_A_2_eq ..).trans ?_
  rfl

variable (p : Vec F S1x32x256 .bf16 × Vec F S1x32x1 .f32 × Vec F S1x32x1 .f32 × Vec F S1x32x256 .f32)

theorem caseB_m (hO : Ok m) (c : Dev nD) (t : Fin (cfgM m hO).N) (h0 : ¬t.val % 4 = 0) (h1 : ¬t.val % 4 = 3) :
    (caseB m hO c t h0 h1 p).2.1 = nextM m hO c t p.2.1 := by
  unfold caseB
  dsimp only
  refine (sout0_B_0_eq ..).trans ?_
  rfl

theorem caseB_l (hO : Ok m) (c : Dev nD) (t : Fin (cfgM m hO).N) (h0 : ¬t.val % 4 = 0) (h1 : ¬t.val % 4 = 3) :
    (caseB m hO c t h0 h1 p).2.2.1 = nextL m hO c t p.2.1 p.2.2.1 := by
  unfold caseB
  dsimp only
  refine (sout0_B_1_eq ..).trans ?_
  rfl

theorem caseB_a (hO : Ok m) (c : Dev nD) (t : Fin (cfgM m hO).N) (h0 : ¬t.val % 4 = 0) (h1 : ¬t.val % 4 = 3) :
    (caseB m hO c t h0 h1 p).2.2.2 = nextA m hO c t p.2.1 p.2.2.2 := by
  unfold caseB
  dsimp only
  refine (sout0_B_2_eq ..).trans ?_
  rfl

/-- The last point of a sample: one more chunk, then the new rows and the quotient. -/
theorem caseC_o (hO : Ok m) (c : Dev nD) (t : Fin (cfgM m hO).N) (h0 : ¬t.val % 4 = 0) (h1 : t.val % 4 = 3) :
    (caseC m hO c t h0 h1 p).1 =
      k0_pay7 (k0_pay4 (k0_pay11 (k0_pay19 (queries m hO c t)) (iblk m hO c 17 t) (iblk m hO c 18 t) (nextM m hO c t p.2.1)))
        (k0_pay4 (k0_pay11 (k0_pay19 (queries m hO c t)) (iblk m hO c 17 t) (iblk m hO c 18 t) (nextM m hO c t p.2.1)))
        (k0_pay5 (k0_pay14 (k0_pay19 (queries m hO c t)) (iblk m hO c 17 t) (iblk m hO c 18 t) (nextM m hO c t p.2.1) (nextL m hO c t p.2.1 p.2.2.1)))
        (k0_pay6 (k0_pay15 (k0_pay19 (queries m hO c t)) (iblk m hO c 17 t) (iblk m hO c 18 t) (nextM m hO c t p.2.1) (nextA m hO c t p.2.1 p.2.2.2))) := by
  unfold caseC
  dsimp only
  refine (out0_C_19_eq ..).trans ?_
  rfl

end Cert.KernelIdeal.Value

end
-- ==== Proof.Rows.lean ====
/- What a point reads, in terms of the sample's queries and cached rows. -/
module

public import proofs.«01_k».proof.Proof.Host
public import proofs.«01_k».proof.Proof.Blocks
public import proofs.«01_k».proof.Proof.Chunk
public import proofs.«01_k».proof.Proof.Softmax

@[expose] public section

set_option maxRecDepth 16384

noncomputable section

namespace Cert.KernelIdeal.Value

open Cert.KernelIdeal Cert.KernelIdeal.Gen Idealize.ShloMosaic Idealize.ShloMosaic.TcCoe Idealize.ShloMosaic.Pointwise
open Cert.Softmax

variable (m : (ℓ : Loc nD τ sig) → Buf (Elt Ideal) ℓ)

/-- The names in the table are pages of the pool. -/
abbrev InPool : Prop := ∀ i, (tbl m 0 i : BitVec 32).toNat < 10240

/-- Lane `j` of sample `b`'s cached row at position `p`. -/
def row (hT : InPool m) (c : Dev nD) (b : Fin 128) (p : Fin 8192) (j : Fin 288) : EReal :=
  (m ((c : Thread nD τ).loc main_arg2) : FVec Ideal S10240x128x288 .f32)
    (ix3 ⟨(tbl m 0 (ix2 b ⟨p.val / 128, by omega⟩) : BitVec 32).toNat, hT _⟩ ⟨p.val % 128, by omega⟩ j)

/-- Lane `j` of row `r` of sample `b`'s queries. -/
def query (c : Dev nD) (b : Fin 128) (r : Fin 32) (j : Fin 288) : EReal :=
  (m ((c : Thread nD τ).loc main_arg1) : FVec Ideal S128x4x8x288 .bf16) (ix4 b ⟨r.val / 8, by omega⟩ ⟨r.val % 8, by omega⟩ j)

/-- The score of query row `r` at position `p`. -/
def score (hT : InPool m) (c : Dev nD) (b : Fin 128) (r : Fin 32) (p : Fin 8192) : EReal :=
  ∑ j : Fin 288, query m c b r j * row m hT c b p j

/-- The latent at position `p`. -/
def latent (hT : InPool m) (c : Dev nD) (b : Fin 128) (p : Fin 8192) (j : Fin 256) : EReal := row m hT c b p (Fin.castLE (by omega) j)

theorem coords_0 (hO : Ok m) (t : Fin (cfgM m hO).N) : (grid0.coords t 0).val = t.val / 4 % 128 :=
  Pipeline.Grid.coords_val (G := grid0) t 0 (by decide) (by decide)
theorem coords_1 (hO : Ok m) (t : Fin (cfgM m hO).N) : (grid0.coords t 1).val = t.val % 4 := by
  have := Pipeline.Grid.coords_val (G := grid0) t 1 (S := 1) (B := 4) (by decide) (by decide)
  rw [Nat.div_one] at this
  exact this

theorem row_pos (hT : InPool m) (c : Dev nD) (b : Fin 128) (cc : Fin 4) (i : Fin 16) (k : Fin 128) (j : Fin 288) :
    row m hT c b (pos cc i k) j = (m ((c : Thread nD τ).loc main_arg2) : FVec Ideal S10240x128x288 .f32)
      (ix3 ⟨(tbl m 0 (ix2 b ⟨16 * cc.val + i.val, by omega⟩) : BitVec 32).toNat, hT _⟩ k j) := by
  have e1 : (⟨(pos cc i k).val / 128, by omega⟩ : Fin 64) = ⟨16 * cc.val + i.val, by omega⟩ :=
    Fin.ext (by show (2048 * cc.val + 128 * i.val + k.val) / 128 = 16 * cc.val + i.val; omega)
  have e2 : (⟨(pos cc i k).val % 128, by omega⟩ : Fin 128) = k :=
    Fin.ext (by show (2048 * cc.val + 128 * i.val + k.val) % 128 = k.val; omega)
  exact congrArg₂ (fun g k' => (m ((c : Thread nD τ).loc main_arg2) : FVec Ideal S10240x128x288 .f32)
      (ix3 ⟨(tbl m 0 (ix2 b g) : BitVec 32).toNat, hT _⟩ k' j)) e1 e2

theorem page_0 (hO : Ok m) (hT : InPool m) (c : Dev nD) (t : Fin (cfgM m hO).N) (b : Fin 128) (cc : Fin 4) (ht : t.val = 4 * b.val + cc.val) (k : Fin 128) (j : Fin 288) :
    (iblk m hO c 1 t : Vec Ideal S1x288x128 .f32) (ix3 0 j k) = row m hT c b (pos cc 0 k) j :=
  (block_1 m hO c t b ⟨16 * cc.val + 0, by omega⟩ (by rw [coords_0]; omega) (by rw [coords_1]; show 16 * cc.val + 0 = _; omega) (hT _) j k).trans
    ((congrFun (V_v17 m c) _).trans ((v17_at _ _ _ _).trans (row_pos m hT c b cc 0 k j).symm))

theorem page_1 (hO : Ok m) (hT : InPool m) (c : Dev nD) (t : Fin (cfgM m hO).N) (b : Fin 128) (cc : Fin 4) (ht : t.val = 4 * b.val + cc.val) (k : Fin 128) (j : Fin 288) :
    (iblk m hO c 2 t : Vec Ideal S1x288x128 .f32) (ix3 0 j k) = row m hT c b (pos cc 1 k) j :=
  (block_2 m hO c t b ⟨16 * cc.val + 1, by omega⟩ (by rw [coords_0]; omega) (by rw [coords_1]; show 16 * cc.val + 1 = _; omega) (hT _) j k).trans
    ((congrFun (V_v17 m c) _).trans ((v17_at _ _ _ _).trans (row_pos m hT c b cc 1 k j).symm))

theorem page_2 (hO : Ok m) (hT : InPool m) (c : Dev nD) (t : Fin (cfgM m hO).N) (b : Fin 128) (cc : Fin 4) (ht : t.val = 4 * b.val + cc.val) (k : Fin 128) (j : Fin 288) :
    (iblk m hO c 3 t : Vec Ideal S1x288x128 .f32) (ix3 0 j k) = row m hT c b (pos cc 2 k) j :=
  (block_3 m hO c t b ⟨16 * cc.val + 2, by omega⟩ (by rw [coords_0]; omega) (by rw [coords_1]; show 16 * cc.val + 2 = _; omega) (hT _) j k).trans
    ((congrFun (V_v17 m c) _).trans ((v17_at _ _ _ _).trans (row_pos m hT c b cc 2 k j).symm))

theorem page_3 (hO : Ok m) (hT : InPool m) (c : Dev nD) (t : Fin (cfgM m hO).N) (b : Fin 128) (cc : Fin 4) (ht : t.val = 4 * b.val + cc.val) (k : Fin 128) (j : Fin 288) :
    (iblk m hO c 4 t : Vec Ideal S1x288x128 .f32) (ix3 0 j k) = row m hT c b (pos cc 3 k) j :=
  (block_4 m hO c t b ⟨16 * cc.val + 3, by omega⟩ (by rw [coords_0]; omega) (by rw [coords_1]; show 16 * cc.val + 3 = _; omega) (hT _) j k).trans
    ((congrFun (V_v17 m c) _).trans ((v17_at _ _ _ _).trans (row_pos m hT c b cc 3 k j).symm))

theorem page_4 (hO : Ok m) (hT : InPool m) (c : Dev nD) (t : Fin (cfgM m hO).N) (b : Fin 128) (cc : Fin 4) (ht : t.val = 4 * b.val + cc.val) (k : Fin 128) (j : Fin 288) :
    (iblk m hO c 5 t : Vec Ideal S1x288x128 .f32) (ix3 0 j k) = row m hT c b (pos cc 4 k) j :=
  (block_5 m hO c t b ⟨16 * cc.val + 4, by omega⟩ (by rw [coords_0]; omega) (by rw [coords_1]; show 16 * cc.val + 4 = _; omega) (hT _) j k).trans
    ((congrFun (V_v17 m c) _).trans ((v17_at _ _ _ _).trans (row_pos m hT c b cc 4 k j).symm))

theorem page_5 (hO : Ok m) (hT : InPool m) (c : Dev nD) (t : Fin (cfgM m hO).N) (b : Fin 128) (cc : Fin 4) (ht : t.val = 4 * b.val + cc.val) (k : Fin 128) (j : Fin 288) :
    (iblk m hO c 6 t : Vec Ideal S1x288x128 .f32) (ix3 0 j k) = row m hT c b (pos cc 5 k) j :=
  (block_6 m hO c t b ⟨16 * cc.val + 5, by omega⟩ (by rw [coords_0]; omega) (by rw [coords_1]; show 16 * cc.val + 5 = _; omega) (hT _) j k).trans
    ((congrFun (V_v17 m c) _).trans ((v17_at _ _ _ _).trans (row_pos m hT c b cc 5 k j).symm))

theorem page_6 (hO : Ok m) (hT : InPool m) (c : Dev nD) (t : Fin (cfgM m hO).N) (b : Fin 128) (cc : Fin 4) (ht : t.val = 4 * b.val + cc.val) (k : Fin 128) (j : Fin 288) :
    (iblk m hO c 7 t : Vec Ideal S1x288x128 .f32) (ix3 0 j k) = row m hT c b (pos cc 6 k) j :=
  (block_7 m hO c t b ⟨16 * cc.val + 6, by omega⟩ (by rw [coords_0]; omega) (by rw [coords_1]; show 16 * cc.val + 6 = _; omega) (hT _) j k).trans
    ((congrFun (V_v17 m c) _).trans ((v17_at _ _ _ _).trans (row_pos m hT c b cc 6 k j).symm))

theorem page_7 (hO : Ok m) (hT : InPool m) (c : Dev nD) (t : Fin (cfgM m hO).N) (b : Fin 128) (cc : Fin 4) (ht : t.val = 4 * b.val + cc.val) (k : Fin 128) (j : Fin 288) :
    (iblk m hO c 8 t : Vec Ideal S1x288x128 .f32) (ix3 0 j k) = row m hT c b (pos cc 7 k) j :=
  (block_8 m hO c t b ⟨16 * cc.val + 7, by omega⟩ (by rw [coords_0]; omega) (by rw [coords_1]; show 16 * cc.val + 7 = _; omega) (hT _) j k).trans
    ((congrFun (V_v17 m c) _).trans ((v17_at _ _ _ _).trans (row_pos m hT c b cc 7 k j).symm))

theorem page_8 (hO : Ok m) (hT : InPool m) (c : Dev nD) (t : Fin (cfgM m hO).N) (b : Fin 128) (cc : Fin 4) (ht : t.val = 4 * b.val + cc.val) (k : Fin 128) (j : Fin 288) :
    (iblk m hO c 9 t : Vec Ideal S1x288x128 .f32) (ix3 0 j k) = row m hT c b (pos cc 8 k) j :=
  (block_9 m hO c t b ⟨16 * cc.val + 8, by omega⟩ (by rw [coords_0]; omega) (by rw [coords_1]; show 16 * cc.val + 8 = _; omega) (hT _) j k).trans
    ((congrFun (V_v17 m c) _).trans ((v17_at _ _ _ _).trans (row_pos m hT c b cc 8 k j).symm))

theorem page_9 (hO : Ok m) (hT : InPool m) (c : Dev nD) (t : Fin (cfgM m hO).N) (b : Fin 128) (cc : Fin 4) (ht : t.val = 4 * b.val + cc.val) (k : Fin 128) (j : Fin 288) :
    (iblk m hO c 10 t : Vec Ideal S1x288x128 .f32) (ix3 0 j k) = row m hT c b (pos cc 9 k) j :=
  (block_10 m hO c t b ⟨16 * cc.val + 9, by omega⟩ (by rw [coords_0]; omega) (by rw [coords_1]; show 16 * cc.val + 9 = _; omega) (hT _) j k).trans
    ((congrFun (V_v17 m c) _).trans ((v17_at _ _ _ _).trans (row_pos m hT c b cc 9 k j).symm))

theorem page_10 (hO : Ok m) (hT : InPool m) (c : Dev nD) (t : Fin (cfgM m hO).N) (b : Fin 128) (cc : Fin 4) (ht : t.val = 4 * b.val + cc.val) (k : Fin 128) (j : Fin 288) :
    (iblk m hO c 11 t : Vec Ideal S1x288x128 .f32) (ix3 0 j k) = row m hT c b (pos cc 10 k) j :=
  (block_11 m hO c t b ⟨16 * cc.val + 10, by omega⟩ (by rw [coords_0]; omega) (by rw [coords_1]; show 16 * cc.val + 10 = _; omega) (hT _) j k).trans
    ((congrFun (V_v17 m c) _).trans ((v17_at _ _ _ _).trans (row_pos m hT c b cc 10 k j).symm))

theorem page_11 (hO : Ok m) (hT : InPool m) (c : Dev nD) (t : Fin (cfgM m hO).N) (b : Fin 128) (cc : Fin 4) (ht : t.val = 4 * b.val + cc.val) (k : Fin 128) (j : Fin 288) :
    (iblk m hO c 12 t : Vec Ideal S1x288x128 .f32) (ix3 0 j k) = row m hT c b (pos cc 11 k) j :=
  (block_12 m hO c t b ⟨16 * cc.val + 11, by omega⟩ (by rw [coords_0]; omega) (by rw [coords_1]; show 16 * cc.val + 11 = _; omega) (hT _) j k).trans
    ((congrFun (V_v17 m c) _).trans ((v17_at _ _ _ _).trans (row_pos m hT c b cc 11 k j).symm))

theorem page_12 (hO : Ok m) (hT : InPool m) (c : Dev nD) (t : Fin (cfgM m hO).N) (b : Fin 128) (cc : Fin 4) (ht : t.val = 4 * b.val + cc.val) (k : Fin 128) (j : Fin 288) :
    (iblk m hO c 13 t : Vec Ideal S1x288x128 .f32) (ix3 0 j k) = row m hT c b (pos cc 12 k) j :=
  (block_13 m hO c t b ⟨16 * cc.val + 12, by omega⟩ (by rw [coords_0]; omega) (by rw [coords_1]; show 16 * cc.val + 12 = _; omega) (hT _) j k).trans
    ((congrFun (V_v17 m c) _).trans ((v17_at _ _ _ _).trans (row_pos m hT c b cc 12 k j).symm))

theorem page_13 (hO : Ok m) (hT : InPool m) (c : Dev nD) (t : Fin (cfgM m hO).N) (b : Fin 128) (cc : Fin 4) (ht : t.val = 4 * b.val + cc.val) (k : Fin 128) (j : Fin 288) :
    (iblk m hO c 14 t : Vec Ideal S1x288x128 .f32) (ix3 0 j k) = row m hT c b (pos cc 13 k) j :=
  (block_14 m hO c t b ⟨16 * cc.val + 13, by omega⟩ (by rw [coords_0]; omega) (by rw [coords_1]; show 16 * cc.val + 13 = _; omega) (hT _) j k).trans
    ((congrFun (V_v17 m c) _).trans ((v17_at _ _ _ _).trans (row_pos m hT c b cc 13 k j).symm))

theorem page_14 (hO : Ok m) (hT : InPool m) (c : Dev nD) (t : Fin (cfgM m hO).N) (b : Fin 128) (cc : Fin 4) (ht : t.val = 4 * b.val + cc.val) (k : Fin 128) (j : Fin 288) :
    (iblk m hO c 15 t : Vec Ideal S1x288x128 .f32) (ix3 0 j k) = row m hT c b (pos cc 14 k) j :=
  (block_15 m hO c t b ⟨16 * cc.val + 14, by omega⟩ (by rw [coords_0]; omega) (by rw [coords_1]; show 16 * cc.val + 14 = _; omega) (hT _) j k).trans
    ((congrFun (V_v17 m c) _).trans ((v17_at _ _ _ _).trans (row_pos m hT c b cc 14 k j).symm))

theorem page_15 (hO : Ok m) (hT : InPool m) (c : Dev nD) (t : Fin (cfgM m hO).N) (b : Fin 128) (cc : Fin 4) (ht : t.val = 4 * b.val + cc.val) (k : Fin 128) (j : Fin 288) :
    (iblk m hO c 16 t : Vec Ideal S1x288x128 .f32) (ix3 0 j k) = row m hT c b (pos cc 15 k) j :=
  (block_16 m hO c t b ⟨16 * cc.val + 15, by omega⟩ (by rw [coords_0]; omega) (by rw [coords_1]; show 16 * cc.val + 15 = _; omega) (hT _) j k).trans
    ((congrFun (V_v17 m c) _).trans ((v17_at _ _ _ _).trans (row_pos m hT c b cc 15 k j).symm))

set_option maxHeartbeats 1000000 in
theorem pages_at (hO : Ok m) (hT : InPool m) (c : Dev nD) (t : Fin (cfgM m hO).N) (b : Fin 128) (cc : Fin 4) (ht : t.val = 4 * b.val + cc.val)
    (i : Fin 16) (k : Fin 128) (j : Fin 288) :
    (pages m hO c t i (ix3 0 j k) : EReal) = row m hT c b (pos cc i k) j := by
  fin_cases i
  · exact page_0 m hO hT c t b cc ht k j
  · exact page_1 m hO hT c t b cc ht k j
  · exact page_2 m hO hT c t b cc ht k j
  · exact page_3 m hO hT c t b cc ht k j
  · exact page_4 m hO hT c t b cc ht k j
  · exact page_5 m hO hT c t b cc ht k j
  · exact page_6 m hO hT c t b cc ht k j
  · exact page_7 m hO hT c t b cc ht k j
  · exact page_8 m hO hT c t b cc ht k j
  · exact page_9 m hO hT c t b cc ht k j
  · exact page_10 m hO hT c t b cc ht k j
  · exact page_11 m hO hT c t b cc ht k j
  · exact page_12 m hO hT c t b cc ht k j
  · exact page_13 m hO hT c t b cc ht k j
  · exact page_14 m hO hT c t b cc ht k j
  · exact page_15 m hO hT c t b cc ht k j

theorem queries_at (hO : Ok m) (c : Dev nD) (t : Fin (cfgM m hO).N) (b : Fin 128) (cc : Fin 4) (ht : t.val = 4 * b.val + cc.val) (r : Fin 32) (j : Fin 288) :
    (queries m hO c t (ix3 0 r j) : EReal) = query m c b r j := by
  have hb : (grid0.coords t 0).val = b.val := by rw [coords_0]; omega
  refine (block_0 m hO c t b hb r j).trans ((congrFun (V_v1 m c) _).trans ?_)
  exact v1_at _ b ⟨r.val / 8, by omega⟩ ⟨r.val % 8, by omega⟩ r j (by show r.val = 8 * (r.val / 8) + r.val % 8; omega)

theorem dot_eq (hO : Ok m) (hT : InPool m) (c : Dev nD) (t : Fin (cfgM m hO).N) (b : Fin 128) (cc : Fin 4) (ht : t.val = 4 * b.val + cc.val) (r : Fin 32)
    (i : Fin 16) (k : Fin 128) : dot (queries m hO c t) (pages m hO c t i) r k = score m hT c b r (pos cc i k) := by
  unfold dot score
  refine Finset.sum_congr rfl fun j _ => ?_
  exact congrArg₂ (· * ·) (queries_at m hO c t b cc ht r j) (pages_at m hO hT c t b cc ht i k j)

end Cert.KernelIdeal.Value

end
-- ==== Proof.State.lean ====
/- The running state after each point of the grid is the state of the online softmax over the positions read so far. -/
module

public import proofs.«01_k».proof.Proof.Rows

@[expose] public section

set_option maxRecDepth 16384

noncomputable section

namespace Cert.KernelIdeal.Value

open Cert.KernelIdeal Cert.KernelIdeal.Gen Idealize.ShloMosaic Idealize.ShloMosaic.TcCoe Idealize.ShloMosaic.Pointwise
open Cert.Softmax

variable (m : (ℓ : Loc nD τ sig) → Buf (Elt Ideal) ℓ)

/-- One point's update takes the state over the positions before its chunk to the state through it. -/
theorem step (hO : Ok m) (hT : InPool m) (c : Dev nD) (t : Fin (cfgM m hO).N) (b : Fin 128) (cc : Fin 4) (ht : t.val = 4 * b.val + cc.val) (r : Fin 32)
    (xm xl : Vec Ideal S1x32x1 .f32) (xa : Vec Ideal S1x32x256 .f32)
    (h : IsState (upto cc.val) (score m hT c b r) (latent m hT c b) (xm (ix3 0 r 0)) (xl (ix3 0 r 0)) (fun j => xa (ix3 0 r j))) :
    IsState (upto (cc.val + 1)) (score m hT c b r) (latent m hT c b) (nextM m hO c t xm (ix3 0 r 0)) (nextL m hO c t xm xl (ix3 0 r 0))
      (fun j => nextA m hO c t xm xa (ix3 0 r j)) := by
  have e : (nextM m hO c t xm (ix3 0 r 0) : EReal) = newM (queries m hO c t) (pages m hO c t) xm (ix2 r 0) := pay1_at _ r
  refine isState_succ cc _ _ h ?_ ?_ fun j => ?_
  · rw [e, newM_at]
    simp only [dot_eq m hO hT c t b cc ht]
  · rw [e]
    refine (pay2_at _ r).trans ((newL_at _ _ xm xl r).trans ?_)
    simp only [dot_eq m hO hT c t b cc ht]
  · rw [e]
    refine (pay3_at _ r j).trans ((newA_at _ _ xm xa r j).trans ?_)
    simp only [dot_eq m hO hT c t b cc ht, pages_at m hO hT c t b cc ht]
    rfl

theorem points (hO : Ok m) : (cfgM m hO).N = 512 := by
  show grid0.N = 512
  decide

/-- What the three running buffers hold after a point that is not its sample's last. -/
theorem state (hO : Ok m) (hT : InPool m) (c : Dev nD) (b : Fin 128) : ∀ (n : ℕ) (hn : 4 * b.val + n < (cfgM m hO).N) (_ : n < 3) (r : Fin 32),
    IsState (upto (n + 1)) (score m hT c b r) (latent m hT c b) ((outsAt0 m hO c (4 * b.val + n) hn).2.1 (ix3 0 r 0))
      ((outsAt0 m hO c (4 * b.val + n) hn).2.2.1 (ix3 0 r 0)) (fun j => (outsAt0 m hO c (4 * b.val + n) hn).2.2.2 (ix3 0 r j))
  | 0, hn, _, r => by
    have h0 : (⟨4 * b.val + 0, hn⟩ : Fin (cfgM m hO).N).val % 4 = 0 := by show (4 * b.val + 0) % 4 = 0; omega
    have h1 : ¬(⟨4 * b.val + 0, hn⟩ : Fin (cfgM m hO).N).val % 4 = 3 := by show ¬(4 * b.val + 0) % 4 = 3; omega
    have e := outsAt0_A m hO c ⟨4 * b.val + 0, hn⟩ h0 h1
    rw [show outsAt0 m hO c (4 * b.val + 0) hn = _ from e, caseA_m, caseA_l, caseA_a]
    refine step m hO hT c ⟨4 * b.val + 0, hn⟩ b 0 rfl r _ _ _ ?_
    rw [pay16_at, pay17_at]
    simp only [pay18_at]
    exact isState_zero _ _
  | n + 1, hn, hlt, r => by
    have h0 : ¬(⟨4 * b.val + (n + 1), hn⟩ : Fin (cfgM m hO).N).val % 4 = 0 := by show ¬(4 * b.val + (n + 1)) % 4 = 0; omega
    have h1 : ¬(⟨4 * b.val + (n + 1), hn⟩ : Fin (cfgM m hO).N).val % 4 = 3 := by show ¬(4 * b.val + (n + 1)) % 4 = 3; omega
    have e := outsAt0_B m hO c ⟨4 * b.val + (n + 1), hn⟩ h0 h1
    rw [show outsAt0 m hO c (4 * b.val + (n + 1)) hn = _ from e, caseB_m, caseB_l, caseB_a]
    exact step m hO hT c ⟨4 * b.val + (n + 1), hn⟩ b ⟨n + 1, by omega⟩ rfl r _ _ _
      (state hO hT c b n (Nat.lt_of_le_of_lt (by omega) hn) (by omega) r)

end Cert.KernelIdeal.Value

end
-- ==== Proof.Final.lean ====
/- The kernel's result: after the last chunk of a sample the output's block holds the attended latents, and the blocks of the
   128 samples make up the array. -/
module

public import proofs.«01_k».proof.Proof.State
public import proofs.«01_k».proof.Proof.KernelIdealFrame
public import Idealize.ShloMosaic.Lib.Pipeline.Value
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.ShloMosaic.Pointwise Idealize.SL.Sem
open Cert.Softmax
open Idealize.ShloMosaic.Pipeline (Dat)

variable (m : (ℓ : Loc nD τ sig) → Buf (Elt Ideal) ℓ) (ρ : Dev nD → PrngReg)

/-- Lane `j` of sample `b`'s new row `k`. -/
def added (c : Dev nD) (b : Fin 128) (k : Fin 4) (j : Fin 288) : EReal :=
  (m ((c : Thread nD τ).loc main_arg3) : FVec Ideal S128x4x288 .f32) (ix3 b k j)

/-- The score of query row `r` at new row `k`, masked after the query's own row. -/
def fresh (c : Dev nD) (b : Fin 128) (r : Fin 32) (k : Fin 4) : EReal :=
  if k.val ≤ r.val / 8 then ∑ j : Fin 288, query m c b r j * added m c b k j else ⊥

/-- The maximum of a query row's scores. -/
def peak (hT : InPool m) (c : Dev nD) (b : Fin 128) (r : Fin 32) : EReal :=
  max (Finset.univ.sup (score m hT c b r)) (Finset.univ.sup (fresh m c b r))

/-- The sum of a query row's weights. -/
def total (hT : InPool m) (c : Dev nD) (b : Fin 128) (r : Fin 32) : EReal :=
  ∑ p, Ideal.exp (score m hT c b r p - peak m hT c b r) + ∑ k, Ideal.exp (fresh m c b r k - peak m hT c b r)

/-- The attended latent of a query row. -/
def attended (hT : InPool m) (c : Dev nD) (b : Fin 128) (r : Fin 32) (j : Fin 256) : EReal :=
  ∑ p, Ideal.div (Ideal.exp (score m hT c b r p - peak m hT c b r)) (total m hT c b r) * latent m hT c b p j
    + ∑ k, Ideal.div (Ideal.exp (fresh m c b r k - peak m hT c b r)) (total m hT c b r) * added m c b k (Fin.castLE (by omega) j)

/-- The queries, the cache and the new rows are real. -/
abbrev Tame : Prop := (∀ (c : Dev nD) i, ∃ x : ℝ, (show EReal from (m ((c : Thread nD τ).loc main_arg1) : FVec Ideal S128x4x8x288 .bf16) i) = (x : EReal))
  ∧ (∀ (c : Dev nD) i, ∃ x : ℝ, (show EReal from (m ((c : Thread nD τ).loc main_arg2) : FVec Ideal S10240x128x288 .f32) i) = (x : EReal))
  ∧ (∀ (c : Dev nD) i, ∃ x : ℝ, (show EReal from (m ((c : Thread nD τ).loc main_arg3) : FVec Ideal S128x4x288 .f32) i) = (x : EReal))

/-- A finite sum of products of reals is real. -/
theorem real_dot {n : ℕ} (f g : Fin n → EReal) (hf : ∀ i, ∃ x : ℝ, f i = x) (hg : ∀ i, ∃ x : ℝ, g i = x) : ∃ x : ℝ, ∑ i, f i * g i = x := by
  choose f' hf using hf
  choose g' hg using hg
  refine ⟨∑ i, f' i * g' i, ?_⟩
  have := map_sum (⟨⟨fun r : ℝ => (r : EReal), rfl⟩, EReal.coe_add⟩ : ℝ →+ EReal) (fun i => f' i * g' i) Finset.univ
  refine Eq.trans ?_ this.symm
  refine Finset.sum_congr rfl fun i _ => ?_
  rw [hf, hg]
  exact (EReal.coe_mul _ _).symm

/-- The score of query row `r` at a padded new row. -/
def scorePad (c : Dev nD) (b : Fin 128) (r : Fin 32) (k : Fin 8) : EReal :=
  (∑ j : Fin 288, query m c b r j * padded (m ((c : Thread nD τ).loc main_arg3)) (ix3 b k j)) + if k.val < 4 ∧ k.val ≤ r.val / 8 then 0 else ⊥

theorem scorePad_pad (c : Dev nD) (b : Fin 128) (r : Fin 32) (k : Fin 8) (hk : 4 ≤ k.val) : scorePad m c b r k = ⊥ := by
  unfold scorePad
  rw [if_neg (fun h => absurd h.1 (by omega)), EReal.add_bot]

theorem scorePad_new (c : Dev nD) (b : Fin 128) (r : Fin 32) (k : Fin 4) : scorePad m c b r (Fin.castLE (by omega) k) = fresh m c b r k := by
  unfold scorePad fresh
  have e : ∀ j, (padded (m ((c : Thread nD τ).loc main_arg3)) (ix3 b (Fin.castLE (by omega) k) j) : EReal) = added m c b k j := fun j => padded_at _ b k j
  simp only [e]
  by_cases h : k.val ≤ r.val / 8
  · rw [if_pos h]
    exact (congrArg₂ (· + ·) rfl (if_pos ⟨k.isLt, h⟩)).trans (add_zero _)
  · rw [if_neg h]
    exact (congrArg₂ (· + ·) rfl (if_neg fun h' => h h'.2)).trans (EReal.add_bot _)

theorem tdot_eq (hO : Ok m) (c : Dev nD) (t : Fin (cfgM m hO).N) (b : Fin 128) (cc : Fin 4) (ht : t.val = 4 * b.val + cc.val) (r : Fin 32) (k : Fin 8) :
    tdot (queries m hO c t) (iblk m hO c 17 t) (iblk m hO c 18 t) r k = scorePad m c b r k := by
  have hb : (grid0.coords t 0).val = b.val := by rw [coords_0]; omega
  unfold tdot scorePad
  refine congrArg₂ (· + ·) (Finset.sum_congr rfl fun j _ => ?_) ?_
  · exact congrArg₂ (· * ·) (queries_at m hO c t b cc ht r j) ((block_17 m hO c t b hb k j).trans (congrFun (V_v2 m c) _))
  · have e : (iblk m hO c 18 t : Vec Ideal S32x8 .f32) (ix2 r k) = mask (ix2 r k) := (block_18 m hO c t r k).trans (congrFun (V_v16 m c) _)
    have e' : (0 : EReal) < (iblk m hO c 18 t : Vec Ideal S32x8 .f32) (ix2 r k) ↔ k.val < 4 ∧ k.val ≤ r.val / 8 := by rw [e]; exact mask_at r k
    by_cases h : k.val < 4 ∧ k.val ≤ r.val / 8
    · rw [if_pos h]; exact if_pos (e'.mpr h)
    · rw [if_neg h]; exact if_neg (fun h' => h (e'.mp h'))

/-- What the last point writes, from the state over all cached positions. -/
theorem last_of_state (hO : Ok m) (hT : InPool m) (hR : Tame m) (c : Dev nD) (t : Fin (cfgM m hO).N) (b : Fin 128) (ht : t.val = 4 * b.val + (3 : Fin 4).val)
    (r : Fin 32) (j : Fin 256) (xm xl : Vec Ideal S1x32x1 .f32) (xa : Vec Ideal S1x32x256 .f32)
    (hS : IsState Finset.univ (score m hT c b r) (latent m hT c b) (xm (ix3 0 r 0)) (xl (ix3 0 r 0)) (fun j => xa (ix3 0 r j))) :
    (k0_pay7 (k0_pay4 (k0_pay11 (k0_pay19 (queries m hO c t)) (iblk m hO c 17 t) (iblk m hO c 18 t) xm))
        (k0_pay4 (k0_pay11 (k0_pay19 (queries m hO c t)) (iblk m hO c 17 t) (iblk m hO c 18 t) xm))
        (k0_pay5 (k0_pay14 (k0_pay19 (queries m hO c t)) (iblk m hO c 17 t) (iblk m hO c 18 t) xm xl))
        (k0_pay6 (k0_pay15 (k0_pay19 (queries m hO c t)) (iblk m hO c 17 t) (iblk m hO c 18 t) xm xa)) (ix3 0 r j) : EReal) = attended m hT c b r j := by
  have hb : (grid0.coords t 0).val = b.val := by rw [coords_0, ht]; show (4 * b.val + 3) / 4 % 128 = b.val; omega
  have hq : ∀ j, ∃ x : ℝ, query m c b r j = x := fun j => hR.1 c _
  refine (pay7_at _ _ _ _ r j).trans ?_
  rw [pay4_at, pay5_at, pay6_at]
  have key := finish (score m hT c b r) (latent m hT c b) (scorePad m c b r) (fun k j => padded (m ((c : Thread nD τ).loc main_arg3)) (ix3 b k (Fin.castLE (by omega) j)))
    (fun p => real_dot _ _ hq (fun j => hR.2.1 c _))
    (fun k => by
      by_cases hk : k.val < 4
      · have e := scorePad_new m c b r ⟨k.val, hk⟩
        rw [show (Fin.castLE (by omega : 4 ≤ 8) (⟨k.val, hk⟩ : Fin 4)) = k from rfl] at e
        rw [e]
        unfold fresh
        split
        · obtain ⟨x, hx⟩ := real_dot _ _ hq (fun j => hR.2.2 c (ix3 b (⟨k.val, hk⟩ : Fin 4) j))
          exact fun h => EReal.coe_ne_top x (hx.symm.trans h)
        · exact bot_ne_top
      · rw [scorePad_pad m c b r k (by omega)]; exact bot_ne_top)
    (scorePad_pad m c b r) hS
    (m' := k0_pay11 (k0_pay19 (queries m hO c t)) (iblk m hO c 17 t) (iblk m hO c 18 t) xm (ix2 r 0))
    (l' := k0_pay14 (k0_pay19 (queries m hO c t)) (iblk m hO c 17 t) (iblk m hO c 18 t) xm xl (ix2 r 0))
    (a' := fun j => k0_pay15 (k0_pay19 (queries m hO c t)) (iblk m hO c 17 t) (iblk m hO c 18 t) xm xa (ix2 r j))
    ((pay11_at _ _ _ xm r).trans (by simp only [tdot_eq m hO c t b 3 ht]))
    ((pay14_at _ _ _ xm xl r).trans (by simp only [tdot_eq m hO c t b 3 ht]))
    (fun j => (pay15_at _ _ _ xm xa r j).trans (by
      simp only [tdot_eq m hO c t b 3 ht]
      refine congrArg₂ (· + ·) rfl (Finset.sum_congr rfl fun k _ => ?_)
      exact congrArg₂ (· * ·) rfl ((block_17 m hO c t b hb k _).trans (congrFun (V_v2 m c) _))))
    (M := peak m hT c b r) (L := total m hT c b r)
    (by unfold peak; simp only [scorePad_new])
    (by unfold total; simp only [scorePad_new]) j
  refine key.trans ?_
  unfold attended
  refine congrArg₂ (· + ·) rfl (Finset.sum_congr rfl fun k _ => ?_)
  rw [scorePad_new]
  exact congrArg₂ (· * ·) rfl (padded_at _ b k _)

/-- What the output's block holds after a sample's last point. -/
theorem last (hO : Ok m) (hT : InPool m) (hR : Tame m) (c : Dev nD) (b : Fin 128) (hn : 4 * b.val + 3 < (cfgM m hO).N) (r : Fin 32) (j : Fin 256) :
    ((outsAt0 m hO c (4 * b.val + 3) hn).1 (ix3 0 r j) : EReal) = attended m hT c b r j := by
  have h0 : ¬(⟨4 * b.val + 3, hn⟩ : Fin (cfgM m hO).N).val % 4 = 0 := by show ¬(4 * b.val + 3) % 4 = 0; omega
  have h1 : (⟨4 * b.val + 3, hn⟩ : Fin (cfgM m hO).N).val % 4 = 3 := by show (4 * b.val + 3) % 4 = 3; omega
  have e := outsAt0_C m hO c ⟨4 * b.val + 3, hn⟩ h0 h1
  rw [show outsAt0 m hO c (4 * b.val + 3) hn = _ from e, caseC_o]
  have hS := step m hO hT c ⟨4 * b.val + 3, hn⟩ b 3 rfl r _ _ _ (state m hO hT c b 2 (Nat.lt_of_le_of_lt (by omega) hn) (by omega) r)
  rw [show (3 : Fin 4).val + 1 = 4 from rfl, upto_four] at hS
  exact last_of_state m hO hT hR c _ b rfl r j _ _ _ hS

/-- The same at a point known to be a sample's last. -/
theorem last_at (hO : Ok m) (hT : InPool m) (hR : Tame m) (c : Dev nD) (b : Fin 128) (t : Fin (cfgM m hO).N) (ht : t.val = 4 * b.val + 3) (r : Fin 32) (j : Fin 256) :
    ((outsAt0 m hO c t.val t.isLt).1 (ix3 0 r j) : EReal) = attended m hT c b r j := by
  obtain ⟨n, hn⟩ := t
  obtain rfl : n = 4 * b.val + 3 := ht
  exact last m hO hT hR c b hn r j

/-- The array of attended latents. -/
def result (hT : InPool m) (c : Dev nD) : Vec Ideal S128x32x256 .bf16 := fun i => attended m hT c (i 0) (i 1) (i 2)

theorem index_19 (hO : Ok m) (t : Fin (cfgM m hO).N) (b : Fin 128) (hb : (grid0.coords t 0).val = b.val) :
   (((cfgM m hO).win 19).index t : Fin 3 → ℕ) = ![b.val, 0, 0] := by
  show ![BitVec.toNat _, 0, 0] = _
  congr 1
  exact (row_word (grid0.coords t 0)).trans hb

/-- The block written back at a sample's last point is the sample's block of the attended latents. -/
theorem flushed_eq (hO : Ok m) (hT : InPool m) (hR : Tame m) (c : Dev nD) (t : Fin (cfgM m hO).N) (hf : ((cfgM m hO).win 19).flush t = true) :
    (dats m hO 0 c).flushed 19 t = (((cfgM m hO).win 19).blk t).view.read (Elt Ideal) (result m hT c) := by
  have h3 : t.val % 4 = 3 := (flush0_19 (adm m hO) t).mp hf
  have hN : t.val < 512 := Nat.lt_of_lt_of_eq t.isLt (points m hO)
  obtain ⟨b, hbt⟩ : ∃ b : Fin 128, t.val = 4 * b.val + 3 := ⟨⟨t.val / 4, by omega⟩, by show t.val = 4 * (t.val / 4) + 3; omega⟩
  have hb : (grid0.coords t 0).val = b.val := by rw [coords_0, hbt]; omega
  have hi := index_19 m hO t b hb
  show ((cfgM m hO).win 19).cut (grid0.coords t) ((dats m hO 0 c).after 19 t) = _
  rw [after0_19]
  funext jj
  refine Eq.trans ?_ (View.read_apply ..).symm
  change S1x32x256.Idx at jj
  have h0 : (jj 0).val = 0 := Nat.lt_one_iff.mp (show (jj 0).val < 1 from (jj 0).isLt)
  have e : jj = ix3 0 (jj 1) (jj 2) := by
    funext a
    match a with
    | ⟨0, _⟩ => exact Fin.ext h0
    | ⟨1, _⟩ => rfl
    | ⟨2, _⟩ => rfl
  refine Eq.trans (b := ((outsAt0 m hO c t.val t.isLt).1 (ix3 0 (jj 1) (jj 2)) : EReal)) ?_ ((last_at m hO hT hR c b t hbt (jj 1) (jj 2)).trans ?_)
  · exact congrArg (outsAt0 m hO c t.val t.isLt).1 e
  · show _ = attended m hT c _ _ _
    congr 1
    · exact Fin.ext (((congrArg (fun x => x * 1 + 1 * (jj 0).val) (congrFun hi (0 : Fin 3))).trans (by show b.val * 1 + 1 * (jj 0).val = b.val; omega)).symm)
    · exact Fin.ext (((congrArg (fun x => x * 32 + 1 * (jj 1).val) (congrFun hi (1 : Fin 3))).trans (by show 0 * 32 + 1 * (jj 1).val = (jj 1).val; omega)).symm)
    · exact Fin.ext (((congrArg (fun x => x * 256 + 1 * (jj 2).val) (congrFun hi (2 : Fin 3))).trans (by show 0 * 256 + 1 * (jj 2).val = (jj 2).val; omega)).symm)

/-- The samples' blocks cover the result. -/
theorem cover (hO : Ok m) (i : S128x32x256.Idx) :
    ∃ t : Fin (cfgM m hO).N, ((cfgM m hO).win 19).flush t = true ∧ i ∈ (((cfgM m hO).win 19).blk t).view.set := by
  have i0 : (i 0 : Nat) < 128 := (i 0).isLt
  have i1 : (i 1 : Nat) < 32 := (i 1).isLt
  have i2 : (i 2 : Nat) < 256 := (i 2).isLt
  have hn : 4 * (i 0).val + 3 < (cfgM m hO).N := Nat.lt_of_lt_of_eq (by omega) (points m hO).symm
  have hb : (grid0.coords (⟨4 * (i 0).val + 3, hn⟩ : Fin (cfgM m hO).N) 0).val = (i 0).val := by rw [coords_0]; show (4 * (i 0).val + 3) / 4 % 128 = (i 0).val; omega
  have hi := index_19 m hO ⟨4 * (i 0).val + 3, hn⟩ (i 0) hb
  refine ⟨⟨4 * (i 0).val + 3, hn⟩, (flush0_19 (adm m hO) _).mpr (by show (4 * (i 0).val + 3) % 4 = 3; omega), ?_⟩
  show i ∈ ((View.whole main_v18).slice (((cfgM m hO).win 19).rect ⟨4 * (i 0).val + 3, hn⟩)).set
  refine (Iff.of_eq (congrArg (i ∈ ·) (View.set_slice_whole _ _))).mpr ?_
  refine Rect.mem_set_unit.mpr fun a => ?_
  match a with
  | ⟨0, _⟩ => exact (by rw [congrFun hi (0 : Fin 3)]; show (i 0).val * 1 ≤ (i 0).val ∧ (i 0).val < (i 0).val * 1 + 1; omega :
      ((cfgM m hO).win 19).index ⟨4 * (i 0).val + 3, hn⟩ (0 : Fin 3) * 1 ≤ (i 0 : Nat) ∧ (i 0 : Nat) < ((cfgM m hO).win 19).index ⟨4 * (i 0).val + 3, hn⟩ (0 : Fin 3) * 1 + 1)
  | ⟨1, _⟩ => exact (by rw [congrFun hi (1 : Fin 3)]; show 0 * 32 ≤ (i 1).val ∧ (i 1).val < 0 * 32 + 32; omega :
      ((cfgM m hO).win 19).index ⟨4 * (i 0).val + 3, hn⟩ (1 : Fin 3) * 32 ≤ (i 1 : Nat) ∧ (i 1 : Nat) < ((cfgM m hO).win 19).index ⟨4 * (i 0).val + 3, hn⟩ (1 : Fin 3) * 32 + 32)
  | ⟨2, _⟩ => exact (by rw [congrFun hi (2 : Fin 3)]; show 0 * 256 ≤ (i 2).val ∧ (i 2).val < 0 * 256 + 256; omega :
      ((cfgM m hO).win 19).index ⟨4 * (i 0).val + 3, hn⟩ (2 : Fin 3) * 256 ≤ (i 2 : Nat) ∧ (i 2 : Nat) < ((cfgM m hO).win 19).index ⟨4 * (i 0).val + 3, hn⟩ (2 : Fin 3) * 256 + 256)

/-- The result array ends holding the attended latents. -/
theorem final_o (hO : Ok m) (hT : InPool m) (hR : Tame m) (c : Dev nD) : (dats m hO 0 c).arrAt 19 (cfgM m hO).N = result m hT c :=
  (dats m hO 0 c).arrAt_eq_of_cover 19 (result m hT c) (flushed_eq m hO hT hR c) (cover m hO)

/-- Every execution ends with the attended latents in the result and the arguments unchanged. -/
theorem run (hO : Ok m) (hT : InPool m) (hR : Tame m) : θ_run defs (onTc (τ := τ) (main (F := Ideal))) ⟨m, fun _ => 0, ρ⟩ (fun r => ∀ c : Dev nD,
      r.2.mem ((c : Thread nD τ).loc main_v18) = result m hT c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨((h.1 c).1 19).trans (final_o m hO hT hR c), h.2 c⟩) (θ_run_and (run_main m ρ hO) (unchanged m ρ hO))

end Cert.KernelIdeal.Value

end
-- ==== Proof.RefValue.lean ====
/- What the reference computes, read at an index: the gathered rows, the scores, the softmax over the cached positions and
   the new rows, and the attended latents. -/
module

public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.ShloMosaic.Pointwise

section Stages
variable {F : FTy → Type} [FloatOps F]

/-- The page names as the gather reads them: a negative one counts from the pool's end. -/
def names (T : IVec S128x64 32) : IVec S128x64 32 :=
  select (cmpi .slt T (broadcastInDim S128x64 ![] bcast_S_S128x64 (constantI S_ 32 0#32)))
    (addi T (broadcastInDim S128x64 ![] bcast_S_S128x64 (constantI S_ 32 10240#32))) T

/-- The cached rows of each sample, page by page. -/
def rows (T : IVec S128x64 32) (x : FVec F S10240x128x288 .f32) : FVec F S128x8192x288 .f32 :=
  shapeCast _ (Host.gather gather_S10240x128x288_S128x64x1_S128x64x128x288_23_0_n_n_0_2_1128288 x
    (broadcastInDim S128x64x1 ![0, 1] bcast_S128x64_S128x64x1_0_1 (names T))) shapeCasts_S128x64x128x288_S128x8192x288

/-- The scores of the queries against the cached rows. -/
def past (q : FVec F S128x4x8x288 .bf16) (y : FVec F S128x8192x288 .f32) : FVec F S128x8x4x8192 .f32 :=
  transpose S128x8x4x8192 [0, 3, 2, 1] (Host.dotGeneral dot_S128x8192x288_S128x4x8x288_S128x8192x4x8_2_3_1_12_0_0 none y
    (extf .f32 q bitsLt_bf16_f32)) transposes_S128x8192x4x8_S128x8x4x8192_0_3_2_1

/-- The masked scores of the queries against the new rows. -/
def fresh (q : FVec F S128x4x8x288 .bf16) (n : FVec F S128x4x288 .f32) : FVec F S128x8x4x4 .f32 :=
  select (broadcastInDim S128x8x4x4 ![2, 3] bcast_S4x4_S128x8x4x4_2_3 (cmpi .sle (broadcastInDim S4x4 ![0, 1] bcast_S1x4_S4x4_0_1 (broadcastInDim S1x4 ![1] bcast_S4_S1x4_1 (iotaInDim S4 32 0))) (broadcastInDim S4x4 ![0, 1] bcast_S4x1_S4x4_0_1 (broadcastInDim S4x1 ![0] bcast_S4_S4x1_0 (iotaInDim S4 32 0)))))
    (transpose S128x8x4x4 [0, 3, 2, 1] (Host.dotGeneral dot_S128x4x288_S128x4x8x288_S128x4x4x8_2_3_1_12_0_0 none n (extf .f32 q bitsLt_bf16_f32)) transposes_S128x4x4x8_S128x8x4x4_0_3_2_1)
    (broadcastInDim S128x8x4x4 ![] bcast_S_S128x8x4x4 (id (constant S_ .f32 0xFF800000#32)))

/-- The maximum of each row of scores. -/
def top (s : FVec F S128x8x4x8196 .f32) : FVec F S128x8x4 .f32 :=
  maximumf (broadcastInDim S128x8x4 ![] bcast_S_S128x8x4 (constant S_ .f32 0xFF800000#32))
    (Host.reduce FloatOps.maximumf s (constant S_ .f32 0xFF800000#32) reducesTo_S128x8x4x8196_S128x8x4_d3 h_S_)

/-- The exponentials of the scores relative to their row's maximum. -/
def weights (s : FVec F S128x8x4x8196 .f32) : FVec F S128x8x4x8196 .f32 :=
  Host.exp (subf s (broadcastInDim S128x8x4x8196 ![0, 1, 2, 3] bcast_S128x8x4x1_S128x8x4x8196_0_1_2_3 (broadcastInDim S128x8x4x1 ![0, 1, 2] bcast_S128x8x4_S128x8x4x1_0_1_2 (top s))))

/-- Each row's sum of weights. -/
def mass (e : FVec F S128x8x4x8196 .f32) : FVec F S128x8x4 .f32 :=
  Host.reduceAdd e (constant S_ .f32 0x00000000#32) reducesTo_S128x8x4x8196_S128x8x4_d3 h_S_

/-- The softmax. -/
def soft (e : FVec F S128x8x4x8196 .f32) : FVec F S128x8x4x8196 .f32 :=
  Host.divf e (broadcastInDim S128x8x4x8196 ![0, 1, 2, 3] bcast_S128x8x4x1_S128x8x4x8196_0_1_2_3 (broadcastInDim S128x8x4x1 ![0, 1, 2] bcast_S128x8x4_S128x8x4x1_0_1_2 (mass e)))

/-- The attended latents from the softmax, the cached rows and the new rows. -/
def attend (p : FVec F S128x8x4x8196 .f32) (y : FVec F S128x8192x288 .f32) (n : FVec F S128x4x288 .f32) : FVec F S128x32x256 .bf16 :=
  truncf .bf16 (shapeCast _ (extractStridedSlice S128x4x8x256 ![0, 0, 0, 0] (addf (transpose S128x4x8x288 [0, 3, 2, 1]
    (Host.dotGeneral dot_S128x8192x288_S128x8x4x8192_S128x288x8x4_1_3_2_12_0_0 none y
      (extractStridedSlice S128x8x4x8192 ![0, 0, 0, 0] p slices_S128x8x4x8196_S128x8x4x8192_0_0_0_0)) transposes_S128x288x8x4_S128x4x8x288_0_3_2_1)
    (transpose S128x4x8x288 [0, 3, 2, 1] (Host.dotGeneral dot_S128x4x288_S128x8x4x4_S128x288x8x4_1_3_2_12_0_0 none n
      (extractStridedSlice S128x8x4x4 ![0, 0, 0, 8192] p slices_S128x8x4x8196_S128x8x4x4_0_0_0_8192)) transposes_S128x288x8x4_S128x4x8x288_0_3_2_1))
    slices_S128x4x8x288_S128x4x8x256_0_0_0_0) shapeCasts_S128x4x8x256_S128x32x256) bitsLt_bf16_f32

/-- The reference's result, stage by stage. -/
theorem res_eq (m : (ℓ : Loc nD τ sig) → Buf (Elt F) ℓ) (c : Dev nD) : res_main_v42 m c =
    attend (soft (weights (fn_main_v21 (past (m ((c.tc : Thread nD τ).loc main_arg1)) (rows (m ((c.tc : Thread nD τ).loc main_arg0)) (m ((c.tc : Thread nD τ).loc main_arg2))))
      (fresh (m ((c.tc : Thread nD τ).loc main_arg1)) (m ((c.tc : Thread nD τ).loc main_arg3))))))
      (rows (m ((c.tc : Thread nD τ).loc main_arg0)) (m ((c.tc : Thread nD τ).loc main_arg2))) (m ((c.tc : Thread nD τ).loc main_arg3)) := rfl

end Stages

end Cert.ReferenceIdeal.Value

end
-- ==== Proof.RefSoft.lean ====
/- The reference's scores, softmax and attended latents at an index. -/
module

public import proofs.«01_k».proof.Proof.RefValue
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.ShloMosaic.Pointwise

theorem ninf : Ideal.ofBits .f32 0xFF800000#32 = ⊥ := by simp [Ideal.ofBits, Ideal.ieee]

theorem past_at (q : FVec Ideal S128x4x8x288 .bf16) (y : FVec Ideal S128x8192x288 .f32) (b : Fin 128) (h : Fin 8) (s : Fin 4) (p : Fin 8192) :
    (past q y (ix4 b h s p) : EReal) = ∑ j : Fin 288, (y (ix3 b p j) : EReal) * q (ix4 b s h j) := by
  pointwise [past]

theorem fresh_at (q : FVec Ideal S128x4x8x288 .bf16) (n : FVec Ideal S128x4x288 .f32) (b : Fin 128) (h : Fin 8) (s : Fin 4) (p : Fin 4) :
    (fresh q n (ix4 b h s p) : EReal) = if p.val ≤ s.val then ∑ j : Fin 288, (n (ix3 b p j) : EReal) * q (ix4 b s h j) else ⊥ := by
  pointwise [fresh]
  have hp := p.isLt
  have hs := s.isLt
  have ofBool_eq (x : Bool) : (BitVec.ofBool x = 1#1) ↔ x = true := by cases x <;> decide
  have hc : (IntOp.cmpi .sle (BitVec.ofNat 32 p.val) (BitVec.ofNat 32 s.val) = 1#1) ↔ p.val ≤ s.val := by
    simp only [IntOp.cmpi, ofBool_eq, BitVec.sle_eq_decide, decide_eq_true_eq, BitVec.toInt_eq_toNat_cond, BitVec.toNat_ofNat]
    omega
  show (if IntOp.cmpi .sle (BitVec.ofNat 32 p.val) (BitVec.ofNat 32 s.val) = 1#1 then _ else Ideal.ofBits .f32 0xFF800000#32) = _
  rw [ninf]
  by_cases h1 : p.val ≤ s.val
  · rw [if_pos h1, if_pos (hc.mpr h1)]
  · rw [if_neg h1, if_neg (fun h2 => h1 (hc.mp h2))]

theorem cat_left (a : FVec Ideal S128x8x4x8192 .f32) (d : FVec Ideal S128x8x4x4 .f32) (b : Fin 128) (h : Fin 8) (s : Fin 4) (p : Fin 8192) :
    fn_main_v21 (F := Ideal) a d (ix4 b h s ⟨p.val, by omega⟩) = a (ix4 b h s p) := by
  pointwise [fn_main_v21]

theorem cat_right (a : FVec Ideal S128x8x4x8192 .f32) (d : FVec Ideal S128x8x4x4 .f32) (b : Fin 128) (h : Fin 8) (s : Fin 4) (p : Fin 4) :
    fn_main_v21 (F := Ideal) a d (ix4 b h s ⟨8192 + p.val, by omega⟩) = d (ix4 b h s p) := by
  pointwise [fn_main_v21]

theorem maximumf_apply {s : Shape} (x y : FVec Ideal s .f32) (i : s.Idx) : (maximumf x y i : EReal) = max (x i : EReal) (y i) := rfl

/-- The host maximum over the last axis of a rank-four array, from the bottom, is the supremum. -/
theorem max_last {n0 n1 n2 n3 : ℕ} {u : Shape} (x : (⟨4, ![n0, n1, n2, n3]⟩ : Shape).Idx → Ideal .f32) (v : u.Idx → Ideal .f32)
    (hr : (⟨4, ![n0, n1, n2, n3]⟩ : Shape).ReducesTo [3] ⟨3, ![n0, n1, n2]⟩) (hu : 0 < u.numel) (hv : (v (Shape.Idx.first hu) : EReal) = ⊥)
    (b : Fin n0) (h : Fin n1) (t : Fin n2) :
    (Host.reduce (FloatOps.maximumf : Ideal .f32 → Ideal .f32 → Ideal .f32) x v hr hu (ix3 b h t) : EReal) = Finset.univ.sup fun p => (x (ix4 b h t p) : EReal) := by
  rw [Ideal.maximumf_eq_max, Host.reduce_eq_fold, Shape.ReducesTo.fold_fiber_r4_a3, hv]
  rfl

theorem top_at (s : FVec Ideal S128x8x4x8196 .f32) (b : Fin 128) (h : Fin 8) (t : Fin 4) :
    (top s (ix3 b h t) : EReal) = Finset.univ.sup fun p => (s (ix4 b h t p) : EReal) := by
  unfold top
  refine (maximumf_apply _ _ _).trans ?_
  refine (max_eq_right ?_).trans ?_
  · exact (show Ideal.ofBits .f32 0xFF800000#32 ≤ _ from ninf ▸ bot_le)
  · exact max_last s _ reducesTo_S128x8x4x8196_S128x8x4_d3 h_S_ ninf b h t

theorem mass_at (s : FVec Ideal S128x8x4x8196 .f32) (b : Fin 128) (h : Fin 8) (t : Fin 4) :
    (mass s (ix3 b h t) : EReal) = ∑ p, (s (ix4 b h t p) : EReal) := by
  pointwise [mass]

theorem weights_at (s : FVec Ideal S128x8x4x8196 .f32) (b : Fin 128) (h : Fin 8) (t : Fin 4) (p : Fin 8196) :
    (weights s (ix4 b h t p) : EReal) = Ideal.exp (s (ix4 b h t p) - top s (ix3 b h t)) := by
  pointwise [weights]

theorem soft_at (s : FVec Ideal S128x8x4x8196 .f32) (b : Fin 128) (h : Fin 8) (t : Fin 4) (p : Fin 8196) :
    (soft s (ix4 b h t p) : EReal) = Ideal.div (s (ix4 b h t p)) (mass s (ix3 b h t)) := by
  pointwise [soft]

theorem attend_at (p : FVec Ideal S128x8x4x8196 .f32) (y : FVec Ideal S128x8192x288 .f32) (n : FVec Ideal S128x4x288 .f32) (b : Fin 128) (h : Fin 8) (s : Fin 4)
   (r : Fin 32) (hr : r.val = 8 * s.val + h.val) (j : Fin 256) :
    (attend p y n (ix3 b r j) : EReal) = ∑ k : Fin 8192, (y (ix3 b k (Fin.castLE (by omega) j)) : EReal) * p (ix4 b h s (Fin.castLE (by omega) k))
      + ∑ k : Fin 4, (n (ix3 b k (Fin.castLE (by omega) j)) : EReal) * p (ix4 b h s ⟨8192 + k.val, by omega⟩) := by
  pointwise [attend]
  have h1 : (⟨r.val % 8, by omega⟩ : Fin 8) = h := Fin.ext (by show r.val % 8 = h.val; omega)
  have h2 : (⟨r.val / 8, by omega⟩ : Fin 4) = s := Fin.ext (by show r.val / 8 = s.val; omega)
  exact congrArg₂ (fun h' s' => (∑ k : Fin 8192, (y (ix3 b k (Fin.castLE (by omega) j)) : EReal) * p (ix4 b h' s' (Fin.castLE (by omega) k)))
      + ∑ k : Fin 4, (n (ix3 b k (Fin.castLE (by omega) j)) : EReal) * p (ix4 b h' s' ⟨8192 + k.val, by omega⟩)) h1 h2

end Cert.ReferenceIdeal.Value

end
-- ==== Proof.RefRows.lean ====
/- The cached rows that the reference gathers. -/
module

public import proofs.«01_k».proof.Proof.RefValue
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.ShloMosaic.Pointwise

/-- A page name in range is read as it stands. -/
theorem names_at (T : IVec S128x64 32) (i : S128x64.Idx) (h : (T i).toNat < 10240) : names T i = T i := by
  have : IntOp.cmpi .slt (T i) 0#32 = 0#1 := by
    have ofBool_eq (p : Bool) : (BitVec.ofBool p = 0#1) ↔ p = false := by cases p <;> decide
    simp only [IntOp.cmpi, ofBool_eq, BitVec.slt_eq_decide, decide_eq_false_iff_not, BitVec.toInt_eq_toNat_cond, BitVec.toNat_ofNat,
      Nat.reducePow, Nat.reduceMod]
    omega
  show (if IntOp.cmpi .slt (T i) 0#32 = 1#1 then _ else T i) = T i
  rw [this]; exact if_neg (by decide)

/-- The gather reads the page that the name names. -/
theorem gather_at (x : FVec Ideal S10240x128x288 .f32) (I : IVec S128x64x1 32) (b : Fin 128) (g : Fin 64) (k : Fin 128) (j : Fin 288)
    (h : (I (ix3 b g 0)).toNat < 10240) :
    Host.gather gather_S10240x128x288_S128x64x1_S128x64x128x288_23_0_n_n_0_2_1128288 x I (ix4 b g k j) = x (ix3 ⟨(I (ix3 b g 0)).toNat, h⟩ k j) := by
  unfold Host.gather
  congr 1
  funext a
  refine Fin.ext ?_
  show GatherDims.start _ _ I a + GatherDims.batchCoord _ _ a + GatherDims.offCoord _ _ a = _
  have ha : a = (0 : Fin 3) ∨ a = (1 : Fin 3) ∨ a = (2 : Fin 3) := by
    have h3 : a.val < 3 := a.isLt
    rcases (by omega : a.val = 0 ∨ a.val = 1 ∨ a.val = 2) with h0 | h0 | h0
    · exact Or.inl (Fin.ext h0)
    · exact Or.inr (Or.inl (Fin.ext h0))
    · exact Or.inr (Or.inr (Fin.ext h0))
  rcases ha with rfl | rfl | rfl
  · rw [GatherDims.batchCoord_eq_zero _ _ _ (fun h => by cases h),
      GatherDims.offCoord_eq_zero _ _ _ (fun h => ((GatherDims.mem_sKept _ _).mp h).1 (List.mem_singleton.mpr rfl))]
    unfold GatherDims.start
    rw [dif_pos (show (0 : Fin 3) ∈ (gather_S10240x128x288_S128x64x1_S128x64x128x288_23_0_n_n_0_2_1128288).startIndexMap from List.mem_singleton.mpr rfl)]
    have e : ∀ c, GatherDims.siIdx gather_S10240x128x288_S128x64x1_S128x64x128x288_23_0_n_n_0_2_1128288 (ix4 b g k j) c = ix3 b g 0 := by
      intro c; funext a; refine Fin.ext ?_
      match a with
      | ⟨0, _⟩ => rfl
      | ⟨1, _⟩ => rfl
      | ⟨2, _⟩ => exact Nat.lt_one_iff.mp c.isLt
    rw [e]
    show min (I (ix3 b g 0)).toInt.toNat (10240 - 1) + 0 + 0 = (I (ix3 b g 0)).toNat
    rw [BitVec.toInt_eq_toNat_of_lt (by omega)]
    omega
  · unfold GatherDims.start GatherDims.batchCoord
    rw [dif_neg (by decide), dif_neg (by decide)]
    show 0 + 0 + k.val = k.val
    omega
  · unfold GatherDims.start GatherDims.batchCoord
    rw [dif_neg (by decide), dif_neg (by decide)]
    show 0 + 0 + j.val = j.val
    omega

/-- Position `p` of a sample is lane `k` of its page `g`. -/
theorem flat_at (z : FVec Ideal S128x64x128x288 .f32) (b : Fin 128) (g : Fin 64) (k : Fin 128) (p : Fin 8192) (j : Fin 288)
    (hp : p.val = 128 * g.val + k.val) : shapeCast S128x8192x288 z shapeCasts_S128x64x128x288_S128x8192x288 (ix3 b p j) = z (ix4 b g k j) := by
  pointwise []
  have hgk : p.val / 128 = g.val ∧ p.val % 128 = k.val := by omega
  have hg : (⟨p.val / 128, by omega⟩ : Fin 64) = g := Fin.ext hgk.1
  have hk : (⟨p.val % 128, by omega⟩ : Fin 128) = k := Fin.ext hgk.2
  exact congrArg₂ (fun g' k' => z (ix4 b g' k' j)) hg hk

/-- Position `p` of sample `b` is lane `p % 128` of the page that the table names at `p / 128`. -/
theorem rows_at (T : IVec S128x64 32) (x : FVec Ideal S10240x128x288 .f32) (b : Fin 128) (g : Fin 64) (k : Fin 128) (p : Fin 8192) (j : Fin 288)
    (hp : p.val = 128 * g.val + k.val) (h : (T (ix2 b g)).toNat < 10240) :
    rows T x (ix3 b p j) = x (ix3 ⟨(T (ix2 b g)).toNat, h⟩ k j) := by
  have e : (broadcastInDim S128x64x1 ![0, 1] bcast_S128x64_S128x64x1_0_1 (names T)) (ix3 b g 0) = T (ix2 b g) := by
    pointwise []
    exact names_at T _ h
  rw [rows, flat_at _ b g k p j hp]
  have key : ∀ (w : BitVec 32) (hw : w.toNat < 10240), w = T (ix2 b g) → x (ix3 ⟨w.toNat, hw⟩ k j) = x (ix3 ⟨(T (ix2 b g)).toNat, h⟩ k j) := by
    intro w hw ew
    subst ew
    rfl
  have h' : ((broadcastInDim S128x64x1 ![0, 1] bcast_S128x64_S128x64x1_0_1 (names T)) (ix3 b g 0)).toNat < 10240 := lt_of_eq_of_lt (congrArg BitVec.toNat e) h
  exact (gather_at x _ b g k j h').trans (key _ h' e)

end Cert.ReferenceIdeal.Value

end
-- ==== Proof.RefFinal.lean ====
/- The reference's result at an index, its scores split into those of the cached positions and those of the new rows. -/
module

public import proofs.«01_k».proof.Proof.RefSoft
public import proofs.«01_k».proof.Proof.RefRows

@[expose] public section

set_option maxRecDepth 16384

noncomputable section

namespace Cert.ReferenceIdeal.Value

open Cert.ReferenceIdeal Cert.ReferenceIdeal.Gen Idealize.ShloMosaic Idealize.ShloMosaic.TcCoe Idealize.ShloMosaic.Pointwise

/-- A sum over the 8196 columns is the sum over the cached positions and the sum over the new rows. -/
theorem sum_split (f : Fin 8196 → EReal) : ∑ p, f p = ∑ p : Fin 8192, f (Fin.castLE (by omega) p) + ∑ k : Fin 4, f ⟨8192 + k.val, by omega⟩ :=
  Fin.sum_univ_add (a := 8192) (b := 4) f

/-- So is a supremum. -/
theorem sup_split (f : Fin 8196 → EReal) :
    Finset.univ.sup f = max (Finset.univ.sup fun p : Fin 8192 => f (Fin.castLE (by omega) p)) (Finset.univ.sup fun k : Fin 4 => f ⟨8192 + k.val, by omega⟩) := by
  refine le_antisymm (Finset.sup_le fun p _ => ?_) (max_le (Finset.sup_le fun p _ => Finset.le_sup (Finset.mem_univ _)) (Finset.sup_le fun k _ => Finset.le_sup (Finset.mem_univ _)))
  by_cases hp : p.val < 8192
  · exact le_max_of_le_left (Finset.le_sup (f := fun p : Fin 8192 => f (Fin.castLE (by omega) p)) (Finset.mem_univ (⟨p.val, hp⟩ : Fin 8192)))
  · refine le_max_of_le_right ?_
    have e : p = ⟨8192 + (⟨p.val - 8192, by omega⟩ : Fin 4).val, by show 8192 + (p.val - 8192) < 8196; omega⟩ := Fin.ext (by show p.val = 8192 + (p.val - 8192); omega)
    have := Finset.le_sup (f := fun k : Fin 4 => f ⟨8192 + k.val, by omega⟩) (Finset.mem_univ (⟨p.val - 8192, by omega⟩ : Fin 4))
    rw [e]
    exact this

/-- The attention over given scores: the softmax over the cached positions' and the new rows' scores, and the two weighted sums. -/
theorem attend_soft (a : FVec Ideal S128x8x4x8192 .f32) (d : FVec Ideal S128x8x4x4 .f32) (y : FVec Ideal S128x8192x288 .f32) (n : FVec Ideal S128x4x288 .f32)
    (b : Fin 128) (h : Fin 8) (s : Fin 4) (r : Fin 32) (hr : r.val = 8 * s.val + h.val) (j : Fin 256) (A : Fin 8192 → EReal) (D : Fin 4 → EReal)
    (hA : ∀ p, (a (ix4 b h s p) : EReal) = A p) (hD : ∀ k, (d (ix4 b h s k) : EReal) = D k) (M L : EReal)
    (hM : M = max (Finset.univ.sup A) (Finset.univ.sup D)) (hL : L = ∑ p, Ideal.exp (A p - M) + ∑ k, Ideal.exp (D k - M)) :
    (attend (soft (weights (fn_main_v21 (F := Ideal) a d))) y n (ix3 b r j) : EReal)
      = ∑ p : Fin 8192, Ideal.div (Ideal.exp (A p - M)) L * (y (ix3 b p (Fin.castLE (by omega) j)) : EReal)
        + ∑ k : Fin 4, Ideal.div (Ideal.exp (D k - M)) L * (n (ix3 b k (Fin.castLE (by omega) j)) : EReal) := by
  have eA : ∀ p : Fin 8192, (fn_main_v21 (F := Ideal) a d (ix4 b h s (Fin.castLE (by omega) p)) : EReal) = A p := fun p => (cat_left a d b h s p).trans (hA p)
  have eD : ∀ k : Fin 4, (fn_main_v21 (F := Ideal) a d (ix4 b h s ⟨8192 + k.val, by omega⟩) : EReal) = D k := fun k => (cat_right a d b h s k).trans (hD k)
  generalize fn_main_v21 (F := Ideal) a d = z at *
  have eM : (top (F := Ideal) z (ix3 b h s) : EReal) = M := by
    rw [hM]
    refine (top_at z b h s).trans ((sup_split _).trans ?_)
    simp only [eA, eD]
  have wA : ∀ p : Fin 8192, (weights (F := Ideal) z (ix4 b h s (Fin.castLE (by omega) p)) : EReal) = Ideal.exp (A p - M) := fun p => (weights_at z b h s _).trans (by rw [eM, eA])
  have wD : ∀ k : Fin 4, (weights (F := Ideal) z (ix4 b h s ⟨8192 + k.val, by omega⟩) : EReal) = Ideal.exp (D k - M) := fun k => (weights_at z b h s _).trans (by rw [eM, eD])
  generalize weights (F := Ideal) z = w at *
  have eL : (mass (F := Ideal) w (ix3 b h s) : EReal) = L := by
    rw [hL]
    refine (mass_at w b h s).trans ((sum_split _).trans ?_)
    simp only [wA, wD]
  have pA : ∀ p : Fin 8192, (soft (F := Ideal) w (ix4 b h s (Fin.castLE (by omega) p)) : EReal) = Ideal.div (Ideal.exp (A p - M)) L := fun p => (soft_at w b h s _).trans (by rw [eL, wA])
  have pD : ∀ k : Fin 4, (soft (F := Ideal) w (ix4 b h s ⟨8192 + k.val, by omega⟩) : EReal) = Ideal.div (Ideal.exp (D k - M)) L := fun k => (soft_at w b h s _).trans (by rw [eL, wD])
  generalize soft (F := Ideal) w = v at *
  refine (attend_at v y n b h s r hr j).trans ?_
  refine congrArg₂ (· + ·) (Finset.sum_congr rfl fun p _ => ?_) (Finset.sum_congr rfl fun k _ => ?_)
  · rw [pA, mul_comm]
  · rw [pD, mul_comm]

end Cert.ReferenceIdeal.Value

end
-- ==== Proof.Equal.lean ====
/- The kernel's array of attended latents is the reference's, and both runs end in it. -/
module

public import proofs.«01_k».proof.Proof.Final
public import proofs.«01_k».proof.Proof.RefFinal
public import proofs.«01_k».proof.Proof.PreTame
public import proofs.«01_k».proof.Proof.Pages
public import proofs.«01_k».proof.Defs
public import proofs.«01_k».proof.Proof.Pre

@[expose] public section

set_option maxRecDepth 16384

noncomputable section

namespace Cert.Proof

open Idealize.ShloMosaic Idealize.SL.Sem Idealize.ShloMosaic.TcCoe Idealize.ShloMosaic.Pointwise
open Cert.KernelIdeal (S128x64 S128x4x8x288 S10240x128x288 S128x4x288 S128x32x256)
open Cert.KernelIdeal.Value (InPool Tame result attended score fresh query row added latent peak total)
open Cert.ReferenceIdeal.Value (rows past soft weights attend attend_soft past_at fresh_at rows_at)

variable (m : (ℓ : Loc Cert.KernelIdeal.nD Cert.KernelIdeal.τ Cert.KernelIdeal.sig) → Buf (Elt Ideal) ℓ)

/-- The reference's stages after the gather, of rows, queries and new rows that are the kernel's, give the kernel's result. -/
theorem stages_of (hT : InPool m) (c : Dev Cert.KernelIdeal.nD) (y : FVec Ideal Cert.ReferenceIdeal.S128x8192x288 .f32) (q : FVec Ideal S128x4x8x288 .bf16)
    (n : FVec Ideal S128x4x288 .f32) (b : Fin 128) (r : Fin 32) (j : Fin 256)
    (er : ∀ p j, (y (ix3 b p j) : EReal) = row m hT c b p j) (en : ∀ k j, (n (ix3 b k j) : EReal) = added m c b k j)
    (eq : ∀ j, (q (ix4 b ⟨r.val / 8, by omega⟩ ⟨r.val % 8, by omega⟩ j) : EReal) = query m c b r j) :
    (attend (soft (weights (Cert.ReferenceIdeal.Value.fn_main_v21 (F := Ideal) (past q y) (Cert.ReferenceIdeal.Value.fresh q n)))) y n (ix3 b r j) : EReal)
      = attended m hT c b r j := by
  refine (attend_soft _ _ y n b ⟨r.val % 8, by omega⟩ ⟨r.val / 8, by omega⟩ r (by show r.val = 8 * (r.val / 8) + r.val % 8; omega) j
    (score m hT c b r) (fresh m c b r) (fun p => ?_) (fun k => ?_) (peak m hT c b r) (total m hT c b r) rfl rfl).trans ?_
  · refine (past_at q y b _ _ p).trans (Finset.sum_congr rfl fun j _ => ?_)
    rw [er, eq, mul_comm]
  · refine (fresh_at q n b _ _ k).trans ?_
    unfold Cert.KernelIdeal.Value.fresh
    refine if_congr Iff.rfl (Finset.sum_congr rfl fun j _ => ?_) rfl
    rw [en, eq, mul_comm]
  · unfold attended
    refine congrArg₂ (· + ·) (Finset.sum_congr rfl fun p _ => ?_) (Finset.sum_congr rfl fun k _ => ?_)
    · rw [er]; rfl
    · rw [en]

/-- The rows gathered from the kernel's arguments are the kernel's. -/
theorem rows_eq (hT : InPool m) (c : Dev Cert.KernelIdeal.nD) (b : Fin 128) (p : Fin 8192) (j : Fin 288) :
    (rows (F := Ideal) (Cert.KernelIdeal.Gen.tbl m 0) (m ((c : Thread Cert.KernelIdeal.nD Cert.KernelIdeal.τ).loc Cert.KernelIdeal.main_arg2)) (ix3 b p j) : EReal) = row m hT c b p j :=
  rows_at _ _ b ⟨p.val / 128, by omega⟩ ⟨p.val % 128, by omega⟩ p j (by show p.val = 128 * (p.val / 128) + p.val % 128; omega) (hT _)

/-- The reference's stages, of the kernel's own arguments, give the kernel's result. -/
theorem stages_eq (hT : InPool m) (c : Dev Cert.KernelIdeal.nD) (T : IVec S128x64 32) (q : FVec Ideal S128x4x8x288 .bf16) (x : FVec Ideal S10240x128x288 .f32)
    (n : FVec Ideal S128x4x288 .f32) (eT : T = Cert.KernelIdeal.Gen.tbl m 0) (eq : q = m ((c : Thread Cert.KernelIdeal.nD Cert.KernelIdeal.τ).loc Cert.KernelIdeal.main_arg1))
    (ex : x = m ((c : Thread Cert.KernelIdeal.nD Cert.KernelIdeal.τ).loc Cert.KernelIdeal.main_arg2))
    (en : n = m ((c : Thread Cert.KernelIdeal.nD Cert.KernelIdeal.τ).loc Cert.KernelIdeal.main_arg3)) (b : Fin 128) (r : Fin 32) (j : Fin 256) :
    (attend (soft (weights (Cert.ReferenceIdeal.Value.fn_main_v21 (F := Ideal) (past q (rows T x)) (Cert.ReferenceIdeal.Value.fresh q n)))) (rows T x) n (ix3 b r j) : EReal) = attended m hT c b r j :=
  stages_of m hT c (rows T x) q n b r j (fun p j => by rw [eT, ex]; exact rows_eq m hT c b p j)
    (fun k j => congrFun en (ix3 b k j)) (fun j => congrFun eq _)

/-- From memories that agree on the arguments the reference's result is the kernel's. -/
theorem result_eq (hT : InPool m) (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (show Vec Ideal S128x32x256 .bf16 from Cert.ReferenceIdeal.Value.res_main_v42 m' c) = result m hT c := by
  obtain rfl : c = 0 := Subsingleton.elim _ _
  refine (Cert.ReferenceIdeal.Value.res_eq m' 0).trans (funext fun i => ?_)
  have ei : i = ix3 (i 0) (i 1) (i 2) := by
    funext a
    match a with
    | ⟨0, _⟩ => rfl
    | ⟨1, _⟩ => rfl
    | ⟨2, _⟩ => rfl
  rw [ei]
  exact stages_eq m hT 0 _ _ _ _ (h0.trans (Cert.KernelIdeal.Gen.V_main_arg0 m 0).symm) h1 h2 h3 (i 0) (i 1) (i 2)

/-- Under `tame` the page names are in the pool. -/
theorem inPool (h : Cert.Pre_KernelIdeal_tame m) : InPool m := fun i => by
  have e : Cert.KernelIdeal.Gen.tbl m 0 = m (((0 : Dev Cert.KernelIdeal.nD).tc : Thread Cert.KernelIdeal.nD Cert.KernelIdeal.τ).loc Cert.KernelIdeal.main_arg0) := Cert.KernelIdeal.Gen.V_main_arg0 m 0
  rw [e]
  exact (Cert.Pages.of_tame _ _ _ _ (h 0)).1 i

/-- Under `tame` the float arguments are real. -/
theorem tame (h : Cert.Pre_KernelIdeal_tame m) : Tame m :=
  ⟨fun c i => (Cert.Pages.of_tame _ _ _ _ (h c)).2.1 i, fun c i => (Cert.Pages.of_tame _ _ _ _ (h c)).2.2.1 i, fun c i => (Cert.Pages.of_tame _ _ _ _ (h c)).2.2.2 i⟩

/-- The idealized kernel and the reference end with the same result. -/
theorem algebraic : Cert.algebraic_KernelIdeal_ReferenceIdeal_pre_tame := fun m g m' g' h hm => by
  have hT := inPool m h
  refine ⟨fun c => result m hT c, Cert.KernelIdeal.Value.run m g (Cert.KernelIdeal.Gen.ok_of_lt m fun i => (Cert.Pages.of_tame _ _ _ _ (h 0)).1 i) hT (tame m h), ?_⟩
  refine (θ_run Cert.ReferenceIdeal.defs _ _).mono (fun r hr c => ⟨(hr c).1.trans ?_, (hr c).2⟩) (Cert.ReferenceIdeal.Value.run (F := Ideal) m' g')
  exact result_eq m hT m' c (hm c).1 (hm c).2.1 (hm c).2.2.1 (hm c).2.2.2

end Cert.Proof

end
-- ==== Proof.FfnMath.lean ====
/- One row of the layer that adds the attention's output and the gated hidden layer, as plain sums and products. -/
module

public import Idealize.ShloMosaic.Lib.Pointwise

@[expose] public section

noncomputable section

open Idealize.ShloMosaic
open scoped BigOperators

namespace Cert.Ffn

/-- The row length as the programs write it. -/
def width : EReal := Ideal.ofBits .f32 0x44800000#32

/-- The small addend of the norm as the programs write it. -/
def eps : EReal := Ideal.ofBits .f32 0x358637BD#32

/-- A row divided by the root of its mean square. -/
def rms (x : Fin 1024 → EReal) (j : Fin 1024) : EReal :=
  x j * Ideal.rsqrt (Ideal.div (∑ k, x k * x k) width + eps)

/-- The normed row, scaled and shifted. -/
def modulated (x sh sc : Fin 1024 → EReal) (j : Fin 1024) : EReal := rms x j * (1 + sc j) + sh j

/-- A row times a matrix. -/
def rowDot {n k : ℕ} (x : Fin k → EReal) (w : Fin k → Fin n → EReal) (j : Fin n) : EReal := ∑ i, x i * w i j

/-- The gate passed through its sigmoid, times the other half. -/
def act (g u : EReal) : EReal := g * Ideal.div 1 (1 + Ideal.exp (-g)) * u

/-- The gated hidden layer of `n` units. -/
def ffn {n : ℕ} (h : Fin 1024 → EReal) (wg wu : Fin 1024 → Fin n → EReal) (wo : Fin n → Fin 1024 → EReal) (j : Fin 1024) : EReal :=
  ∑ i, act (rowDot h wg i) (rowDot h wu i) * wo i j

/-- The row after the attention's output is added. -/
def mixed (y o gt : Fin 1024 → EReal) (w : Fin 1024 → Fin 1024 → EReal) (j : Fin 1024) : EReal := y j + gt j * rowDot o w j

/-- The row after the hidden layer is added too, before the last norm. -/
def summed {n : ℕ} (x sh sc fgt : Fin 1024 → EReal) (wg wu : Fin 1024 → Fin n → EReal) (wo : Fin n → Fin 1024 → EReal)
    (j : Fin 1024) : EReal := x j + fgt j * ffn (modulated x sh sc) wg wu wo j

/-- The whole layer on one row. -/
def layer {n : ℕ} (y o gt sh sc fgt : Fin 1024 → EReal) (w : Fin 1024 → Fin 1024 → EReal) (wg wu : Fin 1024 → Fin n → EReal)
    (wo : Fin n → Fin 1024 → EReal) (gain : Fin 1024 → EReal) (j : Fin 1024) : EReal :=
  rms (summed (mixed y o gt w) sh sc fgt wg wu wo) j * gain j

/-- A hidden layer of `a + b` units is the sum of its first `a` and its last `b`. -/
theorem ffn_add {a b : ℕ} (h : Fin 1024 → EReal) (wg wu : Fin 1024 → Fin (a + b) → EReal) (wo : Fin (a + b) → Fin 1024 → EReal) (j : Fin 1024) :
    ffn h wg wu wo j = ffn h (fun k i => wg k (Fin.castAdd b i)) (fun k i => wu k (Fin.castAdd b i)) (fun i => wo (Fin.castAdd b i)) j
      + ffn h (fun k i => wg k (Fin.natAdd a i)) (fun k i => wu k (Fin.natAdd a i)) (fun i => wo (Fin.natAdd a i)) j :=
  Fin.sum_univ_add _

/-- Layers with equal entries are equal. -/
theorem ffn_congr {n : ℕ} {h h' : Fin 1024 → EReal} {wg wg' wu wu' : Fin 1024 → Fin n → EReal} {wo wo' : Fin n → Fin 1024 → EReal} (j : Fin 1024)
    (e : ∀ k, h k = h' k) (eg : ∀ k i, wg k i = wg' k i) (eu : ∀ k i, wu k i = wu' k i) (eo : ∀ i k, wo i k = wo' i k) :
    ffn h wg wu wo j = ffn h' wg' wu' wo' j := by
  obtain rfl : h = h' := funext e
  obtain rfl : wg = wg' := funext fun k => funext (eg k)
  obtain rfl : wu = wu' := funext fun k => funext (eu k)
  obtain rfl : wo = wo' := funext fun k => funext (eo k)
  rfl

end Cert.Ffn

end
-- ==== Proof.FfnKernel.lean ====
/- The blockwise layer's payloads at an index, as the row functions of the blocks it reads. -/
module

public import proofs.«01_k».proof.Proof.FfnMath
public import proofs.«01_k».proof.Proof.Gen.Kernel2Ideal.Value
public import Idealize.ShloMosaic.Lib.Pipeline.ValueKit

@[expose] public section

set_option maxRecDepth 16384

noncomputable section

namespace Cert.Kernel2Ideal.Gen

open Idealize.ShloMosaic Idealize.ShloMosaic.TcCoe Idealize.ShloMosaic.Pointwise Cert.Ffn

/-- The row after the attention's output is added. -/
theorem pay2_at (o : Vec Ideal S1x512x1024 .bf16) (w : Vec Ideal S1024x1024 .bf16) (y : Vec Ideal S1x512x1024 .f32) (gt : Vec Ideal S1x1x1024 .f32)
    (r : Fin 512) (j : Fin 1024) :
    (k0_pay2 o w y gt (ix2 r j) : EReal) =
      mixed (fun k => y (ix3 0 r k)) (fun k => o (ix3 0 r k)) (fun k => gt (ix3 0 0 k)) (fun k n => w (ix2 k n)) j := by
  unfold mixed rowDot
  pointwise [k0_pay2]

/-- The normed row, scaled and shifted. -/
theorem pay3_at (o : Vec Ideal S1x512x1024 .bf16) (w : Vec Ideal S1024x1024 .bf16) (y : Vec Ideal S1x512x1024 .f32) (gt sh sc : Vec Ideal S1x1x1024 .f32)
    (r : Fin 512) (j : Fin 1024) :
    (k0_pay3 o w y gt sh sc (ix2 r j) : EReal) =
      modulated (fun k => k0_pay2 o w y gt (ix2 r k)) (fun k => sh (ix3 0 0 k)) (fun k => sc (ix3 0 0 k)) j := by
  unfold k0_pay3
  generalize k0_pay2 o w y gt = x
  unfold modulated rms width eps
  pointwise

/-- The hidden layer in two halves. -/
theorem pay4_at (h : FVec Ideal S512x1024 .bf16) (wg wu : Vec Ideal S1024x1408 .bf16) (wo : Vec Ideal S1408x1024 .bf16)
    (wg' wu' : Vec Ideal S1024x1408 .bf16) (wo' : Vec Ideal S1408x1024 .bf16) (r : Fin 512) (j : Fin 1024) :
    (k0_pay4 h wg wu wo wg' wu' wo' (ix2 r j) : EReal) =
      ffn (fun k => h (ix2 r k)) (fun k i => wg (ix2 k i)) (fun k i => wu (ix2 k i)) (fun i n => wo (ix2 i n)) j
        + ffn (fun k => h (ix2 r k)) (fun k i => wg' (ix2 k i)) (fun k i => wu' (ix2 k i)) (fun i n => wo' (ix2 i n)) j := by
  unfold ffn act rowDot
  pointwise [k0_pay4]
  simp only [zero_sub]

/-- The last norm. -/
theorem pay1_at (x a : FVec Ideal S512x1024 .f32) (fgt : Vec Ideal S1x1x1024 .f32) (gain : Vec Ideal S1x1024 .f32) (r : Fin 512) (j : Fin 1024) :
    (k0_pay1 x a fgt gain (ix3 0 r j) : EReal) =
      rms (fun k => x (ix2 r k) + fgt (ix3 0 0 k) * a (ix2 r k)) j * gain (ix2 0 j) := by
  unfold rms width eps
  pointwise [k0_pay1]

/-- A half of the gate's columns, read from the whole. -/
theorem left_at (x : Vec Ideal S1024x2816 .bf16) (k : Fin 1024) (i : Fin 1408) :
    (View.ld x r0_3 : Vec Ideal S1024x1408 .bf16) (ix2 k i) = x (ix2 k (Fin.castAdd 1408 i)) := by
  refine View.ld_unit_apply_of x _ _ _ _ _ fun a => ?_
  match a with
  | ⟨0, _⟩ => exact (Nat.zero_add _).symm
  | ⟨1, _⟩ => exact (Nat.zero_add _).symm
theorem right_at (x : Vec Ideal S1024x2816 .bf16) (k : Fin 1024) (i : Fin 1408) :
    (View.ld x r0_5 : Vec Ideal S1024x1408 .bf16) (ix2 k i) = x (ix2 k (Fin.natAdd 1408 i)) := by
  refine View.ld_unit_apply_of x _ _ _ _ _ fun a => ?_
  match a with
  | ⟨0, _⟩ => exact (Nat.zero_add _).symm
  | ⟨1, _⟩ => rfl

/-- A half of the last matrix's rows, read from the whole. -/
theorem upper_at (x : Vec Ideal S2816x1024 .bf16) (i : Fin 1408) (n : Fin 1024) :
    (View.ld x r0_4 : Vec Ideal S1408x1024 .bf16) (ix2 i n) = x (ix2 (Fin.castAdd 1408 i) n) := by
  refine View.ld_unit_apply_of x _ _ _ _ _ fun a => ?_
  match a with
  | ⟨0, _⟩ => exact (Nat.zero_add _).symm
  | ⟨1, _⟩ => exact (Nat.zero_add _).symm
theorem lower_at (x : Vec Ideal S2816x1024 .bf16) (i : Fin 1408) (n : Fin 1024) :
    (View.ld x r0_6 : Vec Ideal S1408x1024 .bf16) (ix2 i n) = x (ix2 (Fin.natAdd 1408 i) n) := by
  refine View.ld_unit_apply_of x _ _ _ _ _ fun a => ?_
  match a with
  | ⟨0, _⟩ => rfl
  | ⟨1, _⟩ => exact (Nat.zero_add _).symm

/-- What a point leaves in the output's block is the layer on the rows of the blocks it reads. -/
theorem out_at (x0 : Vec Ideal S1x512x1024 .f32) (x1 : Vec Ideal S1x512x1024 .bf16) (x2 : Vec Ideal S1024x1024 .bf16)
    (x3 x4 x5 x6 : Vec Ideal S1x1x1024 .f32) (x7 x8 : Vec Ideal S1024x2816 .bf16) (x9 : Vec Ideal S2816x1024 .bf16) (x10 : Vec Ideal S1x1024 .f32)
    (r : Fin 512) (j : Fin 1024) :
    (out0_11 x0 x1 x2 x3 x4 x5 x6 x7 x8 x9 x10 (ix3 0 r j) : EReal) =
      layer (n := 2816) (fun k => x0 (ix3 0 r k)) (fun k => x1 (ix3 0 r k)) (fun k => x3 (ix3 0 0 k)) (fun k => x4 (ix3 0 0 k))
        (fun k => x5 (ix3 0 0 k)) (fun k => x6 (ix3 0 0 k)) (fun k n => x2 (ix2 k n)) (fun k i => x7 (ix2 k i)) (fun k i => x8 (ix2 k i))
        (fun i n => x9 (ix2 i n)) (fun k => x10 (ix2 0 k)) j := by
  unfold out0_11
  rw [View.canon_cons_unit_lit _ _ _ (by decide)]
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide), View.ld_unit_lit _ x10 (by decide), pay1_at]
  unfold layer
  refine congrArg (fun f => rms f j * (x10 (ix2 0 j) : EReal)) (funext fun k => ?_)
  unfold summed
  rw [ffn_add (a := 1408) (b := 1408), pay4_at]
  simp only [pay3_at, pay2_at]
  refine congrArg (fun z => _ + (x6 (ix3 0 0 k) : EReal) * z) (congrArg₂ (fun p q : EReal => p + q) ?_ ?_)
  · exact ffn_congr k (fun _ => rfl) (left_at x7) (left_at x8) (upper_at x9)
  · exact ffn_congr k (fun _ => rfl) (right_at x7) (right_at x8) (lower_at x9)

end Cert.Kernel2Ideal.Gen

end
-- ==== Proof.FfnBlocks.lean ====
/- The blocks the blockwise layer's windows read, in terms of the arguments. -/
module

public import proofs.«01_k».proof.Proof.FfnKernel
public import Idealize.ShloMosaic.Lib.StableHlo.RunRead

@[expose] public section

set_option maxRecDepth 16384

noncomputable section

namespace Cert.Kernel2Ideal.Value

open Cert.Kernel2Ideal Cert.Kernel2Ideal.Gen Idealize.ShloMosaic Idealize.ShloMosaic.TcCoe Idealize.ShloMosaic.Pointwise

variable (m : (ℓ : Loc nD τ sig) → Buf (Elt Ideal) ℓ)

/-- Window 0's block at a point is 512 rows of one sequence. -/
theorem index_0 : ∀ t : Fin cfg0.N, ((cfg0.win 0).index t : Fin 3 → ℕ) = ![t.val / 8, t.val % 8, 0] :=
  (by decide +kernel : ∀ t : Fin grid0.N, (win0_0.index t : Fin 3 → ℕ) = ![t.val / 8, t.val % 8, 0])

theorem block_0 (c : Dev nD) (t : Fin cfg0.N) (b : Fin 4) (p : Fin 4096) (r : Fin 512) (hb : b.val = t.val / 8) (hp : p.val = 512 * (t.val % 8) + r.val) (k : Fin 1024) :
    (iblk m c 0 t : Vec Ideal S1x512x1024 .f32) (ix3 0 r k) = (m ((c : Thread nD τ).loc main_arg0) : Vec Ideal S4x4096x1024 .f32) (ix3 b p k) := by
  have hi := index_0 t
  refine (View.read_apply ..).trans (Eq.trans ?_ (congrFun (V_main_arg0 m c) _))
  show (V m c main_arg0 : Vec Ideal S4x4096x1024 .f32) _ = _
  congr 1
  funext a
  refine Fin.ext ?_
  match a with
  | ⟨0, _⟩ => exact (congrArg (fun x => x * 1 + 1 * 0) (congrFun hi (0 : Fin 3))).trans (by show t.val / 8 * 1 + 1 * 0 = b.val; omega)
  | ⟨1, _⟩ => exact (congrArg (fun x => x * 512 + 1 * r.val) (congrFun hi (1 : Fin 3))).trans (by show t.val % 8 * 512 + 1 * r.val = p.val; omega)
  | ⟨2, _⟩ => exact (congrArg (fun x => x * 1024 + 1 * k.val) (congrFun hi (2 : Fin 3))).trans (by show 0 * 1024 + 1 * k.val = k.val; omega)

/-- Window 1's block at a point is 512 rows of one sequence. -/
theorem index_1 : ∀ t : Fin cfg0.N, ((cfg0.win 1).index t : Fin 3 → ℕ) = ![t.val / 8, t.val % 8, 0] :=
  (by decide +kernel : ∀ t : Fin grid0.N, (win0_1.index t : Fin 3 → ℕ) = ![t.val / 8, t.val % 8, 0])

theorem block_1 (c : Dev nD) (t : Fin cfg0.N) (b : Fin 4) (p : Fin 4096) (r : Fin 512) (hb : b.val = t.val / 8) (hp : p.val = 512 * (t.val % 8) + r.val) (k : Fin 1024) :
    (iblk m c 1 t : Vec Ideal S1x512x1024 .bf16) (ix3 0 r k) = (m ((c : Thread nD τ).loc main_arg1) : Vec Ideal S4x4096x1024 .bf16) (ix3 b p k) := by
  have hi := index_1 t
  refine (View.read_apply ..).trans (Eq.trans ?_ (congrFun (V_main_arg1 m c) _))
  show (V m c main_arg1 : Vec Ideal S4x4096x1024 .bf16) _ = _
  congr 1
  funext a
  refine Fin.ext ?_
  match a with
  | ⟨0, _⟩ => exact (congrArg (fun x => x * 1 + 1 * 0) (congrFun hi (0 : Fin 3))).trans (by show t.val / 8 * 1 + 1 * 0 = b.val; omega)
  | ⟨1, _⟩ => exact (congrArg (fun x => x * 512 + 1 * r.val) (congrFun hi (1 : Fin 3))).trans (by show t.val % 8 * 512 + 1 * r.val = p.val; omega)
  | ⟨2, _⟩ => exact (congrArg (fun x => x * 1024 + 1 * k.val) (congrFun hi (2 : Fin 3))).trans (by show 0 * 1024 + 1 * k.val = k.val; omega)

/-- Window 2's block is the whole array at every point. -/
theorem index_2 : ∀ t : Fin cfg0.N, ((cfg0.win 2).index t : Fin 2 → ℕ) = ![0, 0] :=
  (by decide +kernel : ∀ t : Fin grid0.N, (win0_2.index t : Fin 2 → ℕ) = ![0, 0])

theorem block_2 (c : Dev nD) (t : Fin cfg0.N) (i : Fin 1024) (k : Fin 1024) :
    (iblk m c 2 t : Vec Ideal S1024x1024 .bf16) (ix2 i k) = (V m c main_v0 : Vec Ideal S1024x1024 .bf16) (ix2 i k) := by
  have hi := index_2 t
  refine (View.read_apply ..).trans ?_
  show (V m c main_v0 : Vec Ideal S1024x1024 .bf16) _ = _
  congr 1
  funext a
  refine Fin.ext ?_
  match a with
  | ⟨0, _⟩ => exact (congrArg (fun x => x * 1024 + 1 * i.val) (congrFun hi (0 : Fin 2))).trans (by show 0 * 1024 + 1 * i.val = i.val; omega)
  | ⟨1, _⟩ => exact (congrArg (fun x => x * 1024 + 1 * k.val) (congrFun hi (1 : Fin 2))).trans (by show 0 * 1024 + 1 * k.val = k.val; omega)

/-- Window 3's block at a point is the sequence's vector. -/
theorem index_3 : ∀ t : Fin cfg0.N, ((cfg0.win 3).index t : Fin 3 → ℕ) = ![t.val / 8, 0, 0] :=
  (by decide +kernel : ∀ t : Fin grid0.N, (win0_3.index t : Fin 3 → ℕ) = ![t.val / 8, 0, 0])

theorem block_3 (c : Dev nD) (t : Fin cfg0.N) (b : Fin 4) (hb : b.val = t.val / 8) (k : Fin 1024) :
    (iblk m c 3 t : Vec Ideal S1x1x1024 .f32) (ix3 0 0 k) = (m ((c : Thread nD τ).loc main_arg2) : Vec Ideal S4x1x1024 .f32) (ix3 b 0 k) := by
  have hi := index_3 t
  refine (View.read_apply ..).trans (Eq.trans ?_ (congrFun (V_main_arg2 m c) _))
  show (V m c main_arg2 : Vec Ideal S4x1x1024 .f32) _ = _
  congr 1
  funext a
  refine Fin.ext ?_
  match a with
  | ⟨0, _⟩ => exact (congrArg (fun x => x * 1 + 1 * 0) (congrFun hi (0 : Fin 3))).trans (by show t.val / 8 * 1 + 1 * 0 = b.val; omega)
  | ⟨1, _⟩ => exact (congrArg (fun x => x * 1 + 1 * 0) (congrFun hi (1 : Fin 3))).trans (by show 0 * 1 + 1 * 0 = 0; omega)
  | ⟨2, _⟩ => exact (congrArg (fun x => x * 1024 + 1 * k.val) (congrFun hi (2 : Fin 3))).trans (by show 0 * 1024 + 1 * k.val = k.val; omega)

/-- Window 4's block at a point is the sequence's vector. -/
theorem index_4 : ∀ t : Fin cfg0.N, ((cfg0.win 4).index t : Fin 3 → ℕ) = ![t.val / 8, 0, 0] :=
  (by decide +kernel : ∀ t : Fin grid0.N, (win0_4.index t : Fin 3 → ℕ) = ![t.val / 8, 0, 0])

theorem block_4 (c : Dev nD) (t : Fin cfg0.N) (b : Fin 4) (hb : b.val = t.val / 8) (k : Fin 1024) :
    (iblk m c 4 t : Vec Ideal S1x1x1024 .f32) (ix3 0 0 k) = (m ((c : Thread nD τ).loc main_arg3) : Vec Ideal S4x1x1024 .f32) (ix3 b 0 k) := by
  have hi := index_4 t
  refine (View.read_apply ..).trans (Eq.trans ?_ (congrFun (V_main_arg3 m c) _))
  show (V m c main_arg3 : Vec Ideal S4x1x1024 .f32) _ = _
  congr 1
  funext a
  refine Fin.ext ?_
  match a with
  | ⟨0, _⟩ => exact (congrArg (fun x => x * 1 + 1 * 0) (congrFun hi (0 : Fin 3))).trans (by show t.val / 8 * 1 + 1 * 0 = b.val; omega)
  | ⟨1, _⟩ => exact (congrArg (fun x => x * 1 + 1 * 0) (congrFun hi (1 : Fin 3))).trans (by show 0 * 1 + 1 * 0 = 0; omega)
  | ⟨2, _⟩ => exact (congrArg (fun x => x * 1024 + 1 * k.val) (congrFun hi (2 : Fin 3))).trans (by show 0 * 1024 + 1 * k.val = k.val; omega)

/-- Window 5's block at a point is the sequence's vector. -/
theorem index_5 : ∀ t : Fin cfg0.N, ((cfg0.win 5).index t : Fin 3 → ℕ) = ![t.val / 8, 0, 0] :=
  (by decide +kernel : ∀ t : Fin grid0.N, (win0_5.index t : Fin 3 → ℕ) = ![t.val / 8, 0, 0])

theorem block_5 (c : Dev nD) (t : Fin cfg0.N) (b : Fin 4) (hb : b.val = t.val / 8) (k : Fin 1024) :
    (iblk m c 5 t : Vec Ideal S1x1x1024 .f32) (ix3 0 0 k) = (m ((c : Thread nD τ).loc main_arg4) : Vec Ideal S4x1x1024 .f32) (ix3 b 0 k) := by
  have hi := index_5 t
  refine (View.read_apply ..).trans (Eq.trans ?_ (congrFun (V_main_arg4 m c) _))
  show (V m c main_arg4 : Vec Ideal S4x1x1024 .f32) _ = _
  congr 1
  funext a
  refine Fin.ext ?_
  match a with
  | ⟨0, _⟩ => exact (congrArg (fun x => x * 1 + 1 * 0) (congrFun hi (0 : Fin 3))).trans (by show t.val / 8 * 1 + 1 * 0 = b.val; omega)
  | ⟨1, _⟩ => exact (congrArg (fun x => x * 1 + 1 * 0) (congrFun hi (1 : Fin 3))).trans (by show 0 * 1 + 1 * 0 = 0; omega)
  | ⟨2, _⟩ => exact (congrArg (fun x => x * 1024 + 1 * k.val) (congrFun hi (2 : Fin 3))).trans (by show 0 * 1024 + 1 * k.val = k.val; omega)

/-- Window 6's block at a point is the sequence's vector. -/
theorem index_6 : ∀ t : Fin cfg0.N, ((cfg0.win 6).index t : Fin 3 → ℕ) = ![t.val / 8, 0, 0] :=
  (by decide +kernel : ∀ t : Fin grid0.N, (win0_6.index t : Fin 3 → ℕ) = ![t.val / 8, 0, 0])

theorem block_6 (c : Dev nD) (t : Fin cfg0.N) (b : Fin 4) (hb : b.val = t.val / 8) (k : Fin 1024) :
    (iblk m c 6 t : Vec Ideal S1x1x1024 .f32) (ix3 0 0 k) = (m ((c : Thread nD τ).loc main_arg5) : Vec Ideal S4x1x1024 .f32) (ix3 b 0 k) := by
  have hi := index_6 t
  refine (View.read_apply ..).trans (Eq.trans ?_ (congrFun (V_main_arg5 m c) _))
  show (V m c main_arg5 : Vec Ideal S4x1x1024 .f32) _ = _
  congr 1
  funext a
  refine Fin.ext ?_
  match a with
  | ⟨0, _⟩ => exact (congrArg (fun x => x * 1 + 1 * 0) (congrFun hi (0 : Fin 3))).trans (by show t.val / 8 * 1 + 1 * 0 = b.val; omega)
  | ⟨1, _⟩ => exact (congrArg (fun x => x * 1 + 1 * 0) (congrFun hi (1 : Fin 3))).trans (by show 0 * 1 + 1 * 0 = 0; omega)
  | ⟨2, _⟩ => exact (congrArg (fun x => x * 1024 + 1 * k.val) (congrFun hi (2 : Fin 3))).trans (by show 0 * 1024 + 1 * k.val = k.val; omega)

/-- Window 7's block is the whole array at every point. -/
theorem index_7 : ∀ t : Fin cfg0.N, ((cfg0.win 7).index t : Fin 2 → ℕ) = ![0, 0] :=
  (by decide +kernel : ∀ t : Fin grid0.N, (win0_7.index t : Fin 2 → ℕ) = ![0, 0])

theorem block_7 (c : Dev nD) (t : Fin cfg0.N) (i : Fin 1024) (k : Fin 2816) :
    (iblk m c 7 t : Vec Ideal S1024x2816 .bf16) (ix2 i k) = (V m c main_v2 : Vec Ideal S1024x2816 .bf16) (ix2 i k) := by
  have hi := index_7 t
  refine (View.read_apply ..).trans ?_
  show (V m c main_v2 : Vec Ideal S1024x2816 .bf16) _ = _
  congr 1
  funext a
  refine Fin.ext ?_
  match a with
  | ⟨0, _⟩ => exact (congrArg (fun x => x * 1024 + 1 * i.val) (congrFun hi (0 : Fin 2))).trans (by show 0 * 1024 + 1 * i.val = i.val; omega)
  | ⟨1, _⟩ => exact (congrArg (fun x => x * 2816 + 1 * k.val) (congrFun hi (1 : Fin 2))).trans (by show 0 * 2816 + 1 * k.val = k.val; omega)

/-- Window 8's block is the whole array at every point. -/
theorem index_8 : ∀ t : Fin cfg0.N, ((cfg0.win 8).index t : Fin 2 → ℕ) = ![0, 0] :=
  (by decide +kernel : ∀ t : Fin grid0.N, (win0_8.index t : Fin 2 → ℕ) = ![0, 0])

theorem block_8 (c : Dev nD) (t : Fin cfg0.N) (i : Fin 1024) (k : Fin 2816) :
    (iblk m c 8 t : Vec Ideal S1024x2816 .bf16) (ix2 i k) = (V m c main_v4 : Vec Ideal S1024x2816 .bf16) (ix2 i k) := by
  have hi := index_8 t
  refine (View.read_apply ..).trans ?_
  show (V m c main_v4 : Vec Ideal S1024x2816 .bf16) _ = _
  congr 1
  funext a
  refine Fin.ext ?_
  match a with
  | ⟨0, _⟩ => exact (congrArg (fun x => x * 1024 + 1 * i.val) (congrFun hi (0 : Fin 2))).trans (by show 0 * 1024 + 1 * i.val = i.val; omega)
  | ⟨1, _⟩ => exact (congrArg (fun x => x * 2816 + 1 * k.val) (congrFun hi (1 : Fin 2))).trans (by show 0 * 2816 + 1 * k.val = k.val; omega)

/-- Window 9's block is the whole array at every point. -/
theorem index_9 : ∀ t : Fin cfg0.N, ((cfg0.win 9).index t : Fin 2 → ℕ) = ![0, 0] :=
  (by decide +kernel : ∀ t : Fin grid0.N, (win0_9.index t : Fin 2 → ℕ) = ![0, 0])

theorem block_9 (c : Dev nD) (t : Fin cfg0.N) (i : Fin 2816) (k : Fin 1024) :
    (iblk m c 9 t : Vec Ideal S2816x1024 .bf16) (ix2 i k) = (V m c main_v5 : Vec Ideal S2816x1024 .bf16) (ix2 i k) := by
  have hi := index_9 t
  refine (View.read_apply ..).trans ?_
  show (V m c main_v5 : Vec Ideal S2816x1024 .bf16) _ = _
  congr 1
  funext a
  refine Fin.ext ?_
  match a with
  | ⟨0, _⟩ => exact (congrArg (fun x => x * 2816 + 1 * i.val) (congrFun hi (0 : Fin 2))).trans (by show 0 * 2816 + 1 * i.val = i.val; omega)
  | ⟨1, _⟩ => exact (congrArg (fun x => x * 1024 + 1 * k.val) (congrFun hi (1 : Fin 2))).trans (by show 0 * 1024 + 1 * k.val = k.val; omega)

/-- Window 10's block is the whole array at every point. -/
theorem index_10 : ∀ t : Fin cfg0.N, ((cfg0.win 10).index t : Fin 2 → ℕ) = ![0, 0] :=
  (by decide +kernel : ∀ t : Fin grid0.N, (win0_10.index t : Fin 2 → ℕ) = ![0, 0])

theorem block_10 (c : Dev nD) (t : Fin cfg0.N) (i : Fin 1) (k : Fin 1024) :
    (iblk m c 10 t : Vec Ideal S1x1024 .f32) (ix2 i k) = (V m c main_v6 : Vec Ideal S1x1024 .f32) (ix2 i k) := by
  have hi := index_10 t
  refine (View.read_apply ..).trans ?_
  show (V m c main_v6 : Vec Ideal S1x1024 .f32) _ = _
  congr 1
  funext a
  refine Fin.ext ?_
  match a with
  | ⟨0, _⟩ => exact (congrArg (fun x => x * 1 + 1 * i.val) (congrFun hi (0 : Fin 2))).trans (by show 0 * 1 + 1 * i.val = i.val; omega)
  | ⟨1, _⟩ => exact (congrArg (fun x => x * 1024 + 1 * k.val) (congrFun hi (1 : Fin 2))).trans (by show 0 * 1024 + 1 * k.val = k.val; omega)

/-- The matrices the host hands over, at an index. -/
theorem V_v0 (c : Dev nD) (k n : Fin 1024) :
    ((V m c main_v0 : Vec Ideal S1024x1024 .bf16) (ix2 k n) : EReal) = (m ((c : Thread nD τ).loc main_arg6) : Vec Ideal S1024x1024 .f32) (ix2 k n) := by
  have h : V m c main_v0 = (truncf (F := Ideal) .bf16 (m ((c : Thread nD τ).loc main_arg6) : FVec Ideal S1024x1024 .f32) bitsLt_bf16_f32) := by
    show StableHlo.after hostOps0 _ (Proc.devRef .tc main_v0) = _
    after_reads_simp
  refine (congrFun h _).trans ?_
  pointwise

theorem V_v2 (c : Dev nD) (k : Fin 1024) (i : Fin 2816) :
    ((V m c main_v2 : Vec Ideal S1024x2816 .bf16) (ix2 k i) : EReal) = (m ((c : Thread nD τ).loc main_arg7) : Vec Ideal S1024x5632 .f32) (ix2 k (Fin.castAdd 2816 i)) := by
  have h : V m c main_v2 = (truncf (F := Ideal) .bf16 (extractStridedSlice S1024x2816 ![0, 0] (m ((c : Thread nD τ).loc main_arg7) : FVec Ideal S1024x5632 .f32) slices_S1024x5632_S1024x2816_0_0) bitsLt_bf16_f32) := by
    show StableHlo.after hostOps0 _ (Proc.devRef .tc main_v2) = _
    after_reads_simp
  refine (congrFun h _).trans ?_
  pointwise
  rfl

theorem V_v4 (c : Dev nD) (k : Fin 1024) (i : Fin 2816) :
    ((V m c main_v4 : Vec Ideal S1024x2816 .bf16) (ix2 k i) : EReal) = (m ((c : Thread nD τ).loc main_arg7) : Vec Ideal S1024x5632 .f32) (ix2 k (Fin.natAdd 2816 i)) := by
  have h : V m c main_v4 = (truncf (F := Ideal) .bf16 (extractStridedSlice S1024x2816 ![0, 2816] (m ((c : Thread nD τ).loc main_arg7) : FVec Ideal S1024x5632 .f32) slices_S1024x5632_S1024x2816_0_2816) bitsLt_bf16_f32) := by
    show StableHlo.after hostOps0 _ (Proc.devRef .tc main_v4) = _
    after_reads_simp
  refine (congrFun h _).trans ?_
  pointwise
  rfl

theorem V_v5 (c : Dev nD) (i : Fin 2816) (n : Fin 1024) :
    ((V m c main_v5 : Vec Ideal S2816x1024 .bf16) (ix2 i n) : EReal) = (m ((c : Thread nD τ).loc main_arg8) : Vec Ideal S2816x1024 .f32) (ix2 i n) := by
  have h : V m c main_v5 = (truncf (F := Ideal) .bf16 (m ((c : Thread nD τ).loc main_arg8) : FVec Ideal S2816x1024 .f32) bitsLt_bf16_f32) := by
    show StableHlo.after hostOps0 _ (Proc.devRef .tc main_v5) = _
    after_reads_simp
  refine (congrFun h _).trans ?_
  pointwise

theorem V_v6 (c : Dev nD) (k : Fin 1024) :
    ((V m c main_v6 : Vec Ideal S1x1024 .f32) (ix2 0 k) : EReal) = (m ((c : Thread nD τ).loc main_arg9) : Vec Ideal S1024 .f32) (ix1 k) := by
  have h : V m c main_v6 = shapeCast S1x1024 (m ((c : Thread nD τ).loc main_arg9) : FVec Ideal S1024 .f32) shapeCasts_S1024_S1x1024 := by
    show StableHlo.after hostOps0 _ (Proc.devRef .tc main_v6) = _
    after_reads_simp
    rfl
  refine (congrFun h _).trans ?_
  pointwise

end Cert.Kernel2Ideal.Value

end
-- ==== Proof.FfnRef.lean ====
/- The reference layer, stage by stage, at an index. -/
module

public import proofs.«01_k».proof.Proof.FfnMath
public import proofs.«01_k».proof.Proof.Gen.Reference2Ideal.Run

@[expose] public section

set_option maxRecDepth 16384

noncomputable section

namespace Cert.Reference2Ideal.Value

open Cert.Reference2Ideal Cert.Reference2Ideal.Gen Idealize.ShloMosaic Idealize.ShloMosaic.TcCoe Idealize.ShloMosaic.Pointwise Cert.Ffn

/-- The rows after the attention's output is added. -/
def mixS (y : FVec Ideal S4x4096x1024 .f32) (o : FVec Ideal S4x4096x1024 .bf16) (gt : FVec Ideal S4x1x1024 .f32) (w : FVec Ideal S1024x1024 .f32) :
    FVec Ideal S4x4096x1024 .f32 :=
  addf y (mulf (broadcastInDim S4x4096x1024 ![0, 1, 2] bcast_S4x1x1024_S4x4096x1024_0_1_2 gt)
    (Host.dotGeneral (F := Ideal) dot_S4x4096x1024_S1024x1024_S4x4096x1024_2_0_01_1_n_n none (extf .f32 o bitsLt_bf16_f32) w))

/-- The rows divided by the root of their mean squares. -/
def normS (x : FVec Ideal S4x4096x1024 .f32) : FVec Ideal S4x4096x1024 .f32 :=
  mulf x (broadcastInDim S4x4096x1024 ![0, 1, 2] bcast_S4x4096x1_S4x4096x1024_0_1_2
    (Host.rsqrt (addf (Host.divf (broadcastInDim S4x4096x1 ![0, 1] bcast_S4x4096_S4x4096x1_0_1
        (Host.reduceAdd (mulf x x) (constant S_ .f32 0x00000000#32) reducesTo_S4x4096x1024_S4x4096_d2 h_S_))
      (broadcastInDim S4x4096x1 ![] bcast_S_S4x4096x1 (constant S_ .f32 0x44800000#32)))
      (broadcastInDim S4x4096x1 ![] bcast_S_S4x4096x1 (constant S_ .f32 0x358637BD#32)))))

/-- The normed rows, scaled and shifted. -/
def modS (x : FVec Ideal S4x4096x1024 .f32) (sh sc : FVec Ideal S4x1x1024 .f32) : FVec Ideal S4x4096x1024 .f32 :=
  addf (mulf (normS x) (broadcastInDim S4x4096x1024 ![0, 1, 2] bcast_S4x1x1024_S4x4096x1024_0_1_2
      (addf (broadcastInDim S4x1x1024 ![] bcast_S_S4x1x1024 (constant S_ .f32 0x3F800000#32)) sc)))
    (broadcastInDim S4x4096x1024 ![0, 1, 2] bcast_S4x1x1024_S4x4096x1024_0_1_2 sh)

/-- The gate's half through its sigmoid, times the other half. -/
def gateS (g : FVec Ideal S4x4096x5632 .f32) : FVec Ideal S4x4096x2816 .f32 :=
  mulf (mulf (extractStridedSlice S4x4096x2816 ![0, 0, 0] g slices_S4x4096x5632_S4x4096x2816_0_0_0)
    (Host.divf (broadcastInDim S4x4096x2816 ![] bcast_S_S4x4096x2816 (constant S_ .f32 0x3F800000#32))
      (addf (broadcastInDim S4x4096x2816 ![] bcast_S_S4x4096x2816 (constant S_ .f32 0x3F800000#32))
        (Host.exp (Host.negf (extractStridedSlice S4x4096x2816 ![0, 0, 0] g slices_S4x4096x5632_S4x4096x2816_0_0_0))))))
    (extractStridedSlice S4x4096x2816 ![0, 0, 2816] g slices_S4x4096x5632_S4x4096x2816_0_0_2816)

/-- The hidden layer. -/
def ffnS (h : FVec Ideal S4x4096x1024 .f32) (wi : FVec Ideal S1024x5632 .f32) (wd : FVec Ideal S2816x1024 .f32) : FVec Ideal S4x4096x1024 .f32 :=
  Host.dotGeneral (F := Ideal) dot_S4x4096x2816_S2816x1024_S4x4096x1024_2_0_01_1_n_n none
    (gateS (Host.dotGeneral (F := Ideal) dot_S4x4096x1024_S1024x5632_S4x4096x5632_2_0_01_1_n_n none h wi)) wd

/-- The rows after the hidden layer is added. -/
def sumS (x a : FVec Ideal S4x4096x1024 .f32) (fgt : FVec Ideal S4x1x1024 .f32) : FVec Ideal S4x4096x1024 .f32 :=
  addf x (mulf (broadcastInDim S4x4096x1024 ![0, 1, 2] bcast_S4x1x1024_S4x4096x1024_0_1_2 fgt) a)

/-- The last norm's gain applied. -/
def gainS (x : FVec Ideal S4x4096x1024 .f32) (g : FVec Ideal S1024 .f32) : FVec Ideal S4x4096x1024 .f32 :=
  mulf (normS x) (broadcastInDim S4x4096x1024 ![0, 1, 2] bcast_S1x1x1024_S4x4096x1024_0_1_2 (broadcastInDim S1x1x1024 ![2] bcast_S1024_S1x1x1024_2 g))

/-- The whole layer. -/
def layerS (y : FVec Ideal S4x4096x1024 .f32) (o : FVec Ideal S4x4096x1024 .bf16) (gt sh sc fgt : FVec Ideal S4x1x1024 .f32)
    (w : FVec Ideal S1024x1024 .f32) (wi : FVec Ideal S1024x5632 .f32) (wd : FVec Ideal S2816x1024 .f32) (g : FVec Ideal S1024 .f32) :
    FVec Ideal S4x4096x1024 .f32 :=
  gainS (sumS (mixS y o gt w) (ffnS (modS (mixS y o gt w) sh sc) wi wd) fgt) g

/-- The run's result is the stages composed. -/
theorem res_eq (m : (ℓ : Loc nD τ sig) → Buf (Elt Ideal) ℓ) (c : Dev nD) :
    res_main_v42 (F := Ideal) m c = layerS (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := rfl

theorem mixS_at (y : FVec Ideal S4x4096x1024 .f32) (o : FVec Ideal S4x4096x1024 .bf16) (gt : FVec Ideal S4x1x1024 .f32) (w : FVec Ideal S1024x1024 .f32)
    (b : Fin 4) (t : Fin 4096) (j : Fin 1024) :
    (mixS y o gt w (ix3 b t j) : EReal) =
      mixed (fun k => y (ix3 b t k)) (fun k => o (ix3 b t k)) (fun k => gt (ix3 b 0 k)) (fun k n => w (ix2 k n)) j := by
  unfold mixed rowDot
  pointwise [mixS]

theorem normS_at (x : FVec Ideal S4x4096x1024 .f32) (b : Fin 4) (t : Fin 4096) (j : Fin 1024) :
    (normS x (ix3 b t j) : EReal) = rms (fun k => x (ix3 b t k)) j := by
  unfold rms width eps
  pointwise [normS]

theorem modS_at (x : FVec Ideal S4x4096x1024 .f32) (sh sc : FVec Ideal S4x1x1024 .f32) (b : Fin 4) (t : Fin 4096) (j : Fin 1024) :
    (modS x sh sc (ix3 b t j) : EReal) =
      modulated (fun k => x (ix3 b t k)) (fun k => sh (ix3 b 0 k)) (fun k => sc (ix3 b 0 k)) j := by
  unfold modulated
  rw [← normS_at, modS]
  generalize normS x = z
  pointwise

theorem gateS_at (g : FVec Ideal S4x4096x5632 .f32) (b : Fin 4) (t : Fin 4096) (i : Fin 2816) :
    (gateS g (ix3 b t i) : EReal) = act (g (ix3 b t (Fin.castAdd 2816 i))) (g (ix3 b t (Fin.natAdd 2816 i))) := by
  unfold act
  pointwise [gateS]
  rfl

theorem ffnS_at (h : FVec Ideal S4x4096x1024 .f32) (wi : FVec Ideal S1024x5632 .f32) (wd : FVec Ideal S2816x1024 .f32)
    (b : Fin 4) (t : Fin 4096) (j : Fin 1024) :
    (ffnS h wi wd (ix3 b t j) : EReal) =
      ffn (fun k => h (ix3 b t k)) (fun k (i : Fin 2816) => wi (ix2 k (Fin.castAdd 2816 i))) (fun k i => wi (ix2 k (Fin.natAdd 2816 i)))
        (fun i n => wd (ix2 i n)) j := by
  unfold ffn rowDot
  pointwise [ffnS]
  refine Finset.sum_congr rfl fun i _ => ?_
  rw [gateS_at]
  pointwise

theorem sumS_at (x a : FVec Ideal S4x4096x1024 .f32) (fgt : FVec Ideal S4x1x1024 .f32) (b : Fin 4) (t : Fin 4096) (j : Fin 1024) :
    (sumS x a fgt (ix3 b t j) : EReal) = x (ix3 b t j) + fgt (ix3 b 0 j) * a (ix3 b t j) := by
  pointwise [sumS]

theorem gainS_at (x : FVec Ideal S4x4096x1024 .f32) (g : FVec Ideal S1024 .f32) (b : Fin 4) (t : Fin 4096) (j : Fin 1024) :
    (gainS x g (ix3 b t j) : EReal) = rms (fun k => x (ix3 b t k)) j * g (ix1 j) := by
  rw [← normS_at, gainS]
  generalize normS x = z
  pointwise

/-- The reference at an index is the layer on that row. -/
theorem layerS_at (y : FVec Ideal S4x4096x1024 .f32) (o : FVec Ideal S4x4096x1024 .bf16) (gt sh sc fgt : FVec Ideal S4x1x1024 .f32)
    (w : FVec Ideal S1024x1024 .f32) (wi : FVec Ideal S1024x5632 .f32) (wd : FVec Ideal S2816x1024 .f32) (g : FVec Ideal S1024 .f32)
    (b : Fin 4) (t : Fin 4096) (j : Fin 1024) :
    (layerS y o gt sh sc fgt w wi wd g (ix3 b t j) : EReal) =
      layer (fun k => y (ix3 b t k)) (fun k => o (ix3 b t k)) (fun k => gt (ix3 b 0 k)) (fun k => sh (ix3 b 0 k)) (fun k => sc (ix3 b 0 k))
        (fun k => fgt (ix3 b 0 k)) (fun k n => w (ix2 k n)) (fun k (i : Fin 2816) => wi (ix2 k (Fin.castAdd 2816 i)))
        (fun k i => wi (ix2 k (Fin.natAdd 2816 i))) (fun i n => wd (ix2 i n)) (fun k => g (ix1 k)) j := by
  unfold layerS layer summed
  simp only [gainS_at, sumS_at, ffnS_at, modS_at, mixS_at]

end Cert.Reference2Ideal.Value

end
-- ==== Proof.FfnEqual.lean ====
/- The blockwise layer's result, and that it is the reference's. -/
module

public import proofs.«01_k».proof.Defs
public import proofs.«01_k».proof.Proof.FfnBlocks
public import proofs.«01_k».proof.Proof.FfnRef
public import proofs.«01_k».proof.Proof.Gen.Kernel2.Frame
public import Idealize.ShloMosaic.Adequacy
public import Idealize.ShloMosaic.Init

@[expose] public section

set_option maxRecDepth 16384

noncomputable section

namespace Cert.Kernel2Ideal.Value

open Cert.Kernel2Ideal Cert.Kernel2Ideal.Gen Idealize.ShloMosaic Idealize.ShloMosaic.TcCoe Idealize.ShloMosaic.Pointwise Idealize.SL.Sem Cert.Ffn

variable (m : (ℓ : Loc nD τ sig) → Buf (Elt Ideal) ℓ) (ρ : Dev nD → PrngReg)

/-- The layer on token `p` of sequence `b`. -/
def entry (c : Dev nD) (b : Fin 4) (p : Fin 4096) (j : Fin 1024) : EReal :=
  layer (n := 2816) (fun k => (m ((c : Thread nD τ).loc main_arg0) : Vec Ideal S4x4096x1024 .f32) (ix3 b p k))
    (fun k => (m ((c : Thread nD τ).loc main_arg1) : Vec Ideal S4x4096x1024 .bf16) (ix3 b p k))
    (fun k => (m ((c : Thread nD τ).loc main_arg2) : Vec Ideal S4x1x1024 .f32) (ix3 b 0 k))
    (fun k => (m ((c : Thread nD τ).loc main_arg3) : Vec Ideal S4x1x1024 .f32) (ix3 b 0 k))
    (fun k => (m ((c : Thread nD τ).loc main_arg4) : Vec Ideal S4x1x1024 .f32) (ix3 b 0 k))
    (fun k => (m ((c : Thread nD τ).loc main_arg5) : Vec Ideal S4x1x1024 .f32) (ix3 b 0 k))
    (fun k n => (m ((c : Thread nD τ).loc main_arg6) : Vec Ideal S1024x1024 .f32) (ix2 k n))
    (fun k i => (m ((c : Thread nD τ).loc main_arg7) : Vec Ideal S1024x5632 .f32) (ix2 k (Fin.castAdd 2816 i)))
    (fun k i => (m ((c : Thread nD τ).loc main_arg7) : Vec Ideal S1024x5632 .f32) (ix2 k (Fin.natAdd 2816 i)))
    (fun i n => (m ((c : Thread nD τ).loc main_arg8) : Vec Ideal S2816x1024 .f32) (ix2 i n))
    (fun k => (m ((c : Thread nD τ).loc main_arg9) : Vec Ideal S1024 .f32) (ix1 k)) j

/-- The whole result. -/
def result (c : Dev nD) : Vec Ideal S4x4096x1024 .f32 := fun i => entry m c (i 0) (i 1) (i 2)

/-- Layers of equal rows and matrices are equal. -/
theorem layer_congr {n : ℕ} {y y' o o' gt gt' sh sh' sc sc' fgt fgt' gain gain' : Fin 1024 → EReal} {w w' : Fin 1024 → Fin 1024 → EReal}
    {wg wg' wu wu' : Fin 1024 → Fin n → EReal} {wo wo' : Fin n → Fin 1024 → EReal} (j : Fin 1024)
    (ey : ∀ k, y k = y' k) (eo : ∀ k, o k = o' k) (egt : ∀ k, gt k = gt' k) (esh : ∀ k, sh k = sh' k) (esc : ∀ k, sc k = sc' k)
    (ef : ∀ k, fgt k = fgt' k) (ew : ∀ k i, w k i = w' k i) (eg : ∀ k i, wg k i = wg' k i) (eu : ∀ k i, wu k i = wu' k i)
    (ewo : ∀ i k, wo i k = wo' i k) (egn : ∀ k, gain k = gain' k) :
    layer y o gt sh sc fgt w wg wu wo gain j = layer y' o' gt' sh' sc' fgt' w' wg' wu' wo' gain' j := by
  obtain rfl : y = y' := funext ey
  obtain rfl : o = o' := funext eo
  obtain rfl : gt = gt' := funext egt
  obtain rfl : sh = sh' := funext esh
  obtain rfl : sc = sc' := funext esc
  obtain rfl : fgt = fgt' := funext ef
  obtain rfl : gain = gain' := funext egn
  obtain rfl : w = w' := funext fun k => funext (ew k)
  obtain rfl : wg = wg' := funext fun k => funext (eg k)
  obtain rfl : wu = wu' := funext fun k => funext (eu k)
  obtain rfl : wo = wo' := funext fun k => funext (ewo k)
  rfl

/-- What a point leaves in its block is the layer on its tokens. -/
theorem point_at (c : Dev nD) (t : Fin cfg0.N) (b : Fin 4) (p : Fin 4096) (r : Fin 512) (hb : b.val = t.val / 8) (hp : p.val = 512 * (t.val % 8) + r.val)
    (j : Fin 1024) :
    (out0_11 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (ix3 0 r j) : EReal) = entry m c b p j :=
  (out_at _ _ _ _ _ _ _ _ _ _ _ r j).trans (layer_congr j (block_0 m c t b p r hb hp) (block_1 m c t b p r hb hp) (block_3 m c t b hb)
    (block_4 m c t b hb) (block_5 m c t b hb) (block_6 m c t b hb) (fun k n => (block_2 m c t k n).trans (V_v0 m c k n))
    (fun k i => (block_7 m c t k i).trans (V_v2 m c k i)) (fun k i => (block_8 m c t k i).trans (V_v4 m c k i))
    (fun i n => (block_9 m c t i n).trans (V_v5 m c i n)) (fun k => (block_10 m c t 0 k).trans (V_v6 m c k)))

theorem index_11 : ∀ t : Fin cfg0.N, ((cfg0.win 11).index t : Fin 3 → ℕ) = ![t.val / 8, t.val % 8, 0] :=
  (by decide +kernel : ∀ t : Fin grid0.N, (win0_11.index t : Fin 3 → ℕ) = ![t.val / 8, t.val % 8, 0])

theorem points : cfg0.N = 32 := (by decide +kernel : grid0.N = 32)

/-- What a point writes back is the result's block. -/
theorem flushed_eq (c : Dev nD) (t : Fin cfg0.N) :
    (dats m 0 c).flushed 11 t = ((cfg0.win 11).blk t).view.read (Elt Ideal) (result m c) := by
  have hN : t.val < 32 := Nat.lt_of_lt_of_eq t.isLt points
  have hi := index_11 t
  refine (flushed11 m c t).trans ?_
  funext jj
  refine Eq.trans ?_ (View.read_apply ..).symm
  change S1x512x1024.Idx at jj
  have h0 : (jj 0).val = 0 := Nat.lt_one_iff.mp (show (jj 0).val < 1 from (jj 0).isLt)
  have h1 : (jj 1).val < 512 := (jj 1).isLt
  have e : jj = ix3 0 (jj 1) (jj 2) := by
    funext a
    match a with
    | ⟨0, _⟩ => exact Fin.ext h0
    | ⟨1, _⟩ => rfl
    | ⟨2, _⟩ => rfl
  refine Eq.trans (b := (out0_11 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (ix3 0 (jj 1) (jj 2)) : EReal)) ?_ ((point_at m c t ⟨t.val / 8, by omega⟩ ⟨512 * (t.val % 8) + (jj 1).val, by omega⟩ (jj 1) rfl rfl (jj 2)).trans ?_)
  · exact congrArg (out0_11 (iblk m c 0 t) (iblk m c 1 t) (iblk m c 2 t) (iblk m c 3 t) (iblk m c 4 t) (iblk m c 5 t) (iblk m c 6 t) (iblk m c 7 t) (iblk m c 8 t)
      (iblk m c 9 t) (iblk m c 10 t)) e
  · show _ = entry m c _ _ _
    congr 1
    · exact Fin.ext (((congrArg (fun x => x * 1 + 1 * (jj 0).val) (congrFun hi (0 : Fin 3))).trans (by show t.val / 8 * 1 + 1 * (jj 0).val = t.val / 8; omega)).symm)
    · exact Fin.ext (((congrArg (fun x => x * 512 + 1 * (jj 1).val) (congrFun hi (1 : Fin 3))).trans (by show t.val % 8 * 512 + 1 * (jj 1).val = 512 * (t.val % 8) + (jj 1).val; omega)).symm)
    · exact Fin.ext (((congrArg (fun x => x * 1024 + 1 * (jj 2).val) (congrFun hi (2 : Fin 3))).trans (by show 0 * 1024 + 1 * (jj 2).val = (jj 2).val; omega)).symm)

/-- The blocks cover the result. -/
theorem cover (i : S4x4096x1024.Idx) : ∃ t : Fin cfg0.N, (cfg0.win 11).flush t = true ∧ i ∈ ((cfg0.win 11).blk t).view.set := by
  have i0 : (i 0 : Nat) < 4 := (i 0).isLt
  have i1 : (i 1 : Nat) < 4096 := (i 1).isLt
  have i2 : (i 2 : Nat) < 1024 := (i 2).isLt
  have hn : 8 * (i 0).val + (i 1).val / 512 < cfg0.N := Nat.lt_of_lt_of_eq (by omega) points.symm
  have hi := index_11 ⟨8 * (i 0).val + (i 1).val / 512, hn⟩
  refine ⟨⟨8 * (i 0).val + (i 1).val / 512, hn⟩, flush0_11 _, ?_⟩
  show i ∈ ((View.whole main_v7).slice ((cfg0.win 11).rect ⟨8 * (i 0).val + (i 1).val / 512, hn⟩)).set
  refine (Iff.of_eq (congrArg (i ∈ ·) (View.set_slice_whole _ _))).mpr ?_
  refine Rect.mem_set_unit.mpr fun a => ?_
  match a with
  | ⟨0, _⟩ => exact (by rw [congrFun hi (0 : Fin 3)]; show (8 * (i 0).val + (i 1).val / 512) / 8 * 1 ≤ (i 0).val ∧ (i 0).val < (8 * (i 0).val + (i 1).val / 512) / 8 * 1 + 1; omega :
      (cfg0.win 11).index ⟨8 * (i 0).val + (i 1).val / 512, hn⟩ (0 : Fin 3) * 1 ≤ (i 0 : Nat) ∧ (i 0 : Nat) < (cfg0.win 11).index ⟨8 * (i 0).val + (i 1).val / 512, hn⟩ (0 : Fin 3) * 1 + 1)
  | ⟨1, _⟩ => exact (by rw [congrFun hi (1 : Fin 3)]; show (8 * (i 0).val + (i 1).val / 512) % 8 * 512 ≤ (i 1).val ∧ (i 1).val < (8 * (i 0).val + (i 1).val / 512) % 8 * 512 + 512; omega :
      (cfg0.win 11).index ⟨8 * (i 0).val + (i 1).val / 512, hn⟩ (1 : Fin 3) * 512 ≤ (i 1 : Nat) ∧ (i 1 : Nat) < (cfg0.win 11).index ⟨8 * (i 0).val + (i 1).val / 512, hn⟩ (1 : Fin 3) * 512 + 512)
  | ⟨2, _⟩ => exact (by rw [congrFun hi (2 : Fin 3)]; show 0 * 1024 ≤ (i 2).val ∧ (i 2).val < 0 * 1024 + 1024; omega :
      (cfg0.win 11).index ⟨8 * (i 0).val + (i 1).val / 512, hn⟩ (2 : Fin 3) * 1024 ≤ (i 2 : Nat) ∧ (i 2 : Nat) < (cfg0.win 11).index ⟨8 * (i 0).val + (i 1).val / 512, hn⟩ (2 : Fin 3) * 1024 + 1024)

/-- The result array ends holding the layer of every token. -/
theorem final_o (c : Dev nD) : (dats m 0 c).arrAt 11 cfg0.N = result m c :=
  (dats m 0 c).arrAt_eq_of_cover 11 (result m c) (fun t _ => flushed_eq m c t) cover

end Cert.Kernel2Ideal.Value

namespace Cert.Proof

open Idealize.ShloMosaic Idealize.SL.Sem Idealize.ShloMosaic.Pointwise

/-- The blockwise layer runs; its arguments and the counters end as they began. -/
theorem frame_kernel2 : Cert.quiescent_Kernel2 := fun m ρ _ => Cert.Kernel2.Gen.frame m ρ

/-- So it does over the extended reals. -/
theorem frame_ideal2 : Cert.quiescent_Kernel2Ideal := fun m ρ _ => Cert.Kernel2Ideal.Gen.frame m ρ

/-- The reference runs, its arguments unchanged; it has no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The layer and its reference end with the same result. -/
theorem algebraic2 : Cert.algebraic_Kernel2Ideal_Reference2Ideal := fun m g m' g' _ hm => by
  refine ⟨fun c => Cert.Kernel2Ideal.Value.result m c, ?_, ?_⟩
  · exact (θ_run Cert.Kernel2Ideal.defs _ _).mono (fun r hr c => ⟨(hr c).1.trans (Cert.Kernel2Ideal.Value.final_o m c), (hr c).2⟩)
      (Cert.Kernel2Ideal.Value.run_blocks m g)
  · refine (θ_run Cert.Reference2Ideal.defs _ _).mono (fun r hr c => ⟨(hr c).1.trans ?_, (hr c).2⟩) (Cert.Reference2Ideal.Value.run (F := Ideal) m' g')
    obtain ⟨h0, h1, h2, h3, h4, h5, h6, h7, h8, h9⟩ := hm c
    refine (Cert.Reference2Ideal.Value.res_eq m' c).trans (funext fun i => ?_)
    have ei : i = ix3 (i 0) (i 1) (i 2) := by
      funext a
      match a with
      | ⟨0, _⟩ => rfl
      | ⟨1, _⟩ => rfl
      | ⟨2, _⟩ => rfl
    rw [ei]
    refine (Cert.Reference2Ideal.Value.layerS_at _ _ _ _ _ _ _ _ _ _ (i 0) (i 1) (i 2)).trans ?_
    exact Cert.Kernel2Ideal.Value.layer_congr (i 2) (fun k => congrFun h0 _) (fun k => congrFun h1 _) (fun k => congrFun h2 _) (fun k => congrFun h3 _)
      (fun k => congrFun h4 _) (fun k => congrFun h5 _) (fun k n => congrFun h6 _) (fun k n => congrFun h7 _) (fun k n => congrFun h7 _)
      (fun k n => congrFun h8 _) (fun k => congrFun h9 _)

end Cert.Proof

end
-- ==== Proof.MixMath.lean ====
/- One row of the layer whose attention comes in two parts, the second a gated sum of three branches. -/
module

public import proofs.«01_k».proof.Proof.FfnMath

@[expose] public section

noncomputable section

open Idealize.ShloMosaic
open scoped BigOperators

namespace Cert.Ffn

/-- The lane that holds branch `br`'s gate of head `h`. -/
def lane (h : Fin 8) (br : Fin 3) : Fin 128 := ⟨32 + 3 * h.val + br.val, by omega⟩

/-- The head of a column. -/
def head (j : Fin 512) : Fin 8 := ⟨j.val / 64, by omega⟩

/-- The three branches, each times its head's gate, added. -/
def gatedSum (g : Fin 128 → EReal) (a b c : Fin 512 → EReal) (j : Fin 512) : EReal :=
  g (lane (head j) 0) * a j + g (lane (head j) 1) * b j + g (lane (head j) 2) * c j

/-- Two halves of a row, one after the other. -/
def joined (a b : Fin 512 → EReal) : Fin 1024 → EReal := Fin.append a b

theorem joined_left (a b : Fin 512 → EReal) (j : Fin 512) : joined a b (Fin.castAdd 512 j) = a j := Fin.append_left a b j

theorem joined_right (a b : Fin 512 → EReal) (j : Fin 512) : joined a b (Fin.natAdd 512 j) = b j := Fin.append_right a b j

/-- The layer on one row, from the two parts of its attention. -/
def mixLayer {n : ℕ} (o a b c : Fin 512 → EReal) (x : Fin 1024 → EReal) (g : Fin 128 → EReal) (gt sh sc fgt : Fin 1024 → EReal)
    (w : Fin 1024 → Fin 1024 → EReal) (wg wu : Fin 1024 → Fin n → EReal) (wo : Fin n → Fin 1024 → EReal) (j : Fin 1024) : EReal :=
  summed (mixed x (joined o (gatedSum g a b c)) gt w) sh sc fgt wg wu wo j

/-- A joined row times a matrix is the first half times the first rows and the second half times the last rows. -/
theorem rowDot_joined (a b : Fin 512 → EReal) (w : Fin 1024 → Fin 1024 → EReal) (j : Fin 1024) :
    rowDot (joined a b) w j = rowDot a (fun i => w (Fin.castAdd 512 i)) j + rowDot b (fun i => w (Fin.natAdd 512 i)) j := by
  refine (Fin.sum_univ_add (a := 512) (b := 512) (fun i => joined a b i * w i j)).trans ?_
  unfold rowDot joined
  simp only [Fin.append_left, Fin.append_right]

/-- A real number's rounded value and its remainder, both spread by a row of zeros with a single one, add up to the number. -/
theorem picked (g e : Fin 128 → EReal) (l : Fin 128) (he : ∀ k, e k = if k = l then 1 else 0) (hr : ∃ r : ℝ, g l = r) :
    (∑ k, g k * e k) + (∑ k, (g k - g k) * e k) = g l := by
  obtain ⟨r, hr⟩ := hr
  simp only [he, mul_ite, mul_one, mul_zero, Finset.sum_ite_eq', Finset.mem_univ, if_true]
  rw [hr, ← EReal.coe_sub, sub_self, EReal.coe_zero, add_zero]

end Cert.Ffn

end
-- ==== Proof.MixFrame.lean ====
/- The launch of layer 0's end: the proof data, the body, the run, and that the arguments end unchanged. The text is the launch kit's own. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.StableHlo.RunRead
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A device's buffers when the region is entered. -/
abbrev V (c : Dev nD) (b : Ref sig .tc) : Buf (Elt F) ((c : Thread nD τ).loc b) := StableHlo.after hostOps0 (fun b => m (c, b)) b

/-- No host operation takes a fresh buffer. -/
theorem hostOps0_fresh : (hostOps0 : List (HloOp τ sig (Elt F))).Forall fun op => op.fresh = ∅ := by
  simp only [List.Forall]; repeat' constructor

set_option maxHeartbeats 800000 in
/-- The host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- What the host operations write, in order. -/
def written : List (Ref sig .tc) :=
  [main_v0, main_cst, main_v1, main_c, main_v2, main_v3, main_c_0, main_v4, main_v5, main_c_1, main_v6, main_v7, main_c_2, main_v8, main_v9,
   main_c_3, main_v10, main_v11, main_v12, main_c_4, main_v13, main_v14, main_c_5, main_v15, main_v16, main_v17, main_v18, main_v19, main_v20,
   main_cst_6, main_v21, main_v22, main_v23, main_cst_7, main_v24, main_c_8, main_v25, main_v26, main_c_9, main_v27, main_v28, main_c_10,
   main_v29, main_v30, main_c_11, main_v31, main_v32, main_c_12, main_v33, main_v34, main_v35, main_c_13, main_v36, main_v37, main_c_14,
   main_v38, main_v39, main_v40, main_v41, main_v42, main_v43, main_cst_15, main_v44, main_v45, main_v46, main_cst_16, main_v47, main_c_17,
   main_v48, main_v49, main_c_18, main_v50, main_v51, main_c_19, main_v52, main_v53, main_c_20, main_v54, main_v55, main_c_21, main_v56,
   main_v57, main_v58, main_c_22, main_v59, main_v60, main_c_23, main_v61, main_v62, main_v63, main_v64, main_v65, main_v66, main_cst_24,
   main_v67, main_v68, main_v69, main_v70, main_v71, main_v72, main_v73, main_v74, main_v75, main_v76, main_v77, main_v78, main_v79, main_v80]

/-- An array no host operation writes is as launched when the region is entered. -/
theorem V_kept (c : Dev nD) (r : Ref sig .tc) (hr : r ∉ written) : V m c r = m ((c : Thread nD τ).loc r) :=
  StableHlo.after_unwritten (ops := hostOps0) written rfl hr _

theorem V_main_arg0 (c : Dev nD) : V m c main_arg0 = m ((c : Thread nD τ).loc main_arg0) := V_kept m c _ (by decide)
theorem V_main_arg1 (c : Dev nD) : V m c main_arg1 = m ((c : Thread nD τ).loc main_arg1) := V_kept m c _ (by decide)
theorem V_main_arg2 (c : Dev nD) : V m c main_arg2 = m ((c : Thread nD τ).loc main_arg2) := V_kept m c _ (by decide)
theorem V_main_arg3 (c : Dev nD) : V m c main_arg3 = m ((c : Thread nD τ).loc main_arg3) := V_kept m c _ (by decide)
theorem V_main_arg4 (c : Dev nD) : V m c main_arg4 = m ((c : Thread nD τ).loc main_arg4) := V_kept m c _ (by decide)
theorem V_main_arg5 (c : Dev nD) : V m c main_arg5 = m ((c : Thread nD τ).loc main_arg5) := V_kept m c _ (by decide)
theorem V_main_arg6 (c : Dev nD) : V m c main_arg6 = m ((c : Thread nD τ).loc main_arg6) := V_kept m c _ (by decide)
theorem V_main_arg7 (c : Dev nD) : V m c main_arg7 = m ((c : Thread nD τ).loc main_arg7) := V_kept m c _ (by decide)
theorem V_main_arg8 (c : Dev nD) : V m c main_arg8 = m ((c : Thread nD τ).loc main_arg8) := V_kept m c _ (by decide)
theorem V_main_arg9 (c : Dev nD) : V m c main_arg9 = m ((c : Thread nD τ).loc main_arg9) := V_kept m c _ (by decide)
theorem V_main_arg10 (c : Dev nD) : V m c main_arg10 = m ((c : Thread nD τ).loc main_arg10) := V_kept m c _ (by decide)
theorem V_main_arg11 (c : Dev nD) : V m c main_arg11 = m ((c : Thread nD τ).loc main_arg11) := V_kept m c _ (by decide)
theorem V_main_arg12 (c : Dev nD) : V m c main_arg12 = m ((c : Thread nD τ).loc main_arg12) := V_kept m c _ (by decide)

/-- A window's block at a point, of its array when the region is entered. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev r0_0 : Rect S1x512x128 := Rect.unit (s := S1x512x128) ![0, 0, 0] S1x512x128.size inb_S1x512x128_S1x512x128_0_0_0
abbrev r0_1 : Rect S3x128x512 := Rect.unit (s := S3x128x512) ![0, 0, 0] S1x128x512.size inb_S3x128x512_S1x128x512_0_0_0
abbrev r0_2 : Rect S1x512x512 := Rect.unit (s := S1x512x512) ![0, 0, 0] S1x512x512.size inb_S1x512x512_S1x512x512_0_0_0
abbrev r0_3 : Rect S3x128x512 := Rect.unit (s := S3x128x512) ![1, 0, 0] S1x128x512.size inb_S3x128x512_S1x128x512_1_0_0
abbrev r0_4 : Rect S3x128x512 := Rect.unit (s := S3x128x512) ![2, 0, 0] S1x128x512.size inb_S3x128x512_S1x128x512_2_0_0
abbrev r0_5 : Rect S1024x1024 := Rect.unit (s := S1024x1024) ![0, 0] S512x1024.size inb_S1024x1024_S512x1024_0_0
abbrev r0_6 : Rect S1024x1024 := Rect.unit (s := S1024x1024) ![512, 0] S512x1024.size inb_S1024x1024_S512x1024_512_0
abbrev r0_7 : Rect S1x512x1024 := Rect.unit (s := S1x512x1024) ![0, 0, 0] S1x512x1024.size inb_S1x512x1024_S1x512x1024_0_0_0
abbrev r0_8 : Rect S1x1x1024 := Rect.unit (s := S1x1x1024) ![0, 0, 0] S1x1x1024.size inb_S1x1x1024_S1x1x1024_0_0_0
abbrev r0_9 : Rect S1024x2816 := Rect.unit (s := S1024x2816) ![0, 0] S1024x1408.size inb_S1024x2816_S1024x1408_0_0
abbrev r0_10 : Rect S2816x1024 := Rect.unit (s := S2816x1024) ![0, 0] S1408x1024.size inb_S2816x1024_S1408x1024_0_0
abbrev r0_11 : Rect S1024x2816 := Rect.unit (s := S1024x2816) ![0, 1408] S1024x1408.size inb_S1024x2816_S1024x1408_0_1408
abbrev r0_12 : Rect S2816x1024 := Rect.unit (s := S2816x1024) ![1408, 0] S1408x1024.size inb_S2816x1024_S1408x1024_1408_0

/-- The row after the attention is added, and the shift, as the body names them. -/
def k0_pay11 (x0 : Vec F S1x512x1024 .f32) (x1 : Vec F S1x512x512 .bf16) (x2 : Vec F S1x512x512 .bf16) (x3 : Vec F S1x512x512 .bf16) (x4 : Vec F S1x512x512 .bf16) (x5 : Vec F S1x512x128 .f32) (x6 : Vec F S3x128x512 .bf16) (x7 : Vec F S1024x1024 .bf16) (x8 : Vec F S1x1x1024 .f32) (x9 : Vec F S1x1x1024 .f32) (x10 : Vec F S1x1x1024 .f32) (x11 : Vec F S1x1x1024 .f32) (x12 : Vec F S1024x2816 .bf16) (x13 : Vec F S1024x2816 .bf16) (x14 : Vec F S2816x1024 .bf16) : FVec F S512x1024 .f32 :=
  k0_pay6 (k0_pay3 (View.ld x5 r0_0)) (k0_pay4 (View.ld x5 r0_0)) (k0_pay5 (View.ld x5 r0_0) (View.ld x6 r0_1) (View.ld x6 r0_1) (View.ld x2 r0_2) (View.ld x6 r0_3) (View.ld x6 r0_3) (View.ld x3 r0_2)) (View.ld x6 r0_4) (View.ld x6 r0_4) (View.ld x4 r0_2) (View.ld x1 r0_2) (View.ld x7 r0_5) (View.ld x7 r0_6) (View.ld x0 r0_7) (View.ld x8 r0_8) -- `v57`
def k0_pay12 (x0 : Vec F S1x512x1024 .f32) (x1 : Vec F S1x512x512 .bf16) (x2 : Vec F S1x512x512 .bf16) (x3 : Vec F S1x512x512 .bf16) (x4 : Vec F S1x512x512 .bf16) (x5 : Vec F S1x512x128 .f32) (x6 : Vec F S3x128x512 .bf16) (x7 : Vec F S1024x1024 .bf16) (x8 : Vec F S1x1x1024 .f32) (x9 : Vec F S1x1x1024 .f32) (x10 : Vec F S1x1x1024 .f32) (x11 : Vec F S1x1x1024 .f32) (x12 : Vec F S1024x2816 .bf16) (x13 : Vec F S1024x2816 .bf16) (x14 : Vec F S2816x1024 .bf16) : FVec F S1x1024 .f32 :=
  k0_pay7 (View.ld x9 r0_8) -- `v59`

/-- What the body leaves in the output's buffer. -/
def out0_15 (x0 : Vec F S1x512x1024 .f32) (x1 : Vec F S1x512x512 .bf16) (x2 : Vec F S1x512x512 .bf16) (x3 : Vec F S1x512x512 .bf16) (x4 : Vec F S1x512x512 .bf16) (x5 : Vec F S1x512x128 .f32) (x6 : Vec F S3x128x512 .bf16) (x7 : Vec F S1024x1024 .bf16) (x8 : Vec F S1x1x1024 .f32) (x9 : Vec F S1x1x1024 .f32) (x10 : Vec F S1x1x1024 .f32) (x11 : Vec F S1x1x1024 .f32) (x12 : Vec F S1024x2816 .bf16) (x13 : Vec F S1024x2816 .bf16) (x14 : Vec F S2816x1024 .bf16) : Vec F S1x512x1024 .f32 :=
  View.canon [⟨r0_7, k0_pay1 (k0_pay11 x0 x1 x2 x3 x4 x5 x6 x7 x8 x9 x10 x11 x12 x13 x14) (k0_pay8 (k0_pay11 x0 x1 x2 x3 x4 x5 x6 x7 x8 x9 x10 x11 x12 x13 x14) (k0_pay12 x0 x1 x2 x3 x4 x5 x6 x7 x8 x9 x10 x11 x12 x13 x14) (View.ld x10 r0_8)) (k0_pay9 (k0_pay11 x0 x1 x2 x3 x4 x5 x6 x7 x8 x9 x10 x11 x12 x13 x14) (k0_pay12 x0 x1 x2 x3 x4 x5 x6 x7 x8 x9 x10 x11 x12 x13 x14) (View.ld x10 r0_8) (View.ld x12 r0_9) (View.ld x13 r0_9) (View.ld x14 r0_10)) (k0_pay10 (k0_pay11 x0 x1 x2 x3 x4 x5 x6 x7 x8 x9 x10 x11 x12 x13 x14) (k0_pay12 x0 x1 x2 x3 x4 x5 x6 x7 x8 x9 x10 x11 x12 x13 x14) (View.ld x10 r0_8) (View.ld x12 r0_11)) (View.ld x13 r0_11) (View.ld x14 r0_12) (View.ld x11 r0_8)⟩]

/-- Its one store covers the buffer. -/
theorem cover0_15 (p0 : Vec F S1x512x1024 .f32) (y : S1x512x1024.Idx) :
    ∃ pc ∈ ([⟨r0_7, p0⟩] : List (View.Piece (Elt F) S1x512x1024 .f32)), y ∈ pc.1.set :=
  View.cover_of_tiled [⟨r0_7, p0⟩] S1x512x1024.size (by rfl) y

set_option maxHeartbeats 1000000 in
/-- The body on its buffers: it leaves the inputs as they were. -/
theorem sound_kernel (c : Dev nD) (E : Set ℕ) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x128 .f32) (harg7 : arg7.IsWhole) (arg8 : Memref sig .tc .vmem S3x128x512 .bf16) (harg8 : arg8.IsWhole) (arg9 : Memref sig .tc .vmem S1024x1024 .bf16) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1024x2816 .bf16) (harg14 : arg14.IsWhole) (arg15 : Memref sig .tc .vmem S1024x2816 .bf16) (harg15 : arg15.IsWhole) (arg16 : Memref sig .tc .vmem S2816x1024 .bf16) (harg16 : arg16.IsWhole) (arg17 : Memref sig .tc .vmem S1x512x1024 .f32) (harg17 : arg17.IsWhole)
    (x0 : Vec F S1x512x1024 .f32) (x1 : Vec F S1x512x512 .bf16) (x2 : Vec F S1x512x512 .bf16) (x3 : Vec F S1x512x512 .bf16) (x4 : Vec F S1x512x512 .bf16) (x5 : Vec F S1x512x128 .f32) (x6 : Vec F S3x128x512 .bf16) (x7 : Vec F S1024x1024 .bf16) (x8 : Vec F S1x1x1024 .f32) (x9 : Vec F S1x1x1024 .f32) (x10 : Vec F S1x1x1024 .f32) (x11 : Vec F S1x1x1024 .f32) (x12 : Vec F S1024x2816 .bf16) (x13 : Vec F S1024x2816 .bf16) (x14 : Vec F S2816x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare (out0_15 x0 x1 x2 x3 x4 x5 x6 x7 x8 x9 x10 x11 x12 x13 x14)) -∗ K ⟨⟩))
      ⊢ wp frame (wpE (defs₀ (F := F)) Variants.none c none) E (cc0_out_ffn_ab_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_out_ffn_ab_prompt_eq_skeleton]; unfold cc0_out_ffn_ab_prompt_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  refine (View.read_writes_eq_canon _ _ _ (cover0_15 _)).trans ?_
  rfl

/-- The proof data: an input window keeps its block, the output window gets what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- After the body an input's buffer holds its block still, and the output's what the body leaves. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

/-- Before the body an input's buffer holds its block. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)

/-- What the body needs at a point, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch, with the counters. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with the arrays at what the points wrote back. -/
theorem run_main : θ_run defs (onTc (τ := τ) (main (F := F))) (s₀ m ρ) (Pipeline.FramePost cfgs (dats m) 0 (V m)) :=
  (θ_run defs _ _).mono (fun _ h => h.1) (run_main_quiescent m ρ)

/-- Every argument array is as launched on a device. -/
abbrev Kept (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)

set_option maxHeartbeats 4000000 in
/-- After the run every argument array is as launched: an input window never writes its array back, and no window stages the others. -/
theorem kept (r : PUnit × MemSt nD τ sig (Elt F)) (h : Pipeline.FramePost cfgs (dats m) 0 (V m) r) (c : Dev nD) : Kept m r c :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 8).trans (((dats m 0 c).arrAt_in 8 rfl _).trans ((A_eq m c 8).trans (V_main_arg6 m c))),
    ((h c).1 9).trans (((dats m 0 c).arrAt_in 9 rfl _).trans ((A_eq m c 9).trans (V_main_arg7 m c))),
    ((h c).1 10).trans (((dats m 0 c).arrAt_in 10 rfl _).trans ((A_eq m c 10).trans (V_main_arg8 m c))),
    ((h c).1 11).trans (((dats m 0 c).arrAt_in 11 rfl _).trans ((A_eq m c 11).trans (V_main_arg9 m c))),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c)⟩

/-- Every run ends, with the argument arrays as launched and every counter at zero. -/
theorem frame : θ_run defs (onTc (τ := τ) (main (F := F))) ⟨m, fun _ => 0, ρ⟩ (fun r => (∀ c : Dev nD, Kept m r c) ∧ r.2.sem = fun _ => 0) :=
  (θ_run defs _ _).mono (fun r h => ⟨kept m r h.1, h.2⟩) (run_main_quiescent m ρ)

/-- Every run ends with the output array at what the points wrote back, and the argument arrays as launched. -/
theorem run_blocks : θ_run defs (onTc (τ := τ) (main (F := F))) ⟨m, fun _ => 0, ρ⟩ fun r => ∀ c : Dev nD,
      r.2.mem ((c : Thread nD τ).loc main_v81) = (dats m 0 c).arrAt 15 cfg0.N ∧ Kept m r c :=
  (θ_run defs _ _).mono (fun r h c => ⟨(h c).1 15, kept m r h c⟩) (run_main m ρ)

/-- What a point writes back is what the body leaves in the output's buffer. -/
theorem flushed15 (c : Dev nD) (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  show (cfg0.win 15).cut (grid0.coords t) ((dats m 0 c).after 15 t) = _
  rw [after0_15]

end Cert.Kernel3Ideal.Gen

end
-- ==== Proof.MixKernel.lean ====
/- The payloads of layer 0's end at an index, as the row functions of the blocks it reads. -/
module

public import proofs.«01_k».proof.Proof.MixMath
public import proofs.«01_k».proof.Proof.MixFrame
public import Idealize.ShloMosaic.Lib.Pointwise
public import Idealize.ShloMosaic.Lib.Pipeline.ValueKit

@[expose] public section

set_option maxRecDepth 16384

noncomputable section

namespace Cert.Kernel3Ideal.Gen

open Idealize.ShloMosaic Idealize.ShloMosaic.TcCoe Idealize.ShloMosaic.Pointwise Cert.Ffn
open scoped BigOperators

/-- A gate row spread over the columns: its rounded value and its remainder, each times a branch's spreading matrix. -/
def spread (g : Fin 128 → EReal) (e : Fin 128 → EReal) : EReal := (∑ k, g k * e k) + (∑ k, (g k - g k) * e k)

/-- The first two branches, each times its spread gates. -/
theorem pay5_at (g : Vec Ideal S1x512x128 .f32) (e e' : Vec Ideal S1x128x512 .bf16) (a b : Vec Ideal S1x512x512 .bf16) (r j : Fin 512) :
    (k0_pay5 g e e a e' e' b (ix2 r j) : EReal) =
      spread (fun l => g (ix3 0 r l)) (fun l => e (ix3 0 l j)) * a (ix3 0 r j)
        + spread (fun l => g (ix3 0 r l)) (fun l => e' (ix3 0 l j)) * b (ix3 0 r j) := by
  unfold spread
  pointwise [k0_pay5, k0_pay4, k0_pay3, k0_pay2]

/-- The row after the attention's output, in its two parts, is added. -/
theorem pay6_at (g : Vec Ideal S1x512x128 .f32) (s : FVec Ideal S512x512 .f32) (e : Vec Ideal S1x128x512 .bf16) (c o : Vec Ideal S1x512x512 .bf16)
    (w w' : Vec Ideal S512x1024 .bf16) (x : Vec Ideal S1x512x1024 .f32) (gt : Vec Ideal S1x1x1024 .f32) (r : Fin 512) (j : Fin 1024) :
    (k0_pay6 (k0_pay3 g) (k0_pay4 g) s e e c o w w' x gt (ix2 r j) : EReal) =
      x (ix3 0 r j) + gt (ix3 0 0 j) * (rowDot (fun k => (o (ix3 0 r k) : EReal)) (fun k n => w (ix2 k n)) j
        + rowDot (fun k => (s (ix2 r k) : EReal) + spread (fun l => g (ix3 0 r l)) (fun l => e (ix3 0 l k)) * c (ix3 0 r k)) (fun k n => w' (ix2 k n)) j) := by
  unfold spread rowDot
  pointwise [k0_pay6, k0_pay4, k0_pay3, k0_pay2]

/-- The normed row, scaled and shifted. -/
theorem pay8_at (x : FVec Ideal S512x1024 .f32) (sh sc : Vec Ideal S1x1x1024 .f32) (r : Fin 512) (j : Fin 1024) :
    (k0_pay8 x (k0_pay7 sh) sc (ix2 r j) : EReal) =
      modulated (fun k => x (ix2 r k)) (fun k => sh (ix3 0 0 k)) (fun k => sc (ix3 0 0 k)) j := by
  unfold modulated rms width eps
  pointwise [k0_pay8, k0_pay7]

/-- The first half of the hidden layer. -/
theorem pay9_at (x : FVec Ideal S512x1024 .f32) (sh : FVec Ideal S1x1024 .f32) (sc : Vec Ideal S1x1x1024 .f32) (wg wu : Vec Ideal S1024x1408 .bf16)
    (wo : Vec Ideal S1408x1024 .bf16) (r : Fin 512) (j : Fin 1024) :
    (k0_pay9 x sh sc wg wu wo (ix2 r j) : EReal) =
      ffn (fun k => k0_pay8 x sh sc (ix2 r k)) (fun k i => wg (ix2 k i)) (fun k i => wu (ix2 k i)) (fun i n => wo (ix2 i n)) j := by
  unfold k0_pay9
  generalize k0_pay8 x sh sc = h
  unfold ffn act rowDot
  pointwise
  simp only [zero_sub]

/-- The second half, added with the first to the row. -/
theorem pay1_at (x a : FVec Ideal S512x1024 .f32) (sh : FVec Ideal S1x1024 .f32) (sc : Vec Ideal S1x1x1024 .f32) (wg wu : Vec Ideal S1024x1408 .bf16)
    (wo : Vec Ideal S1408x1024 .bf16) (fgt : Vec Ideal S1x1x1024 .f32) (r : Fin 512) (j : Fin 1024) :
    (k0_pay1 x (k0_pay8 x sh sc) a (k0_pay10 x sh sc wg) wu wo fgt (ix3 0 r j) : EReal) =
      x (ix2 r j) + fgt (ix3 0 0 j) * (a (ix2 r j)
        + ffn (fun k => k0_pay8 x sh sc (ix2 r k)) (fun k i => wg (ix2 k i)) (fun k i => wu (ix2 k i)) (fun i n => wo (ix2 i n)) j) := by
  unfold k0_pay10
  generalize k0_pay8 x sh sc = h
  unfold ffn act rowDot
  pointwise [k0_pay1]
  simp only [zero_sub]

/-- A half of the columns of the hidden layer's first matrices, read from the whole. -/
theorem left_at (x : Vec Ideal S1024x2816 .bf16) (k : Fin 1024) (i : Fin 1408) :
    (View.ld x r0_9 : Vec Ideal S1024x1408 .bf16) (ix2 k i) = x (ix2 k (Fin.castAdd 1408 i)) := by
  refine View.ld_unit_apply_of x _ _ _ _ _ fun a => ?_
  match a with
  | ⟨0, _⟩ => exact (Nat.zero_add _).symm
  | ⟨1, _⟩ => exact (Nat.zero_add _).symm
theorem right_at (x : Vec Ideal S1024x2816 .bf16) (k : Fin 1024) (i : Fin 1408) :
    (View.ld x r0_11 : Vec Ideal S1024x1408 .bf16) (ix2 k i) = x (ix2 k (Fin.natAdd 1408 i)) := by
  refine View.ld_unit_apply_of x _ _ _ _ _ fun a => ?_
  match a with
  | ⟨0, _⟩ => exact (Nat.zero_add _).symm
  | ⟨1, _⟩ => rfl

/-- A half of the rows of its last matrix, read from the whole. -/
theorem upper_at (x : Vec Ideal S2816x1024 .bf16) (i : Fin 1408) (n : Fin 1024) :
    (View.ld x r0_10 : Vec Ideal S1408x1024 .bf16) (ix2 i n) = x (ix2 (Fin.castAdd 1408 i) n) := by
  refine View.ld_unit_apply_of x _ _ _ _ _ fun a => ?_
  match a with
  | ⟨0, _⟩ => exact (Nat.zero_add _).symm
  | ⟨1, _⟩ => exact (Nat.zero_add _).symm
theorem lower_at (x : Vec Ideal S2816x1024 .bf16) (i : Fin 1408) (n : Fin 1024) :
    (View.ld x r0_12 : Vec Ideal S1408x1024 .bf16) (ix2 i n) = x (ix2 (Fin.natAdd 1408 i) n) := by
  refine View.ld_unit_apply_of x _ _ _ _ _ fun a => ?_
  match a with
  | ⟨0, _⟩ => rfl
  | ⟨1, _⟩ => exact (Nat.zero_add _).symm

/-- A half of the rows of the attention's output matrix, read from the whole. -/
theorem outer_at (x : Vec Ideal S1024x1024 .bf16) (i : Fin 512) (n : Fin 1024) :
    (View.ld x r0_5 : Vec Ideal S512x1024 .bf16) (ix2 i n) = x (ix2 (Fin.castAdd 512 i) n) := by
  refine View.ld_unit_apply_of x _ _ _ _ _ fun a => ?_
  match a with
  | ⟨0, _⟩ => exact (Nat.zero_add _).symm
  | ⟨1, _⟩ => exact (Nat.zero_add _).symm
theorem inner_at (x : Vec Ideal S1024x1024 .bf16) (i : Fin 512) (n : Fin 1024) :
    (View.ld x r0_6 : Vec Ideal S512x1024 .bf16) (ix2 i n) = x (ix2 (Fin.natAdd 512 i) n) := by
  refine View.ld_unit_apply_of x _ _ _ _ _ fun a => ?_
  match a with
  | ⟨0, _⟩ => rfl
  | ⟨1, _⟩ => exact (Nat.zero_add _).symm

/-- A branch's spreading matrix, read from the three. -/
theorem first_at (x : Vec Ideal S3x128x512 .bf16) (l : Fin 128) (j : Fin 512) :
    (View.ld x r0_1 : Vec Ideal S1x128x512 .bf16) (ix3 0 l j) = x (ix3 0 l j) := by
  refine View.ld_unit_apply_of x _ _ _ _ _ fun a => ?_
  match a with
  | ⟨0, _⟩ => rfl
  | ⟨1, _⟩ => exact (Nat.zero_add _).symm
  | ⟨2, _⟩ => exact (Nat.zero_add _).symm
theorem second_at (x : Vec Ideal S3x128x512 .bf16) (l : Fin 128) (j : Fin 512) :
    (View.ld x r0_3 : Vec Ideal S1x128x512 .bf16) (ix3 0 l j) = x (ix3 1 l j) := by
  refine View.ld_unit_apply_of x _ _ _ _ _ fun a => ?_
  match a with
  | ⟨0, _⟩ => rfl
  | ⟨1, _⟩ => exact (Nat.zero_add _).symm
  | ⟨2, _⟩ => exact (Nat.zero_add _).symm
theorem third_at (x : Vec Ideal S3x128x512 .bf16) (l : Fin 128) (j : Fin 512) :
    (View.ld x r0_4 : Vec Ideal S1x128x512 .bf16) (ix3 0 l j) = x (ix3 2 l j) := by
  refine View.ld_unit_apply_of x _ _ _ _ _ fun a => ?_
  match a with
  | ⟨0, _⟩ => rfl
  | ⟨1, _⟩ => exact (Nat.zero_add _).symm
  | ⟨2, _⟩ => exact (Nat.zero_add _).symm

/-- Dots of rows and matrices with equal entries are equal. -/
theorem rowDot_congr {n k : ℕ} {x x' : Fin k → EReal} {w w' : Fin k → Fin n → EReal} (j : Fin n) (e : ∀ i, x i = x' i) (ew : ∀ i, w i j = w' i j) :
    rowDot x w j = rowDot x' w' j := Finset.sum_congr rfl fun i _ => by rw [e i, ew i]

/-- The first rows' end: the row after the attention's output is added, from the blocks. -/
theorem mixed_at (x0 : Vec Ideal S1x512x1024 .f32) (x1 x2 x3 x4 : Vec Ideal S1x512x512 .bf16) (x5 : Vec Ideal S1x512x128 .f32)
    (x6 : Vec Ideal S3x128x512 .bf16) (x7 : Vec Ideal S1024x1024 .bf16) (x8 : Vec Ideal S1x1x1024 .f32)
    (hx6 : ∀ (br : Fin 3) (l : Fin 128) (j : Fin 512), (x6 (ix3 br l j) : EReal) = if l = lane (head j) br then 1 else 0)
    (r : Fin 512) (hg : ∀ (h : Fin 8) (br : Fin 3), ∃ q : ℝ, (x5 (ix3 0 r (lane h br)) : EReal) = q) (j : Fin 1024) :
    (k0_pay6 (k0_pay3 x5) (k0_pay4 x5) (k0_pay5 x5 (View.ld x6 r0_1) (View.ld x6 r0_1) x2 (View.ld x6 r0_3) (View.ld x6 r0_3) x3)
      (View.ld x6 r0_4) (View.ld x6 r0_4) x4 x1 (View.ld x7 r0_5) (View.ld x7 r0_6) x0 x8 (ix2 r j) : EReal) =
      mixed (fun k => x0 (ix3 0 r k)) (joined (fun k => x1 (ix3 0 r k)) (gatedSum (fun l => x5 (ix3 0 r l)) (fun k => x2 (ix3 0 r k))
        (fun k => x3 (ix3 0 r k)) (fun k => x4 (ix3 0 r k)))) (fun k => x8 (ix3 0 0 k)) (fun k n => x7 (ix2 k n)) j := by
  rw [pay6_at]
  unfold mixed
  rw [rowDot_joined]
  refine congrArg (fun z => (x0 (ix3 0 r j) : EReal) + (x8 (ix3 0 0 j) : EReal) * z) (congrArg₂ (fun p q : EReal => p + q) ?_ ?_)
  · exact rowDot_congr j (fun _ => rfl) fun i => outer_at x7 i j
  · refine rowDot_congr j (fun k => ?_) fun i => inner_at x7 i j
    rw [pay5_at]
    unfold spread gatedSum
    rw [picked _ _ (lane (head k) 0) (fun l => (first_at x6 l k).trans (hx6 0 l k)) (hg _ _),
      picked _ _ (lane (head k) 1) (fun l => (second_at x6 l k).trans (hx6 1 l k)) (hg _ _),
      picked _ _ (lane (head k) 2) (fun l => (third_at x6 l k).trans (hx6 2 l k)) (hg _ _)]

/-- What a point leaves in the output's block is the layer on the rows of the blocks it reads. -/
theorem out_at (x0 : Vec Ideal S1x512x1024 .f32) (x1 x2 x3 x4 : Vec Ideal S1x512x512 .bf16) (x5 : Vec Ideal S1x512x128 .f32)
    (x6 : Vec Ideal S3x128x512 .bf16) (x7 : Vec Ideal S1024x1024 .bf16) (x8 x9 x10 x11 : Vec Ideal S1x1x1024 .f32)
    (x12 x13 : Vec Ideal S1024x2816 .bf16) (x14 : Vec Ideal S2816x1024 .bf16)
    (hx6 : ∀ (br : Fin 3) (l : Fin 128) (j : Fin 512), (x6 (ix3 br l j) : EReal) = if l = lane (head j) br then 1 else 0)
    (r : Fin 512) (hg : ∀ (h : Fin 8) (br : Fin 3), ∃ q : ℝ, (x5 (ix3 0 r (lane h br)) : EReal) = q) (j : Fin 1024) :
    (out0_15 x0 x1 x2 x3 x4 x5 x6 x7 x8 x9 x10 x11 x12 x13 x14 (ix3 0 r j) : EReal) =
      mixLayer (n := 2816) (fun k => x1 (ix3 0 r k)) (fun k => x2 (ix3 0 r k)) (fun k => x3 (ix3 0 r k)) (fun k => x4 (ix3 0 r k))
        (fun k => x0 (ix3 0 r k)) (fun l => x5 (ix3 0 r l)) (fun k => x8 (ix3 0 0 k)) (fun k => x9 (ix3 0 0 k)) (fun k => x10 (ix3 0 0 k))
        (fun k => x11 (ix3 0 0 k)) (fun k n => x7 (ix2 k n)) (fun k i => x12 (ix2 k i)) (fun k i => x13 (ix2 k i)) (fun i n => x14 (ix2 i n)) j := by
  unfold out0_15 k0_pay12 k0_pay11
  rw [View.canon_cons_unit_lit _ _ _ (by decide)]
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x8 (by decide), View.ld_unit_lit _ x9 (by decide),
    View.ld_unit_lit _ x10 (by decide), View.ld_unit_lit _ x11 (by decide)]
  have hm := mixed_at x0 x1 x2 x3 x4 x5 x6 x7 x8 hx6 r hg
  generalize k0_pay6 (k0_pay3 x5) (k0_pay4 x5) (k0_pay5 x5 (View.ld x6 r0_1) (View.ld x6 r0_1) x2 (View.ld x6 r0_3) (View.ld x6 r0_3) x3)
    (View.ld x6 r0_4) (View.ld x6 r0_4) x4 x1 (View.ld x7 r0_5) (View.ld x7 r0_6) x0 x8 = y at hm ⊢
  rw [pay1_at, pay9_at]
  unfold mixLayer summed
  rw [ffn_add (a := 1408) (b := 1408), hm]
  have hh : (fun k => (k0_pay8 y (k0_pay7 x9) x10 (ix2 r k) : EReal)) = modulated (mixed (fun k => x0 (ix3 0 r k))
      (joined (fun k => x1 (ix3 0 r k)) (gatedSum (fun l => x5 (ix3 0 r l)) (fun k => x2 (ix3 0 r k))
        (fun k => x3 (ix3 0 r k)) (fun k => x4 (ix3 0 r k)))) (fun k => x8 (ix3 0 0 k)) (fun k n => x7 (ix2 k n)))
      (fun k => x9 (ix3 0 0 k)) (fun k => x10 (ix3 0 0 k)) := by
    funext k
    rw [pay8_at, funext hm]
  rw [hh]
  refine congrArg (fun z => _ + (x11 (ix3 0 0 j) : EReal) * z) (congrArg₂ (fun p q : EReal => p + q) ?_ ?_)
  · exact ffn_congr j (fun _ => rfl) (left_at x12) (left_at x13) (upper_at x14)
  · exact ffn_congr j (fun _ => rfl) (right_at x12) (right_at x13) (lower_at x14)

end Cert.Kernel3Ideal.Gen

end
-- ==== Proof.MixExpand.lean ====
/- The matrices that spread the gates over the columns: zeros, and a one where a lane holds the gate of a column's head. -/
module

public import proofs.«01_k».proof.Proof.MixMath
public import proofs.«01_k».proof.Proof.MixFrame
public import Idealize.ShloMosaic.Lib.Pointwise
public import Idealize.ShloMosaic.Lib.Routing.OpsSet
public import Idealize.ShloMosaic.Lib.StableHlo.RunRead

@[expose] public section

set_option maxRecDepth 16384

noncomputable section

namespace Cert.Kernel3Ideal.Value

open Cert.Kernel3Ideal Cert.Kernel3Ideal.Gen Idealize.ShloMosaic Idealize.ShloMosaic.TcCoe Idealize.ShloMosaic.Pointwise Idealize.ShloMosaic.Routing Cert.Ffn

variable (m : (ℓ : Loc nD τ sig) → Buf (Elt Ideal) ℓ)

/-- The lanes that hold a branch's gates, one per head. -/
def lanesS (br : BitVec 32) : IVec S8 32 :=
  addi (addi (broadcastInDim S8 ![] bcast_S_S8 (constantI S_ 32 32#32)) (muli (broadcastInDim S8 ![] bcast_S_S8 (constantI S_ 32 3#32)) (iotaInDim S8 32 0)))
    (broadcastInDim S8 ![] bcast_S_S8 (constantI S_ 32 br))

/-- An index counted from the end where it is negative. -/
def wrapS (x : IVec S8 32) (n : BitVec 32) : IVec S8 32 :=
  select (cmpi .slt x (broadcastInDim S8 ![] bcast_S_S8 (constantI S_ 32 0#32))) (addi x (broadcastInDim S8 ![] bcast_S_S8 (constantI S_ 32 n))) x

/-- A branch's places: a lane and a head. -/
def idxS (br : BitVec 32) : IVec S8x2 32 :=
  concatenate S8x2 1 [⟨S8x1, broadcastInDim S8x1 ![0] bcast_S8_S8x1_0 (wrapS (lanesS br) 128#32)⟩,
    ⟨S8x1, broadcastInDim S8x1 ![0] bcast_S8_S8x1_0 (wrapS (iotaInDim S8 32 0) 8#32)⟩] concatenates_S8x1_S8x1_S8x2_d1

/-- Zeros, with ones at a branch's places. -/
def placeS (br : BitVec 32) : FVec Ideal S128x8x64 .f32 :=
  Host.scatter scatter_S128x8x64_S8x2_S8x64_1_01_01_1 (fun _ b => b) (broadcastInDim S128x8x64 ![] bcast_S_S128x8x64 (constant (F := Ideal) S_ .f32 0x00000000#32))
    (idxS br) (broadcastInDim S8x64 ![] bcast_S_S8x64 (constant (F := Ideal) S_ .f32 0x3F800000#32))

/-- A branch's matrix, as one of three. -/
def branchS (br : BitVec 32) : FVec Ideal S1x128x512 .f32 :=
  broadcastInDim S1x128x512 ![1, 2] bcast_S128x512_S1x128x512_1_2 (shapeCast S128x512 (placeS br) shapeCasts_S128x8x64_S128x512)

/-- The three branches' matrices. -/
def egS : FVec Ideal S3x128x512 .bf16 :=
  truncf (F := Ideal) .bf16 (concatenate S3x128x512 0 [⟨S1x128x512, branchS 0#32⟩, ⟨S1x128x512, branchS 1#32⟩, ⟨S1x128x512, branchS 2#32⟩]
    concatenates_S1x128x512_S1x128x512_S1x128x512_S3x128x512_d0) bitsLt_bf16_f32

/-- The places' words are the lane and the head, for each branch. -/
theorem idx_word : ∀ (br : Fin 3) (h : Fin 8), (idxS (BitVec.ofNat 32 br.val) (ix2 h 0)).toInt = (lane h br).val
    ∧ (idxS (BitVec.ofNat 32 br.val) (ix2 h 1)).toInt = h.val := by
  decide +kernel

/-- Where an update lands: its two words and its own place in the last axis. -/
theorem lands (idx : IVec S8x2 32) (h : Fin 8) (i : Fin 64) (l : Fin 128) (h' : Fin 8) (i' : Fin 64) :
    scatter_S128x8x64_S8x2_S8x64_1_01_01_1.resultIdx? (ix2 h i) idx = some (ix3 l h' i')
      ↔ (idx (ix2 h 0)).toInt = l.val ∧ (idx (ix2 h 1)).toInt = h'.val ∧ i = i' := by
  have s0 : scatter_S128x8x64_S8x2_S8x64_1_01_01_1.start (ix2 h i) idx 0 = (idx (ix2 h 0)).toInt := by
    refine congrArg (fun k => (idx k).toInt) (funext fun a => ?_)
    match a with
    | ⟨0, _⟩ => rfl
    | ⟨1, _⟩ => rfl
  have s1 : scatter_S128x8x64_S8x2_S8x64_1_01_01_1.start (ix2 h i) idx 1 = (idx (ix2 h 1)).toInt := by
    refine congrArg (fun k => (idx k).toInt) (funext fun a => ?_)
    match a with
    | ⟨0, _⟩ => rfl
    | ⟨1, _⟩ => rfl
  have s2 : scatter_S128x8x64_S8x2_S8x64_1_01_01_1.start (ix2 h i) idx 2 = 0 := rfl
  have w0 : scatter_S128x8x64_S8x2_S8x64_1_01_01_1.window (ix2 h i) 0 = 0 := rfl
  have w1 : scatter_S128x8x64_S8x2_S8x64_1_01_01_1.window (ix2 h i) 1 = 0 := rfl
  have w2 : scatter_S128x8x64_S8x2_S8x64_1_01_01_1.window (ix2 h i) 2 = i.val := rfl
  rw [resultIdx?_eq_some, Fin.ext_iff]
  constructor
  · intro q
    have q0 : (idx (ix2 h 0)).toInt + ((0 : ℕ) : Int) = (l.val : Int) := by rw [← s0, ← w0]; exact q 0
    have q1 : (idx (ix2 h 1)).toInt + ((0 : ℕ) : Int) = (h'.val : Int) := by rw [← s1, ← w1]; exact q 1
    have q2 : (0 : Int) + (i.val : Int) = (i'.val : Int) := by rw [← s2, ← w2]; exact q 2
    omega
  · intro ⟨e0, e1, e2⟩ a
    match a with
    | ⟨0, _⟩ => rw [show (⟨0, _⟩ : Fin 3) = 0 from rfl, s0, w0, e0]; exact add_zero _
    | ⟨1, _⟩ => rw [show (⟨1, _⟩ : Fin 3) = 1 from rfl, s1, w1, e1]; exact add_zero _
    | ⟨2, _⟩ => rw [show (⟨2, _⟩ : Fin 3) = 2 from rfl, s2, w2, e2]; exact zero_add _

/-- The zeros and ones. -/
theorem place_at (br : Fin 3) (l : Fin 128) (h : Fin 8) (i : Fin 64) :
    (placeS (BitVec.ofNat 32 br.val) (ix3 l h i) : EReal) = if l = lane h br then 1 else 0 := by
  unfold placeS
  by_cases e : l = lane h br
  · rw [if_pos e, scatter_set_hit _ _ _ _ (ix3 l h i) (1 : EReal) (fun k _ => by pointwise) (ix2 h i)
      ((lands _ h i l h i).2 ⟨by rw [(idx_word br h).1, e], (idx_word br h).2, rfl⟩)]
  · rw [if_neg e, scatter_set_miss _ _ _ _ (ix3 l h i) fun k hk => ?_]
    · pointwise
    · obtain ⟨h', i', rfl⟩ : ∃ (h' : Fin 8) (i' : Fin 64), k = ix2 h' i' := ⟨k 0, k 1, eq_ix2 k⟩
      obtain ⟨e0, e1, -⟩ := (lands _ h' i' l h i).1 hk
      rw [(idx_word br h').1] at e0
      rw [(idx_word br h').2] at e1
      obtain rfl : h' = h := Fin.ext (by exact_mod_cast e1)
      exact e (Fin.ext (by exact_mod_cast e0.symm))

/-- A branch's matrix at a lane and a column. -/
theorem branch_at (br : Fin 3) (l : Fin 128) (j : Fin 512) :
    (branchS (BitVec.ofNat 32 br.val) (ix3 0 l j) : EReal) = if l = lane (head j) br then 1 else 0 := by
  refine Eq.trans ?_ (place_at br l (head j) ⟨j.val % 64, Nat.mod_lt _ (by decide)⟩)
  unfold branchS
  generalize placeS (BitVec.ofNat 32 br.val) = p
  pointwise
  refine congrArg p (congrArg₂ (fun a b => ix3 l a b) (Fin.ext ?_) (Fin.ext ?_))
  · show _ = j.val / 64
    simp
  · show _ = j.val % 64
    simp

/-- The three at a branch, a lane and a column. -/
theorem eg_at (br : Fin 3) (l : Fin 128) (j : Fin 512) : (egS (ix3 br l j) : EReal) = if l = lane (head j) br then 1 else 0 := by
  refine Eq.trans ?_ (branch_at br l j)
  unfold egS
  match br with
  | ⟨0, _⟩ =>
    show _ = branchS 0#32 (ix3 0 l j)
    generalize branchS 0#32 = a; generalize branchS 1#32 = b; generalize branchS 2#32 = c
    pointwise
  | ⟨1, _⟩ =>
    show _ = branchS 1#32 (ix3 0 l j)
    generalize branchS 0#32 = a; generalize branchS 1#32 = b; generalize branchS 2#32 = c
    pointwise
  | ⟨2, _⟩ =>
    show _ = branchS 2#32 (ix3 0 l j)
    generalize branchS 0#32 = a; generalize branchS 1#32 = b; generalize branchS 2#32 = c
    pointwise

/-- A branch's matrix as the host leaves it. -/
theorem read_v70 (c : Dev nD) : StableHlo.upto hostOps0 (fun b => m (c, b)) 100 (Proc.devRef .tc main_v70) = branchS 0#32 := by
  after_reads_simp
  rfl

/-- The second. -/
theorem read_v71 (c : Dev nD) : StableHlo.upto hostOps0 (fun b => m (c, b)) 100 (Proc.devRef .tc main_v71) = branchS 1#32 := by
  after_reads_simp
  rfl

/-- The third. -/
theorem read_v72 (c : Dev nD) : StableHlo.upto hostOps0 (fun b => m (c, b)) 100 (Proc.devRef .tc main_v72) = branchS 2#32 := by
  after_reads_simp
  rfl

/-- What the region finds in the spreading matrices' buffer. -/
theorem V_v74 (c : Dev nD) : V m c main_v74 = egS := by
  show StableHlo.after hostOps0 _ (Proc.devRef .tc main_v74) = _
  after_reads_simp
  have e : ∀ a b d : FVec Ideal S1x128x512 .f32, a = branchS 0#32 → b = branchS 1#32 → d = branchS 2#32 →
      truncf (F := Ideal) .bf16 (concatenate S3x128x512 0 [⟨S1x128x512, a⟩, ⟨S1x128x512, b⟩, ⟨S1x128x512, d⟩]
        concatenates_S1x128x512_S1x128x512_S1x128x512_S3x128x512_d0) bitsLt_bf16_f32 = egS := by
    rintro _ _ _ rfl rfl rfl
    rfl
  exact e _ _ _ (read_v70 m c) (read_v71 m c) (read_v72 m c)

end Cert.Kernel3Ideal.Value

end
-- ==== Proof.MixBlocks.lean ====
/- The blocks layer 0's end reads at a point, as rows and vectors of the arrays, and the matrices the host hands over. -/
module

public import proofs.«01_k».proof.Proof.MixKernel
public import proofs.«01_k».proof.Proof.MixExpand
public import Idealize.ShloMosaic.Lib.StableHlo.RunRead

@[expose] public section

set_option maxRecDepth 16384

noncomputable section

namespace Cert.Kernel3Ideal.Value

open Cert.Kernel3Ideal Cert.Kernel3Ideal.Gen Idealize.ShloMosaic Idealize.ShloMosaic.TcCoe Idealize.ShloMosaic.Pointwise Cert.Ffn

variable (m : (ℓ : Loc nD τ sig) → Buf (Elt Ideal) ℓ)

/-- A coordinate of a block's element in the array: the block's place times its size, and the place inside. -/
theorem coord {n : ℕ} {i d : Fin n → ℕ} (e : i = d) (a : Fin n) (s q v : ℕ) (h : d a * s + q = v) : i a * s + 1 * q = v := by
  rw [e, Nat.one_mul]
  exact h

/-- An array at an index given by its coordinates. -/
theorem at3 {α : Type} {A B C : ℕ} (x : (⟨3, ![A, B, C]⟩ : Shape).Idx → α) (f : (⟨3, ![A, B, C]⟩ : Shape).Idx) (a : Fin A) (b : Fin B) (c : Fin C)
    (h0 : (f 0).val = a.val) (h1 : (f 1).val = b.val) (h2 : (f 2).val = c.val) : x f = x (ix3 a b c) := by
  refine congrArg x (funext fun k => Fin.ext ?_)
  match k with
  | ⟨0, _⟩ => exact h0
  | ⟨1, _⟩ => exact h1
  | ⟨2, _⟩ => exact h2

/-- Row `r` of a block of 512 rows of one sequence is row `p` of sequence `b`. -/
theorem row_at {α : Type} {n t : ℕ} (x : (⟨3, ![4, 4096, n]⟩ : Shape).Idx → α) (f : (⟨3, ![4, 4096, n]⟩ : Shape).Idx) {i : Fin 3 → ℕ}
    (e : i = ![t / 8, t % 8, 0]) {b : Fin 4} {p : Fin 4096} {r : Fin 512} {k : Fin n} (hb : b.val = t / 8) (hp : p.val = 512 * (t % 8) + r.val)
    (h0 : (f 0).val = i 0 * 1 + 1 * 0) (h1 : (f 1).val = i 1 * 512 + 1 * r.val) (h2 : (f 2).val = i 2 * n + 1 * k.val) : x f = x (ix3 b p k) :=
  at3 x f b p k (h0.trans (coord e 0 1 0 b.val (by show t / 8 * 1 + 0 = _; omega)))
    (h1.trans (coord e 1 512 r.val p.val (by show t % 8 * 512 + _ = _; omega))) (h2.trans (coord e 2 n k.val k.val (by show 0 * n + _ = _; omega)))

/-- A sequence's vector, read as a block, is the array's. -/
theorem vec_at {α : Type} {n t : ℕ} (x : (⟨3, ![4, 1, n]⟩ : Shape).Idx → α) (f : (⟨3, ![4, 1, n]⟩ : Shape).Idx) {i : Fin 3 → ℕ}
    (e : i = ![t / 8, 0, 0]) {b : Fin 4} {k : Fin n} (hb : b.val = t / 8)
    (h0 : (f 0).val = i 0 * 1 + 1 * 0) (h1 : (f 1).val = i 1 * 1 + 1 * 0) (h2 : (f 2).val = i 2 * n + 1 * k.val) : x f = x (ix3 b 0 k) :=
  at3 x f b 0 k (h0.trans (coord e 0 1 0 b.val (by show t / 8 * 1 + 0 = _; omega))) (h1.trans (coord e 1 1 0 0 rfl))
    (h2.trans (coord e 2 n k.val k.val (by show 0 * n + _ = _; omega)))

/-- A matrix read as one block is the matrix. -/
theorem mat_at {α : Type} {A B : ℕ} (x : (⟨2, ![A, B]⟩ : Shape).Idx → α) (f : (⟨2, ![A, B]⟩ : Shape).Idx) {i : Fin 2 → ℕ} (e : i = ![0, 0])
    {a : Fin A} {b : Fin B} (h0 : (f 0).val = i 0 * A + 1 * a.val) (h1 : (f 1).val = i 1 * B + 1 * b.val) : x f = x (ix2 a b) := by
  refine congrArg x (funext fun k => Fin.ext ?_)
  match k with
  | ⟨0, _⟩ => exact h0.trans (coord e 0 A a.val a.val (by show 0 * A + _ = _; omega))
  | ⟨1, _⟩ => exact h1.trans (coord e 1 B b.val b.val (by show 0 * B + _ = _; omega))

/-- Window 0's block at a point is 512 rows of one sequence. -/
theorem index_0 : ∀ t : Fin cfg0.N, ((cfg0.win 0).index t : Fin 3 → ℕ) = ![t.val / 8, t.val % 8, 0] :=
  (by decide +kernel : ∀ t : Fin grid0.N, (win0_0.index t : Fin 3 → ℕ) = ![t.val / 8, t.val % 8, 0])

theorem block_0 (c : Dev nD) (t : Fin cfg0.N) (b : Fin 4) (p : Fin 4096) (r : Fin 512) (hb : b.val = t.val / 8) (hp : p.val = 512 * (t.val % 8) + r.val) (k : Fin 1024) :
    (iblk m c 0 t : Vec Ideal S1x512x1024 .f32) (ix3 0 r k) = (m ((c : Thread nD τ).loc main_arg0) : Vec Ideal S4x4096x1024 .f32) (ix3 b p k) := by
  refine (View.read_apply ..).trans (Eq.trans ?_ (congrFun (V_main_arg0 m c) _))
  exact row_at (V m c main_arg0 : Vec Ideal S4x4096x1024 .f32) _ (index_0 t) hb hp rfl rfl rfl

/-- Window 1's block at a point is 512 rows of one sequence. -/
theorem index_1 : ∀ t : Fin cfg0.N, ((cfg0.win 1).index t : Fin 3 → ℕ) = ![t.val / 8, t.val % 8, 0] :=
  (by decide +kernel : ∀ t : Fin grid0.N, (win0_1.index t : Fin 3 → ℕ) = ![t.val / 8, t.val % 8, 0])

theorem block_1 (c : Dev nD) (t : Fin cfg0.N) (b : Fin 4) (p : Fin 4096) (r : Fin 512) (hb : b.val = t.val / 8) (hp : p.val = 512 * (t.val % 8) + r.val) (k : Fin 512) :
    (iblk m c 1 t : Vec Ideal S1x512x512 .bf16) (ix3 0 r k) = (m ((c : Thread nD τ).loc main_arg1) : Vec Ideal S4x4096x512 .bf16) (ix3 b p k) := by
  refine (View.read_apply ..).trans (Eq.trans ?_ (congrFun (V_main_arg1 m c) _))
  exact row_at (V m c main_arg1 : Vec Ideal S4x4096x512 .bf16) _ (index_1 t) hb hp rfl rfl rfl

/-- Window 2's block at a point is 512 rows of one sequence. -/
theorem index_2 : ∀ t : Fin cfg0.N, ((cfg0.win 2).index t : Fin 3 → ℕ) = ![t.val / 8, t.val % 8, 0] :=
  (by decide +kernel : ∀ t : Fin grid0.N, (win0_2.index t : Fin 3 → ℕ) = ![t.val / 8, t.val % 8, 0])

theorem block_2 (c : Dev nD) (t : Fin cfg0.N) (b : Fin 4) (p : Fin 4096) (r : Fin 512) (hb : b.val = t.val / 8) (hp : p.val = 512 * (t.val % 8) + r.val) (k : Fin 512) :
    (iblk m c 2 t : Vec Ideal S1x512x512 .bf16) (ix3 0 r k) = (m ((c : Thread nD τ).loc main_arg2) : Vec Ideal S4x4096x512 .bf16) (ix3 b p k) := by
  refine (View.read_apply ..).trans (Eq.trans ?_ (congrFun (V_main_arg2 m c) _))
  exact row_at (V m c main_arg2 : Vec Ideal S4x4096x512 .bf16) _ (index_2 t) hb hp rfl rfl rfl

/-- Window 3's block at a point is 512 rows of one sequence. -/
theorem index_3 : ∀ t : Fin cfg0.N, ((cfg0.win 3).index t : Fin 3 → ℕ) = ![t.val / 8, t.val % 8, 0] :=
  (by decide +kernel : ∀ t : Fin grid0.N, (win0_3.index t : Fin 3 → ℕ) = ![t.val / 8, t.val % 8, 0])

theorem block_3 (c : Dev nD) (t : Fin cfg0.N) (b : Fin 4) (p : Fin 4096) (r : Fin 512) (hb : b.val = t.val / 8) (hp : p.val = 512 * (t.val % 8) + r.val) (k : Fin 512) :
    (iblk m c 3 t : Vec Ideal S1x512x512 .bf16) (ix3 0 r k) = (m ((c : Thread nD τ).loc main_arg3) : Vec Ideal S4x4096x512 .bf16) (ix3 b p k) := by
  refine (View.read_apply ..).trans (Eq.trans ?_ (congrFun (V_main_arg3 m c) _))
  exact row_at (V m c main_arg3 : Vec Ideal S4x4096x512 .bf16) _ (index_3 t) hb hp rfl rfl rfl

/-- Window 4's block at a point is 512 rows of one sequence. -/
theorem index_4 : ∀ t : Fin cfg0.N, ((cfg0.win 4).index t : Fin 3 → ℕ) = ![t.val / 8, t.val % 8, 0] :=
  (by decide +kernel : ∀ t : Fin grid0.N, (win0_4.index t : Fin 3 → ℕ) = ![t.val / 8, t.val % 8, 0])

theorem block_4 (c : Dev nD) (t : Fin cfg0.N) (b : Fin 4) (p : Fin 4096) (r : Fin 512) (hb : b.val = t.val / 8) (hp : p.val = 512 * (t.val % 8) + r.val) (k : Fin 512) :
    (iblk m c 4 t : Vec Ideal S1x512x512 .bf16) (ix3 0 r k) = (m ((c : Thread nD τ).loc main_arg4) : Vec Ideal S4x4096x512 .bf16) (ix3 b p k) := by
  refine (View.read_apply ..).trans (Eq.trans ?_ (congrFun (V_main_arg4 m c) _))
  exact row_at (V m c main_arg4 : Vec Ideal S4x4096x512 .bf16) _ (index_4 t) hb hp rfl rfl rfl

/-- Window 5's block at a point is 512 rows of one sequence. -/
theorem index_5 : ∀ t : Fin cfg0.N, ((cfg0.win 5).index t : Fin 3 → ℕ) = ![t.val / 8, t.val % 8, 0] :=
  (by decide +kernel : ∀ t : Fin grid0.N, (win0_5.index t : Fin 3 → ℕ) = ![t.val / 8, t.val % 8, 0])

theorem block_5 (c : Dev nD) (t : Fin cfg0.N) (b : Fin 4) (p : Fin 4096) (r : Fin 512) (hb : b.val = t.val / 8) (hp : p.val = 512 * (t.val % 8) + r.val) (k : Fin 128) :
    (iblk m c 5 t : Vec Ideal S1x512x128 .f32) (ix3 0 r k) = (m ((c : Thread nD τ).loc main_arg5) : Vec Ideal S4x4096x128 .f32) (ix3 b p k) := by
  refine (View.read_apply ..).trans (Eq.trans ?_ (congrFun (V_main_arg5 m c) _))
  exact row_at (V m c main_arg5 : Vec Ideal S4x4096x128 .f32) _ (index_5 t) hb hp rfl rfl rfl

/-- Window 8's block at a point is the sequence's vector. -/
theorem index_8 : ∀ t : Fin cfg0.N, ((cfg0.win 8).index t : Fin 3 → ℕ) = ![t.val / 8, 0, 0] :=
  (by decide +kernel : ∀ t : Fin grid0.N, (win0_8.index t : Fin 3 → ℕ) = ![t.val / 8, 0, 0])

theorem block_8 (c : Dev nD) (t : Fin cfg0.N) (b : Fin 4) (hb : b.val = t.val / 8) (k : Fin 1024) :
    (iblk m c 8 t : Vec Ideal S1x1x1024 .f32) (ix3 0 0 k) = (m ((c : Thread nD τ).loc main_arg6) : Vec Ideal S4x1x1024 .f32) (ix3 b 0 k) := by
  refine (View.read_apply ..).trans (Eq.trans ?_ (congrFun (V_main_arg6 m c) _))
  exact vec_at (V m c main_arg6 : Vec Ideal S4x1x1024 .f32) _ (index_8 t) hb rfl rfl rfl

/-- Window 9's block at a point is the sequence's vector. -/
theorem index_9 : ∀ t : Fin cfg0.N, ((cfg0.win 9).index t : Fin 3 → ℕ) = ![t.val / 8, 0, 0] :=
  (by decide +kernel : ∀ t : Fin grid0.N, (win0_9.index t : Fin 3 → ℕ) = ![t.val / 8, 0, 0])

theorem block_9 (c : Dev nD) (t : Fin cfg0.N) (b : Fin 4) (hb : b.val = t.val / 8) (k : Fin 1024) :
    (iblk m c 9 t : Vec Ideal S1x1x1024 .f32) (ix3 0 0 k) = (m ((c : Thread nD τ).loc main_arg7) : Vec Ideal S4x1x1024 .f32) (ix3 b 0 k) := by
  refine (View.read_apply ..).trans (Eq.trans ?_ (congrFun (V_main_arg7 m c) _))
  exact vec_at (V m c main_arg7 : Vec Ideal S4x1x1024 .f32) _ (index_9 t) hb rfl rfl rfl

/-- Window 10's block at a point is the sequence's vector. -/
theorem index_10 : ∀ t : Fin cfg0.N, ((cfg0.win 10).index t : Fin 3 → ℕ) = ![t.val / 8, 0, 0] :=
  (by decide +kernel : ∀ t : Fin grid0.N, (win0_10.index t : Fin 3 → ℕ) = ![t.val / 8, 0, 0])

theorem block_10 (c : Dev nD) (t : Fin cfg0.N) (b : Fin 4) (hb : b.val = t.val / 8) (k : Fin 1024) :
    (iblk m c 10 t : Vec Ideal S1x1x1024 .f32) (ix3 0 0 k) = (m ((c : Thread nD τ).loc main_arg8) : Vec Ideal S4x1x1024 .f32) (ix3 b 0 k) := by
  refine (View.read_apply ..).trans (Eq.trans ?_ (congrFun (V_main_arg8 m c) _))
  exact vec_at (V m c main_arg8 : Vec Ideal S4x1x1024 .f32) _ (index_10 t) hb rfl rfl rfl

/-- Window 11's block at a point is the sequence's vector. -/
theorem index_11 : ∀ t : Fin cfg0.N, ((cfg0.win 11).index t : Fin 3 → ℕ) = ![t.val / 8, 0, 0] :=
  (by decide +kernel : ∀ t : Fin grid0.N, (win0_11.index t : Fin 3 → ℕ) = ![t.val / 8, 0, 0])

theorem block_11 (c : Dev nD) (t : Fin cfg0.N) (b : Fin 4) (hb : b.val = t.val / 8) (k : Fin 1024) :
    (iblk m c 11 t : Vec Ideal S1x1x1024 .f32) (ix3 0 0 k) = (m ((c : Thread nD τ).loc main_arg9) : Vec Ideal S4x1x1024 .f32) (ix3 b 0 k) := by
  refine (View.read_apply ..).trans (Eq.trans ?_ (congrFun (V_main_arg9 m c) _))
  exact vec_at (V m c main_arg9 : Vec Ideal S4x1x1024 .f32) _ (index_11 t) hb rfl rfl rfl

/-- Window 6's block is the whole array at every point. -/
theorem index_6 : ∀ t : Fin cfg0.N, ((cfg0.win 6).index t : Fin 3 → ℕ) = ![0, 0, 0] :=
  (by decide +kernel : ∀ t : Fin grid0.N, (win0_6.index t : Fin 3 → ℕ) = ![0, 0, 0])

theorem block_6 (c : Dev nD) (t : Fin cfg0.N) (br : Fin 3) (l : Fin 128) (j : Fin 512) :
    (iblk m c 6 t : Vec Ideal S3x128x512 .bf16) (ix3 br l j) = egS (ix3 br l j) := by
  refine (View.read_apply ..).trans (Eq.trans ?_ (congrFun (V_v74 m c) _))
  show (V m c main_v74 : Vec Ideal S3x128x512 .bf16) _ = (V m c main_v74 : Vec Ideal S3x128x512 .bf16) (ix3 br l j)
  exact at3 _ _ br l j (coord (index_6 t) 0 3 br.val br.val (by show 0 * 3 + _ = _; omega)) (coord (index_6 t) 1 128 l.val l.val (by show 0 * 128 + _ = _; omega))
    (coord (index_6 t) 2 512 j.val j.val (by show 0 * 512 + _ = _; omega))

/-- Window 7's block is the whole array at every point. -/
theorem index_7 : ∀ t : Fin cfg0.N, ((cfg0.win 7).index t : Fin 2 → ℕ) = ![0, 0] :=
  (by decide +kernel : ∀ t : Fin grid0.N, (win0_7.index t : Fin 2 → ℕ) = ![0, 0])

theorem block_7 (c : Dev nD) (t : Fin cfg0.N) (i : Fin 1024) (k : Fin 1024) :
    (iblk m c 7 t : Vec Ideal S1024x1024 .bf16) (ix2 i k) = (V m c main_v75 : Vec Ideal S1024x1024 .bf16) (ix2 i k) := by
  refine (View.read_apply ..).trans ?_
  show (V m c main_v75 : Vec Ideal S1024x1024 .bf16) _ = (V m c main_v75 : Vec Ideal S1024x1024 .bf16) (ix2 i k)
  exact mat_at _ _ (index_7 t) rfl rfl

/-- Window 12's block is the whole array at every point. -/
theorem index_12 : ∀ t : Fin cfg0.N, ((cfg0.win 12).index t : Fin 2 → ℕ) = ![0, 0] :=
  (by decide +kernel : ∀ t : Fin grid0.N, (win0_12.index t : Fin 2 → ℕ) = ![0, 0])

theorem block_12 (c : Dev nD) (t : Fin cfg0.N) (i : Fin 1024) (k : Fin 2816) :
    (iblk m c 12 t : Vec Ideal S1024x2816 .bf16) (ix2 i k) = (V m c main_v77 : Vec Ideal S1024x2816 .bf16) (ix2 i k) := by
  refine (View.read_apply ..).trans ?_
  show (V m c main_v77 : Vec Ideal S1024x2816 .bf16) _ = (V m c main_v77 : Vec Ideal S1024x2816 .bf16) (ix2 i k)
  exact mat_at _ _ (index_12 t) rfl rfl

/-- Window 13's block is the whole array at every point. -/
theorem index_13 : ∀ t : Fin cfg0.N, ((cfg0.win 13).index t : Fin 2 → ℕ) = ![0, 0] :=
  (by decide +kernel : ∀ t : Fin grid0.N, (win0_13.index t : Fin 2 → ℕ) = ![0, 0])

theorem block_13 (c : Dev nD) (t : Fin cfg0.N) (i : Fin 1024) (k : Fin 2816) :
    (iblk m c 13 t : Vec Ideal S1024x2816 .bf16) (ix2 i k) = (V m c main_v79 : Vec Ideal S1024x2816 .bf16) (ix2 i k) := by
  refine (View.read_apply ..).trans ?_
  show (V m c main_v79 : Vec Ideal S1024x2816 .bf16) _ = (V m c main_v79 : Vec Ideal S1024x2816 .bf16) (ix2 i k)
  exact mat_at _ _ (index_13 t) rfl rfl

/-- Window 14's block is the whole array at every point. -/
theorem index_14 : ∀ t : Fin cfg0.N, ((cfg0.win 14).index t : Fin 2 → ℕ) = ![0, 0] :=
  (by decide +kernel : ∀ t : Fin grid0.N, (win0_14.index t : Fin 2 → ℕ) = ![0, 0])

theorem block_14 (c : Dev nD) (t : Fin cfg0.N) (i : Fin 2816) (k : Fin 1024) :
    (iblk m c 14 t : Vec Ideal S2816x1024 .bf16) (ix2 i k) = (V m c main_v80 : Vec Ideal S2816x1024 .bf16) (ix2 i k) := by
  refine (View.read_apply ..).trans ?_
  show (V m c main_v80 : Vec Ideal S2816x1024 .bf16) _ = (V m c main_v80 : Vec Ideal S2816x1024 .bf16) (ix2 i k)
  exact mat_at _ _ (index_14 t) rfl rfl

/-- The matrices the host hands over, at an index. -/
theorem V_v75 (c : Dev nD) (k n : Fin 1024) :
    ((V m c main_v75 : Vec Ideal S1024x1024 .bf16) (ix2 k n) : EReal) = (m ((c : Thread nD τ).loc main_arg10) : Vec Ideal S1024x1024 .f32) (ix2 k n) := by
  have h : V m c main_v75 = (truncf (F := Ideal) .bf16 (m ((c : Thread nD τ).loc main_arg10) : FVec Ideal S1024x1024 .f32) bitsLt_bf16_f32) := by
    show StableHlo.after hostOps0 _ (Proc.devRef .tc main_v75) = _
    after_reads_simp
  refine (congrFun h _).trans ?_
  pointwise

theorem V_v77 (c : Dev nD) (k : Fin 1024) (i : Fin 2816) :
    ((V m c main_v77 : Vec Ideal S1024x2816 .bf16) (ix2 k i) : EReal) = (m ((c : Thread nD τ).loc main_arg11) : Vec Ideal S1024x5632 .f32) (ix2 k (Fin.castAdd 2816 i)) := by
  have h : V m c main_v77 = (truncf (F := Ideal) .bf16 (extractStridedSlice S1024x2816 ![0, 0] (m ((c : Thread nD τ).loc main_arg11) : FVec Ideal S1024x5632 .f32) slices_S1024x5632_S1024x2816_0_0) bitsLt_bf16_f32) := by
    show StableHlo.after hostOps0 _ (Proc.devRef .tc main_v77) = _
    after_reads_simp
  refine (congrFun h _).trans ?_
  pointwise
  rfl

theorem V_v79 (c : Dev nD) (k : Fin 1024) (i : Fin 2816) :
    ((V m c main_v79 : Vec Ideal S1024x2816 .bf16) (ix2 k i) : EReal) = (m ((c : Thread nD τ).loc main_arg11) : Vec Ideal S1024x5632 .f32) (ix2 k (Fin.natAdd 2816 i)) := by
  have h : V m c main_v79 = (truncf (F := Ideal) .bf16 (extractStridedSlice S1024x2816 ![0, 2816] (m ((c : Thread nD τ).loc main_arg11) : FVec Ideal S1024x5632 .f32) slices_S1024x5632_S1024x2816_0_2816) bitsLt_bf16_f32) := by
    show StableHlo.after hostOps0 _ (Proc.devRef .tc main_v79) = _
    after_reads_simp
  refine (congrFun h _).trans ?_
  pointwise
  rfl

theorem V_v80 (c : Dev nD) (i : Fin 2816) (n : Fin 1024) :
    ((V m c main_v80 : Vec Ideal S2816x1024 .bf16) (ix2 i n) : EReal) = (m ((c : Thread nD τ).loc main_arg12) : Vec Ideal S2816x1024 .f32) (ix2 i n) := by
  have h : V m c main_v80 = (truncf (F := Ideal) .bf16 (m ((c : Thread nD τ).loc main_arg12) : FVec Ideal S2816x1024 .f32) bitsLt_bf16_f32) := by
    show StableHlo.after hostOps0 _ (Proc.devRef .tc main_v80) = _
    after_reads_simp
  refine (congrFun h _).trans ?_
  pointwise

end Cert.Kernel3Ideal.Value

end
-- ==== Proof.MixRef.lean ====
/- The reference of layer 0's end, stage by stage, at an index. -/
module

public import proofs.«01_k».proof.Proof.MixMath
public import proofs.«01_k».proof.Proof.Gen.Reference3Ideal.Run

@[expose] public section

set_option maxRecDepth 16384

noncomputable section

namespace Cert.Reference3Ideal.Value

open Cert.Reference3Ideal Cert.Reference3Ideal.Gen Idealize.ShloMosaic Idealize.ShloMosaic.TcCoe Idealize.ShloMosaic.Pointwise Cert.Ffn

/-- The gates by head and branch. -/
def gatesS (g : FVec Ideal S4x4096x128 .f32) : FVec Ideal S4x4096x8x3 .f32 :=
  shapeCast _ (extractStridedSlice S4x4096x24 ![0, 0, 32] g slices_S4x4096x128_S4x4096x24_0_0_32) shapeCasts_S4x4096x24_S4x4096x8x3

/-- A branch's columns by head. -/
def headsS (o : FVec Ideal S4x4096x512 .bf16) : FVec Ideal S4x4096x8x64 .f32 :=
  shapeCast _ (extf .f32 o bitsLt_bf16_f32) shapeCasts_S4x4096x512_S4x4096x8x64

/-- The gated sum of the three branches. -/
def combS (g : FVec Ideal S4x4096x8x3 .f32) (a b c : FVec Ideal S4x4096x8x64 .f32) : FVec Ideal S4x4096x8x64 .f32 :=
  addf (addf (mulf (broadcastInDim S4x4096x8x64 ![0, 1, 2, 3] bcast_S4x4096x8x1_S4x4096x8x64_0_1_2_3
      (extractStridedSlice S4x4096x8x1 ![0, 0, 0, 0] g slices_S4x4096x8x3_S4x4096x8x1_0_0_0_0)) a)
    (mulf (broadcastInDim S4x4096x8x64 ![0, 1, 2, 3] bcast_S4x4096x8x1_S4x4096x8x64_0_1_2_3
      (extractStridedSlice S4x4096x8x1 ![0, 0, 0, 1] g slices_S4x4096x8x3_S4x4096x8x1_0_0_0_1)) b))
    (mulf (broadcastInDim S4x4096x8x64 ![0, 1, 2, 3] bcast_S4x4096x8x1_S4x4096x8x64_0_1_2_3
      (extractStridedSlice S4x4096x8x1 ![0, 0, 0, 2] g slices_S4x4096x8x3_S4x4096x8x1_0_0_0_2)) c)

/-- The two parts of the attention side by side. -/
def joinS (o : FVec Ideal S4x4096x512 .bf16) (x : FVec Ideal S4x4096x8x64 .f32) : FVec Ideal S4x4096x1024 .f32 :=
  concatenate S4x4096x1024 2 [⟨S4x4096x512, extf .f32 o bitsLt_bf16_f32⟩, ⟨S4x4096x512, shapeCast _ x shapeCasts_S4x4096x8x64_S4x4096x512⟩]
    concatenates_S4x4096x512_S4x4096x512_S4x4096x1024_d2

/-- The rows after the attention's output is added. -/
def mixS (y o : FVec Ideal S4x4096x1024 .f32) (gt : FVec Ideal S4x1x1024 .f32) (w : FVec Ideal S1024x1024 .f32) : FVec Ideal S4x4096x1024 .f32 :=
  addf y (mulf (broadcastInDim S4x4096x1024 ![0, 1, 2] bcast_S4x1x1024_S4x4096x1024_0_1_2 gt)
    (Host.dotGeneral (F := Ideal) dot_S4x4096x1024_S1024x1024_S4x4096x1024_2_0_01_1_n_n none o w))

/-- The rows divided by the root of their mean squares. -/
def normS (x : FVec Ideal S4x4096x1024 .f32) : FVec Ideal S4x4096x1024 .f32 :=
  mulf x (broadcastInDim S4x4096x1024 ![0, 1, 2] bcast_S4x4096x1_S4x4096x1024_0_1_2
    (Host.rsqrt (addf (Host.divf (broadcastInDim S4x4096x1 ![0, 1] bcast_S4x4096_S4x4096x1_0_1
        (Host.reduceAdd (mulf x x) (constant S_ .f32 0x00000000#32) reducesTo_S4x4096x1024_S4x4096_d2 h_S_))
      (broadcastInDim S4x4096x1 ![] bcast_S_S4x4096x1 (constant S_ .f32 0x44800000#32)))
      (broadcastInDim S4x4096x1 ![] bcast_S_S4x4096x1 (constant S_ .f32 0x358637BD#32)))))

/-- The normed rows, scaled and shifted. -/
def modS (x : FVec Ideal S4x4096x1024 .f32) (sh sc : FVec Ideal S4x1x1024 .f32) : FVec Ideal S4x4096x1024 .f32 :=
  addf (mulf (normS x) (broadcastInDim S4x4096x1024 ![0, 1, 2] bcast_S4x1x1024_S4x4096x1024_0_1_2
      (addf (broadcastInDim S4x1x1024 ![] bcast_S_S4x1x1024 (constant S_ .f32 0x3F800000#32)) sc)))
    (broadcastInDim S4x4096x1024 ![0, 1, 2] bcast_S4x1x1024_S4x4096x1024_0_1_2 sh)

/-- The gate's half through its sigmoid, times the other half. -/
def gateS (g : FVec Ideal S4x4096x5632 .f32) : FVec Ideal S4x4096x2816 .f32 :=
  mulf (mulf (extractStridedSlice S4x4096x2816 ![0, 0, 0] g slices_S4x4096x5632_S4x4096x2816_0_0_0)
    (Host.divf (broadcastInDim S4x4096x2816 ![] bcast_S_S4x4096x2816 (constant S_ .f32 0x3F800000#32))
      (addf (broadcastInDim S4x4096x2816 ![] bcast_S_S4x4096x2816 (constant S_ .f32 0x3F800000#32))
        (Host.exp (Host.negf (extractStridedSlice S4x4096x2816 ![0, 0, 0] g slices_S4x4096x5632_S4x4096x2816_0_0_0))))))
    (extractStridedSlice S4x4096x2816 ![0, 0, 2816] g slices_S4x4096x5632_S4x4096x2816_0_0_2816)

/-- The hidden layer. -/
def ffnS (h : FVec Ideal S4x4096x1024 .f32) (wi : FVec Ideal S1024x5632 .f32) (wd : FVec Ideal S2816x1024 .f32) : FVec Ideal S4x4096x1024 .f32 :=
  Host.dotGeneral (F := Ideal) dot_S4x4096x2816_S2816x1024_S4x4096x1024_2_0_01_1_n_n none
    (gateS (Host.dotGeneral (F := Ideal) dot_S4x4096x1024_S1024x5632_S4x4096x5632_2_0_01_1_n_n none h wi)) wd

/-- The rows after the hidden layer is added. -/
def sumS (x a : FVec Ideal S4x4096x1024 .f32) (fgt : FVec Ideal S4x1x1024 .f32) : FVec Ideal S4x4096x1024 .f32 :=
  addf x (mulf (broadcastInDim S4x4096x1024 ![0, 1, 2] bcast_S4x1x1024_S4x4096x1024_0_1_2 fgt) a)

/-- The rows with the attention added, from the call's arguments. -/
def attnS (y : FVec Ideal S4x4096x1024 .f32) (o a b c : FVec Ideal S4x4096x512 .bf16) (g : FVec Ideal S4x4096x128 .f32) (gt : FVec Ideal S4x1x1024 .f32)
    (w : FVec Ideal S1024x1024 .f32) : FVec Ideal S4x4096x1024 .f32 :=
  mixS y (joinS o (combS (gatesS g) (headsS a) (headsS b) (headsS c))) gt w

/-- The run's result is the stages composed. -/
theorem res_eq (m : (ℓ : Loc nD τ sig) → Buf (Elt Ideal) ℓ) (c : Dev nD) :
    res_main_v50 (F := Ideal) m c =
      let x := attnS (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg10))
      sumS x (ffnS (modS x (m ((c.tc : Thread nD τ).loc main_arg7)) (m ((c.tc : Thread nD τ).loc main_arg8)))
        (m ((c.tc : Thread nD τ).loc main_arg11)) (m ((c.tc : Thread nD τ).loc main_arg12))) (m ((c.tc : Thread nD τ).loc main_arg9)) := rfl

theorem gatesS_at (g : FVec Ideal S4x4096x128 .f32) (b : Fin 4) (t : Fin 4096) (h : Fin 8) (br : Fin 3) :
    (gatesS g (ix4 b t h br) : EReal) = g (ix3 b t (lane h br)) := by
  pointwise [gatesS]
  refine congrArg g ?_
  funext a
  match a with
  | ⟨0, _⟩ => rfl
  | ⟨1, _⟩ => rfl
  | ⟨2, _⟩ => exact Fin.ext (by show _ = 32 + 3 * h.val + br.val; simp; omega)

theorem headsS_at (o : FVec Ideal S4x4096x512 .bf16) (b : Fin 4) (t : Fin 4096) (h : Fin 8) (d : Fin 64) :
    (headsS o (ix4 b t h d) : EReal) = o (ix3 b t ⟨64 * h.val + d.val, by omega⟩) := by
  pointwise [headsS]
  refine congrArg o ?_
  funext a
  match a with
  | ⟨0, _⟩ => rfl
  | ⟨1, _⟩ => rfl
  | ⟨2, _⟩ => exact Fin.ext (by show _ = 64 * h.val + d.val; simp; omega)

theorem combS_at (g : FVec Ideal S4x4096x8x3 .f32) (a b c : FVec Ideal S4x4096x8x64 .f32) (n : Fin 4) (t : Fin 4096) (h : Fin 8) (d : Fin 64) :
    (combS g a b c (ix4 n t h d) : EReal) = g (ix4 n t h 0) * a (ix4 n t h d) + g (ix4 n t h 1) * b (ix4 n t h d) + g (ix4 n t h 2) * c (ix4 n t h d) := by
  pointwise [combS]

/-- The first half of the joined row. -/
theorem joinS_left (o : FVec Ideal S4x4096x512 .bf16) (x : FVec Ideal S4x4096x8x64 .f32) (b : Fin 4) (t : Fin 4096) (j : Fin 512) :
    (joinS o x (ix3 b t (Fin.castAdd 512 j)) : EReal) = o (ix3 b t j) := by
  pointwise [joinS]
  rw [dif_pos (show (Fin.castAdd 512 j).val < 512 from j.isLt)]
  rfl

/-- The second half of the joined row. -/
theorem joinS_right (o : FVec Ideal S4x4096x512 .bf16) (x : FVec Ideal S4x4096x8x64 .f32) (b : Fin 4) (t : Fin 4096) (j : Fin 512) :
    (joinS o x (ix3 b t (Fin.natAdd 512 j)) : EReal) = x (ix4 b t (head j) ⟨j.val % 64, by omega⟩) := by
  have e : (Fin.natAdd 512 j).val - 512 = j.val := by show 512 + j.val - 512 = j.val; omega
  pointwise [joinS]
  rw [dif_neg (show ¬ (Fin.natAdd 512 j).val < 512 from fun h => by have : 512 + j.val < 512 := h; omega)]
  refine congrArg x ?_
  funext a
  match a with
  | ⟨0, _⟩ => rfl
  | ⟨1, _⟩ => rfl
  | ⟨2, _⟩ => exact Fin.ext (congrArg (fun n => n / 64) e)
  | ⟨3, _⟩ => exact Fin.ext (congrArg (fun n => n % 64) e)

/-- The attention's row: its first part and the gated sum of its branches. -/
theorem row_at (o a b c : FVec Ideal S4x4096x512 .bf16) (g : FVec Ideal S4x4096x128 .f32) (n : Fin 4) (t : Fin 4096) :
    (fun k => (joinS o (combS (gatesS g) (headsS a) (headsS b) (headsS c)) (ix3 n t k) : EReal)) =
      joined (fun k => o (ix3 n t k)) (gatedSum (fun l => g (ix3 n t l)) (fun k => a (ix3 n t k)) (fun k => b (ix3 n t k)) (fun k => c (ix3 n t k))) := by
  have e : ∀ (x : FVec Ideal S4x4096x512 .bf16) (j : Fin 512), (x (ix3 n t ⟨64 * (head j).val + j.val % 64, by have := (head j).isLt; omega⟩) : EReal) = x (ix3 n t j) :=
    fun x j => congrArg (fun q => (x (ix3 n t q) : EReal)) (Fin.ext (by show 64 * (j.val / 64) + j.val % 64 = j.val; omega))
  funext k
  refine Fin.addCases (m := 512) (n := 512) (fun j => ?_) (fun j => ?_) k
  · exact (joinS_left _ _ n t j).trans (joined_left (fun k => (o (ix3 n t k) : EReal)) _ j).symm
  · refine (joinS_right _ _ n t j).trans (Eq.trans ?_ (joined_right _ _ j).symm)
    rw [combS_at, gatesS_at, gatesS_at, gatesS_at, headsS_at, headsS_at, headsS_at]
    exact congrArg₂ (fun p q : EReal => p + q) (congrArg₂ (fun p q : EReal => p + q) (congrArg (fun q : EReal => (g (ix3 n t (lane (head j) 0)) : EReal) * q) (e a j))
      (congrArg (fun q : EReal => (g (ix3 n t (lane (head j) 1)) : EReal) * q) (e b j))) (congrArg (fun q : EReal => (g (ix3 n t (lane (head j) 2)) : EReal) * q) (e c j))

theorem mixS_at (y o : FVec Ideal S4x4096x1024 .f32) (gt : FVec Ideal S4x1x1024 .f32) (w : FVec Ideal S1024x1024 .f32)
    (b : Fin 4) (t : Fin 4096) (j : Fin 1024) :
    (mixS y o gt w (ix3 b t j) : EReal) =
      mixed (fun k => y (ix3 b t k)) (fun k => o (ix3 b t k)) (fun k => gt (ix3 b 0 k)) (fun k n => w (ix2 k n)) j := by
  unfold mixed rowDot
  pointwise [mixS]

theorem normS_at (x : FVec Ideal S4x4096x1024 .f32) (b : Fin 4) (t : Fin 4096) (j : Fin 1024) :
    (normS x (ix3 b t j) : EReal) = rms (fun k => x (ix3 b t k)) j := by
  unfold rms width eps
  pointwise [normS]

theorem modS_at (x : FVec Ideal S4x4096x1024 .f32) (sh sc : FVec Ideal S4x1x1024 .f32) (b : Fin 4) (t : Fin 4096) (j : Fin 1024) :
    (modS x sh sc (ix3 b t j) : EReal) =
      modulated (fun k => x (ix3 b t k)) (fun k => sh (ix3 b 0 k)) (fun k => sc (ix3 b 0 k)) j := by
  unfold modulated
  rw [← normS_at, modS]
  generalize normS x = z
  pointwise

theorem gateS_at (g : FVec Ideal S4x4096x5632 .f32) (b : Fin 4) (t : Fin 4096) (i : Fin 2816) :
    (gateS g (ix3 b t i) : EReal) = act (g (ix3 b t (Fin.castAdd 2816 i))) (g (ix3 b t (Fin.natAdd 2816 i))) := by
  unfold act
  pointwise [gateS]
  rfl

theorem ffnS_at (h : FVec Ideal S4x4096x1024 .f32) (wi : FVec Ideal S1024x5632 .f32) (wd : FVec Ideal S2816x1024 .f32)
    (b : Fin 4) (t : Fin 4096) (j : Fin 1024) :
    (ffnS h wi wd (ix3 b t j) : EReal) =
      ffn (fun k => h (ix3 b t k)) (fun k (i : Fin 2816) => wi (ix2 k (Fin.castAdd 2816 i))) (fun k i => wi (ix2 k (Fin.natAdd 2816 i)))
        (fun i n => wd (ix2 i n)) j := by
  unfold ffn rowDot
  pointwise [ffnS]
  refine Finset.sum_congr rfl fun i _ => ?_
  rw [gateS_at]
  pointwise

theorem sumS_at (x a : FVec Ideal S4x4096x1024 .f32) (fgt : FVec Ideal S4x1x1024 .f32) (b : Fin 4) (t : Fin 4096) (j : Fin 1024) :
    (sumS x a fgt (ix3 b t j) : EReal) = x (ix3 b t j) + fgt (ix3 b 0 j) * a (ix3 b t j) := by
  pointwise [sumS]

/-- The reference at an index is the layer on that row. -/
theorem layerS_at (y : FVec Ideal S4x4096x1024 .f32) (o a b c : FVec Ideal S4x4096x512 .bf16) (g : FVec Ideal S4x4096x128 .f32)
    (gt sh sc fgt : FVec Ideal S4x1x1024 .f32) (w : FVec Ideal S1024x1024 .f32) (wi : FVec Ideal S1024x5632 .f32) (wd : FVec Ideal S2816x1024 .f32)
    (n : Fin 4) (t : Fin 4096) (j : Fin 1024) :
    (sumS (attnS y o a b c g gt w) (ffnS (modS (attnS y o a b c g gt w) sh sc) wi wd) fgt (ix3 n t j) : EReal) =
      mixLayer (fun k => o (ix3 n t k)) (fun k => a (ix3 n t k)) (fun k => b (ix3 n t k)) (fun k => c (ix3 n t k)) (fun k => y (ix3 n t k))
        (fun l => g (ix3 n t l)) (fun k => gt (ix3 n 0 k)) (fun k => sh (ix3 n 0 k)) (fun k => sc (ix3 n 0 k))
        (fun k => fgt (ix3 n 0 k)) (fun k n => w (ix2 k n)) (fun k (i : Fin 2816) => wi (ix2 k (Fin.castAdd 2816 i)))
        (fun k i => wi (ix2 k (Fin.natAdd 2816 i))) (fun i n => wd (ix2 i n)) j := by
  unfold attnS mixLayer summed
  simp only [sumS_at, ffnS_at, modS_at, mixS_at, row_at]

end Cert.Reference3Ideal.Value

end
-- ==== Proof.MixEqual.lean ====
/- The result of layer 0's end on the prompt, and that it is the reference's. -/
module

public import proofs.«01_k».proof.Defs
public import proofs.«01_k».proof.Proof.PreTame
public import proofs.«01_k».proof.Proof.MixBlocks
public import proofs.«01_k».proof.Proof.MixRef
public import proofs.«01_k».proof.Proof.Gen.Kernel3
public import proofs.«01_k».proof.Proof.Gen.Pre_gated
public import Idealize.ShloMosaic.Adequacy
public import Idealize.ShloMosaic.Init

@[expose] public section

set_option maxRecDepth 16384

noncomputable section

namespace Cert.Kernel3Ideal.Value

open Cert.Kernel3Ideal Cert.Kernel3Ideal.Gen Idealize.ShloMosaic Idealize.ShloMosaic.TcCoe Idealize.ShloMosaic.Pointwise Idealize.SL.Sem Cert.Ffn

variable (m : (ℓ : Loc nD τ sig) → Buf (Elt Ideal) ℓ) (ρ : Dev nD → PrngReg)

/-- The layer on token `p` of sequence `b`. -/
def entry (c : Dev nD) (b : Fin 4) (p : Fin 4096) (j : Fin 1024) : EReal :=
  mixLayer (n := 2816) (fun k => (m ((c : Thread nD τ).loc main_arg1) : Vec Ideal S4x4096x512 .bf16) (ix3 b p k))
    (fun k => (m ((c : Thread nD τ).loc main_arg2) : Vec Ideal S4x4096x512 .bf16) (ix3 b p k))
    (fun k => (m ((c : Thread nD τ).loc main_arg3) : Vec Ideal S4x4096x512 .bf16) (ix3 b p k))
    (fun k => (m ((c : Thread nD τ).loc main_arg4) : Vec Ideal S4x4096x512 .bf16) (ix3 b p k))
    (fun k => (m ((c : Thread nD τ).loc main_arg0) : Vec Ideal S4x4096x1024 .f32) (ix3 b p k))
    (fun l => (m ((c : Thread nD τ).loc main_arg5) : Vec Ideal S4x4096x128 .f32) (ix3 b p l))
    (fun k => (m ((c : Thread nD τ).loc main_arg6) : Vec Ideal S4x1x1024 .f32) (ix3 b 0 k))
    (fun k => (m ((c : Thread nD τ).loc main_arg7) : Vec Ideal S4x1x1024 .f32) (ix3 b 0 k))
    (fun k => (m ((c : Thread nD τ).loc main_arg8) : Vec Ideal S4x1x1024 .f32) (ix3 b 0 k))
    (fun k => (m ((c : Thread nD τ).loc main_arg9) : Vec Ideal S4x1x1024 .f32) (ix3 b 0 k))
    (fun k n => (m ((c : Thread nD τ).loc main_arg10) : Vec Ideal S1024x1024 .f32) (ix2 k n))
    (fun k i => (m ((c : Thread nD τ).loc main_arg11) : Vec Ideal S1024x5632 .f32) (ix2 k (Fin.castAdd 2816 i)))
    (fun k i => (m ((c : Thread nD τ).loc main_arg11) : Vec Ideal S1024x5632 .f32) (ix2 k (Fin.natAdd 2816 i)))
    (fun i n => (m ((c : Thread nD τ).loc main_arg12) : Vec Ideal S2816x1024 .f32) (ix2 i n)) j

/-- The whole result. -/
def result (c : Dev nD) : Vec Ideal S4x4096x1024 .f32 := fun i => entry m c (i 0) (i 1) (i 2)

/-- The gates of the three branches are real numbers. -/
def RealGates (c : Dev nD) : Prop :=
  ∀ (b : Fin 4) (p : Fin 4096) (h : Fin 8) (br : Fin 3), ∃ q : ℝ, @Eq EReal ((m ((c : Thread nD τ).loc main_arg5) : Vec Ideal S4x4096x128 .f32) (ix3 b p (lane h br))) q

/-- Layers of equal rows and matrices are equal. -/
theorem mixLayer_congr {n : ℕ} {o o' a a' b b' c c' : Fin 512 → EReal} {g g' : Fin 128 → EReal} {x x' gt gt' sh sh' sc sc' fgt fgt' : Fin 1024 → EReal}
    {w w' : Fin 1024 → Fin 1024 → EReal} {wg wg' wu wu' : Fin 1024 → Fin n → EReal} {wo wo' : Fin n → Fin 1024 → EReal} (j : Fin 1024)
    (eo : ∀ k, o k = o' k) (ea : ∀ k, a k = a' k) (eb : ∀ k, b k = b' k) (ec : ∀ k, c k = c' k) (ex : ∀ k, x k = x' k) (eg : ∀ k, g k = g' k)
    (egt : ∀ k, gt k = gt' k) (esh : ∀ k, sh k = sh' k) (esc : ∀ k, sc k = sc' k) (ef : ∀ k, fgt k = fgt' k) (ew : ∀ k i, w k i = w' k i)
    (ewg : ∀ k i, wg k i = wg' k i) (ewu : ∀ k i, wu k i = wu' k i) (ewo : ∀ i k, wo i k = wo' i k) :
    mixLayer o a b c x g gt sh sc fgt w wg wu wo j = mixLayer o' a' b' c' x' g' gt' sh' sc' fgt' w' wg' wu' wo' j := by
  rw [funext eo, funext ea, funext eb, funext ec, funext ex, funext eg, funext egt, funext esh, funext esc, funext ef, funext fun k => funext (ew k),
    funext fun k => funext (ewg k), funext fun k => funext (ewu k), funext fun k => funext (ewo k)]

/-- What the body leaves in the result's block at a point. -/
abbrev left (c : Dev nD) (t : Fin cfg0.N) : Vec Ideal S1x512x1024 .f32 :=
  out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- What a point leaves in its block is the layer on its tokens. -/
theorem point_at (c : Dev nD) (hr : RealGates m c) (t : Fin cfg0.N) (b : Fin 4) (p : Fin 4096) (r : Fin 512) (hb : b.val = t.val / 8)
    (hp : p.val = 512 * (t.val % 8) + r.val) (j : Fin 1024) : (left m c t (ix3 0 r j) : EReal) = entry m c b p j :=
  (out_at _ _ _ _ _ _ _ _ _ _ _ _ _ _ _ (fun br l i => (block_6 m c t br l i).trans (eg_at br l i)) r
    (fun h br => (hr b p h br).imp fun _ e => (block_5 m c t b p r hb hp (lane h br)).trans e) j).trans
  (mixLayer_congr j (block_1 m c t b p r hb hp) (block_2 m c t b p r hb hp) (block_3 m c t b p r hb hp) (block_4 m c t b p r hb hp)
    (block_0 m c t b p r hb hp) (block_5 m c t b p r hb hp) (block_8 m c t b hb) (block_9 m c t b hb) (block_10 m c t b hb) (block_11 m c t b hb)
    (fun k n => (block_7 m c t k n).trans (V_v75 m c k n)) (fun k i => (block_12 m c t k i).trans (V_v77 m c k i))
    (fun k i => (block_13 m c t k i).trans (V_v79 m c k i)) (fun i n => (block_14 m c t i n).trans (V_v80 m c i n)))

theorem index_15 : ∀ t : Fin cfg0.N, ((cfg0.win 15).index t : Fin 3 → ℕ) = ![t.val / 8, t.val % 8, 0] :=
  (by decide +kernel : ∀ t : Fin grid0.N, (win0_15.index t : Fin 3 → ℕ) = ![t.val / 8, t.val % 8, 0])

theorem points : cfg0.N = 32 := (by decide +kernel : grid0.N = 32)

/-- What a point writes back is the result's block. -/
theorem flushed_eq (c : Dev nD) (hr : RealGates m c) (t : Fin cfg0.N) :
    (dats m 0 c).flushed 15 t = ((cfg0.win 15).blk t).view.read (Elt Ideal) (result m c) := by
  have hN : t.val < 32 := Nat.lt_of_lt_of_eq t.isLt points
  have hi := index_15 t
  refine (flushed15 m c t).trans ?_
  funext jj
  refine Eq.trans ?_ (View.read_apply ..).symm
  change S1x512x1024.Idx at jj
  obtain ⟨z, r, j, rfl⟩ : ∃ (z : Fin 1) (r : Fin 512) (j : Fin 1024), jj = ix3 z r j := ⟨jj 0, jj 1, jj 2, eq_ix3 jj⟩
  obtain rfl : z = 0 := Subsingleton.elim _ _
  have h1 := r.isLt
  refine Eq.trans (b := (left m c t (ix3 0 r j) : EReal)) rfl
    ((point_at m c hr t ⟨t.val / 8, by omega⟩ ⟨512 * (t.val % 8) + r.val, by omega⟩ r rfl rfl j).trans ?_)
  show _ = entry m c _ _ _
  congr 1
  · exact Fin.ext (coord hi 0 1 0 (t.val / 8) (by show t.val / 8 * 1 + 0 = _; omega)).symm
  · exact Fin.ext (coord hi 1 512 r.val (512 * (t.val % 8) + r.val) (by show t.val % 8 * 512 + _ = _; omega)).symm
  · exact Fin.ext (coord hi 2 1024 j.val j.val (by show 0 * 1024 + _ = _; omega)).symm

/-- A coordinate lies in the block's range when it does for the block's place. -/
theorem within {n : ℕ} {i d : Fin n → ℕ} (e : i = d) (a : Fin n) (s v : ℕ) (h : d a * s ≤ v ∧ v < d a * s + s) : i a * s ≤ v ∧ v < i a * s + s := by
  rw [e]
  exact h

/-- The blocks cover the result. -/
theorem cover (i : S4x4096x1024.Idx) : ∃ t : Fin cfg0.N, (cfg0.win 15).flush t = true ∧ i ∈ ((cfg0.win 15).blk t).view.set := by
  have i0 : (i 0 : Nat) < 4 := (i 0).isLt
  have i1 : (i 1 : Nat) < 4096 := (i 1).isLt
  have i2 : (i 2 : Nat) < 1024 := (i 2).isLt
  obtain ⟨t, ht⟩ : ∃ t : Fin cfg0.N, t.val = 8 * (i 0).val + (i 1).val / 512 := ⟨⟨_, Nat.lt_of_lt_of_eq (by omega) points.symm⟩, rfl⟩
  have hi := index_15 t
  refine ⟨t, flush0_15 _, ?_⟩
  show i ∈ ((View.whole main_v81).slice ((cfg0.win 15).rect t)).set
  refine (Iff.of_eq (congrArg (i ∈ ·) (View.set_slice_whole _ _))).mpr ?_
  refine Rect.mem_set_unit.mpr fun a => ?_
  match a with
  | ⟨0, _⟩ => exact within hi 0 1 (i 0).val (by show t.val / 8 * 1 ≤ (i 0).val ∧ (i 0).val < t.val / 8 * 1 + 1; omega)
  | ⟨1, _⟩ => exact within hi 1 512 (i 1).val (by show t.val % 8 * 512 ≤ (i 1).val ∧ (i 1).val < t.val % 8 * 512 + 512; omega)
  | ⟨2, _⟩ => exact within hi 2 1024 (i 2).val (by show 0 * 1024 ≤ (i 2).val ∧ (i 2).val < 0 * 1024 + 1024; omega)

/-- The result array ends holding the layer of every token. -/
theorem final_o (c : Dev nD) (hr : RealGates m c) : (dats m 0 c).arrAt 15 cfg0.N = result m c :=
  (dats m 0 c).arrAt_eq_of_cover 15 (result m c) (fun t _ => flushed_eq m c hr t) cover

instance : Subsingleton Cert.Pre_gated.S_.Idx := ⟨fun _ _ => funext fun a => a.elim0⟩

/-- `gated` says that the gates of the three branches are real numbers. -/
theorem of_gated (h : Cert.Pre_Kernel3Ideal_gated m) (c : Dev nD) : RealGates m c := by
  intro b p hd br
  have e := congrFun (h c) (fun a => a.elim0)
  simp only [Cert.Pre_gated.fn] at e
  have e' := Host.reduce_andi_all _ _ _ _ _ e (ix3 b p ⟨3 * hd.val + br.val, by omega⟩)
  have el : ((m ((c : Thread nD τ).loc main_arg5) : Vec Ideal S4x4096x128 .f32) (ix3 b p (lane hd br)) : EReal) =
      extractStridedSlice Cert.Pre_gated.S4x4096x24 ![0, 0, 32] (m ((c : Thread nD τ).loc main_arg5) : Vec Ideal S4x4096x128 .f32) Cert.Pre_gated.Facts.slices_S4x4096x128_S4x4096x24_0_0_32
        (ix3 b p ⟨3 * hd.val + br.val, by omega⟩) := by
    pointwise
    refine congrArg _ (congrArg (ix3 b p) (Fin.ext ?_))
    show 32 + 3 * hd.val + br.val = 32 + (3 * hd.val + br.val)
    omega
  rw [el]
  exact Cert.Pages.real_of_abs _ ((congrArg (Ideal.cmp .olt _) Cert.Pages.inf_f32).symm.trans e')

end Cert.Kernel3Ideal.Value

namespace Cert.Proof

open Idealize.ShloMosaic Idealize.SL.Sem Idealize.ShloMosaic.Pointwise

variable {F : FTy → Type} [FloatOps F]

set_option maxHeartbeats 4000000 in
/-- The compiled program and the program over the extended reals have the same bodies. -/
theorem bodies3 : Cert.Kernel3.defs₀ (F := F) = Cert.Kernel3Ideal.defs₀ (F := F) := by
  unfold Cert.Kernel3.defs₀ Cert.Kernel3Ideal.defs₀
  refine congrArg Defs.onTc ?_
  funext l a
  match l, a with
  | 0, (t, s) => rfl

set_option maxHeartbeats 4000000 in
theorem defs3 : Cert.Kernel3.defs (F := F) = Cert.Kernel3Ideal.defs (F := F) := congrArg (Pipeline.defs Cert.Kernel3Ideal.pcfgs) bodies3

set_option maxHeartbeats 4000000 in
/-- Layer 0's end runs; its arguments and the counters end as they began. -/
theorem frame_kernel3 : Cert.quiescent_Kernel3 := fun m ρ _ => by
  rw [defs3]
  exact Cert.Kernel3Ideal.Gen.frame m ρ

/-- So it does over the extended reals. -/
theorem frame_ideal3 : Cert.quiescent_Kernel3Ideal := fun m ρ _ => Cert.Kernel3Ideal.Gen.frame m ρ
theorem frame_ideal3_gated : Cert.quiescent_Kernel3Ideal_pre_gated := fun m ρ _ => Cert.Kernel3Ideal.Gen.frame m ρ

/-- The reference runs, its arguments unchanged; it has no semaphore. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem frame_reference3_gated : Cert.quiescent_Reference3Ideal_pre_gated := fun m ρ _ => frame_reference3 m ρ trivial

/-- The layer and its reference end with the same result when the gates are finite. -/
theorem algebraic3 : Cert.algebraic_Kernel3Ideal_Reference3Ideal_pre_gated := fun m g m' g' hpre hm => by
  refine ⟨fun c => Cert.Kernel3Ideal.Value.result m c, ?_, ?_⟩
  · exact (θ_run Cert.Kernel3Ideal.defs _ _).mono
      (fun r hr c => ⟨(hr c).1.trans (Cert.Kernel3Ideal.Value.final_o m c (Cert.Kernel3Ideal.Value.of_gated m hpre c)), (hr c).2⟩)
      (Cert.Kernel3Ideal.Gen.run_blocks m g)
  · refine (θ_run Cert.Reference3Ideal.defs _ _).mono (fun r hr c => ⟨(hr c).1.trans ?_, (hr c).2⟩) (Cert.Reference3Ideal.Value.run (F := Ideal) m' g')
    obtain ⟨h0, h1, h2, h3, h4, h5, h6, h7, h8, h9, h10, h11, h12⟩ := hm c
    refine (Cert.Reference3Ideal.Value.res_eq m' c).trans (funext fun i => ?_)
    obtain ⟨b, p, j, rfl⟩ : ∃ (b : Fin 4) (p : Fin 4096) (j : Fin 1024), i = ix3 b p j := ⟨i 0, i 1, i 2, eq_ix3 i⟩
    refine (Cert.Reference3Ideal.Value.layerS_at _ _ _ _ _ _ _ _ _ _ _ _ _ b p j).trans ?_
    exact Cert.Kernel3Ideal.Value.mixLayer_congr j (fun k => congrFun h1 _) (fun k => congrFun h2 _) (fun k => congrFun h3 _) (fun k => congrFun h4 _)
      (fun k => congrFun h0 _) (fun k => congrFun h5 _) (fun k => congrFun h6 _) (fun k => congrFun h7 _) (fun k => congrFun h8 _)
      (fun k => congrFun h9 _) (fun k n => congrFun h10 _) (fun k n => congrFun h11 _) (fun k n => congrFun h11 _) (fun k n => congrFun h12 _)

end Cert.Proof

end
-- ==== Proof.lean ====
/- The proof of the claim: the frames, the named constant and the equalities. -/
module

public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Pre_gated
public import proofs.«01_k».proof.Defs
public import proofs.«01_k».proof.Proof.Frames
public import proofs.«01_k».proof.Proof.Equal
public import proofs.«01_k».proof.Proof.FfnEqual
public import proofs.«01_k».proof.Proof.MixEqual
public import proofs.«01_k».proof.Proof.Gen.ReferenceIdeal.Run
public import proofs.«01_k».proof.Proof.Gen.Pre_tame
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Pre_pages.Gen.facts, Cert.Pre_tame.Gen.facts, Cert.Pre_gated.Gen.facts,
  frame_kernel, frame_ideal, frame_ideal_tame, frame_reference, frame_reference_tame, frame_kernel2, frame_ideal2, frame_reference2,
  frame_kernel3, frame_ideal3, frame_ideal3_gated, frame_reference3, frame_reference3_gated,
  mask, algebraic, trivial, algebraic2, trivial, algebraic3⟩

end Cert.Proof

end
